-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_values_and_lambdas_finite [hPre_values_and_lambdas_finite : Cert.Pre_values_and_lambdas_finite.Facts] (m : (ℓ : Loc Cert.AttnIdeal.nD Cert.AttnIdeal.τ Cert.AttnIdeal.sig) → Buf (Elt Ideal) ℓ) : Prop :=
  ∀ c : Dev Cert.AttnIdeal.nD,
    (Cert.Pre_values_and_lambdas_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).1 = (fun _ => 1#1)
    ∧ (Cert.Pre_values_and_lambdas_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.1 = (fun _ => 1#1)
    ∧ (Cert.Pre_values_and_lambdas_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.2.1 = (fun _ => 1#1)
    ∧ (Cert.Pre_values_and_lambdas_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.2.2.1 = (fun _ => 1#1)
    ∧ (Cert.Pre_values_and_lambdas_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_values_and_lambdas_finite [hPre_values_and_lambdas_finite : Cert.Pre_values_and_lambdas_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_values_and_lambdas_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).1 = (fun _ => 1#1)
    ∧ (Cert.Pre_values_and_lambdas_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).2.1 = (fun _ => 1#1)
    ∧ (Cert.Pre_values_and_lambdas_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).2.2.1 = (fun _ => 1#1)
    ∧ (Cert.Pre_values_and_lambdas_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).2.2.2.1 = (fun _ => 1#1)
    ∧ (Cert.Pre_values_and_lambdas_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).2.2.2.2 = (fun _ => 1#1)

def Pre_Experts [hPre_experts_in_range : Cert.Pre_experts_in_range.Facts] (m : (ℓ : Loc Cert.Experts.nD Cert.Experts.τ Cert.Experts.sig) → Buf (Elt Bits) ℓ) : Prop :=
  ∀ c : Dev Cert.Experts.nD,
    (Cert.Pre_experts_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7)) (m ((c.tc : Thread Cert.Experts.nD Cert.Experts.τ).loc Cert.Experts.main_arg8))).1 = (fun _ => 1#1)
    ∧ (Cert.Pre_experts_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7)) (m ((c.tc : Thread Cert.Experts.nD Cert.Experts.τ).loc Cert.Experts.main_arg8))).2 = (fun _ => 1#1)

def Pre_ExpertsIdeal [hPre_experts_in_range : Cert.Pre_experts_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8))).1 = (fun _ => 1#1)
    ∧ (Cert.Pre_experts_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8))).2 = (fun _ => 1#1)

def Pre_ExpertsRefIdeal [hPre_experts_in_range : Cert.Pre_experts_in_range.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_experts_in_range.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6)) (m ((c.tc : Thread Cert.ExpertsRefIdeal.nD Cert.ExpertsRefIdeal.τ).loc Cert.ExpertsRefIdeal.main_arg7)) (m ((c.tc : Thread Cert.ExpertsRefIdeal.nD Cert.ExpertsRefIdeal.τ).loc Cert.ExpertsRefIdeal.main_arg8))).1 = (fun _ => 1#1)
    ∧ (Cert.Pre_experts_in_range.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6)) (m ((c.tc : Thread Cert.ExpertsRefIdeal.nD Cert.ExpertsRefIdeal.τ).loc Cert.ExpertsRefIdeal.main_arg7)) (m ((c.tc : Thread Cert.ExpertsRefIdeal.nD Cert.ExpertsRefIdeal.τ).loc Cert.ExpertsRefIdeal.main_arg8))).2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_KvProj (m : (ℓ : Loc Cert.KvProj.nD Cert.KvProj.τ Cert.KvProj.sig) → Buf (Elt Bits) ℓ) : Prop :=
  True

def Pre_KvProjIdeal (m : (ℓ : Loc Cert.KvProjIdeal.nD Cert.KvProjIdeal.τ Cert.KvProjIdeal.sig) → Buf (Elt Ideal) ℓ) : Prop :=
  True

def Pre_KvProjRefIdeal (m : (ℓ : Loc Cert.KvProjRefIdeal.nD Cert.KvProjRefIdeal.τ Cert.KvProjRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_Split (m : (ℓ : Loc Cert.Split.nD Cert.Split.τ Cert.Split.sig) → Buf (Elt Bits) ℓ) : Prop :=
  True

def Pre_SplitIdeal (m : (ℓ : Loc Cert.SplitIdeal.nD Cert.SplitIdeal.τ Cert.SplitIdeal.sig) → Buf (Elt Ideal) ℓ) : Prop :=
  True

def Pre_SplitRefIdeal (m : (ℓ : Loc Cert.SplitRefIdeal.nD Cert.SplitRefIdeal.τ Cert.SplitRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnIdeal_pre_values_and_lambdas_finite [hAttnIdeal : Cert.AttnIdeal.Facts] [hPre_values_and_lambdas_finite : Cert.Pre_values_and_lambdas_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_values_and_lambdas_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_AttnRefIdeal_pre_values_and_lambdas_finite [hAttnRefIdeal : Cert.AttnRefIdeal.Facts] [hPre_values_and_lambdas_finite : Cert.Pre_values_and_lambdas_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_values_and_lambdas_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_Experts [hExperts : Cert.Experts.Facts] [hPre_experts_in_range : Cert.Pre_experts_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7)
      ∧ r.2.mem ((c.tc : Thread Cert.Experts.nD Cert.Experts.τ).loc Cert.Experts.main_arg8) = m ((c.tc : Thread Cert.Experts.nD Cert.Experts.τ).loc Cert.Experts.main_arg8))
      ∧ r.2.sem = fun _ => 0)

def quiescent_ExpertsIdeal [hExpertsIdeal : Cert.ExpertsIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ r.2.sem = fun _ => 0)

def quiescent_ExpertsRefIdeal [hExpertsRefIdeal : Cert.ExpertsRefIdeal.Facts] [hPre_experts_in_range : Cert.Pre_experts_in_range.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6)
      ∧ r.2.mem ((c.tc : Thread Cert.ExpertsRefIdeal.nD Cert.ExpertsRefIdeal.τ).loc Cert.ExpertsRefIdeal.main_arg7) = m ((c.tc : Thread Cert.ExpertsRefIdeal.nD Cert.ExpertsRefIdeal.τ).loc Cert.ExpertsRefIdeal.main_arg7)
      ∧ r.2.mem ((c.tc : Thread Cert.ExpertsRefIdeal.nD Cert.ExpertsRefIdeal.τ).loc Cert.ExpertsRefIdeal.main_arg8) = m ((c.tc : Thread Cert.ExpertsRefIdeal.nD Cert.ExpertsRefIdeal.τ).loc Cert.ExpertsRefIdeal.main_arg8))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_KvProj [hKvProj : Cert.KvProj.Facts] : Prop :=
  ∀ (m : (ℓ : Loc Cert.KvProj.nD Cert.KvProj.τ Cert.KvProj.sig) → Buf (Elt Bits) ℓ) (g : Dev Cert.KvProj.nD → PrngReg), Pre_KvProj m →
    θ_run (Cert.KvProj.defs (F := Bits)) (onTc (τ := Cert.KvProj.τ) (Cert.KvProj.main (F := Bits))) ⟨m, fun _ => 0, g⟩ (fun r => (∀ c : Dev Cert.KvProj.nD,
      r.2.mem ((c.tc : Thread Cert.KvProj.nD Cert.KvProj.τ).loc Cert.KvProj.main_arg0) = m ((c.tc : Thread Cert.KvProj.nD Cert.KvProj.τ).loc Cert.KvProj.main_arg0)
      ∧ r.2.mem ((c.tc : Thread Cert.KvProj.nD Cert.KvProj.τ).loc Cert.KvProj.main_arg1) = m ((c.tc : Thread Cert.KvProj.nD Cert.KvProj.τ).loc Cert.KvProj.main_arg1)
      ∧ r.2.mem ((c.tc : Thread Cert.KvProj.nD Cert.KvProj.τ).loc Cert.KvProj.main_arg2) = m ((c.tc : Thread Cert.KvProj.nD Cert.KvProj.τ).loc Cert.KvProj.main_arg2))
      ∧ r.2.sem = fun _ => 0)

def quiescent_KvProjIdeal [hKvProjIdeal : Cert.KvProjIdeal.Facts] : Prop :=
  ∀ (m : (ℓ : Loc Cert.KvProjIdeal.nD Cert.KvProjIdeal.τ Cert.KvProjIdeal.sig) → Buf (Elt Ideal) ℓ) (g : Dev Cert.KvProjIdeal.nD → PrngReg), Pre_KvProjIdeal m →
    θ_run (Cert.KvProjIdeal.defs (F := Ideal)) (onTc (τ := Cert.KvProjIdeal.τ) (Cert.KvProjIdeal.main (F := Ideal))) ⟨m, fun _ => 0, g⟩ (fun r => (∀ c : Dev Cert.KvProjIdeal.nD,
      r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
      ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1)
      ∧ r.2.mem ((c.tc : Thread Cert.KvProjIdeal.nD Cert.KvProjIdeal.τ).loc Cert.KvProjIdeal.main_arg2) = m ((c.tc : Thread Cert.KvProjIdeal.nD Cert.KvProjIdeal.τ).loc Cert.KvProjIdeal.main_arg2))
      ∧ r.2.sem = fun _ => 0)

def quiescent_KvProjRefIdeal [hKvProjRefIdeal : Cert.KvProjRefIdeal.Facts] : Prop :=
  ∀ (m : (ℓ : Loc Cert.KvProjRefIdeal.nD Cert.KvProjRefIdeal.τ Cert.KvProjRefIdeal.sig) → Buf (Elt Ideal) ℓ) (g : Dev Cert.KvProjRefIdeal.nD → PrngReg), Pre_KvProjRefIdeal m →
    θ_run (Cert.KvProjRefIdeal.defs (F := Ideal)) (onTc (τ := Cert.KvProjRefIdeal.τ) (Cert.KvProjRefIdeal.main (F := Ideal))) ⟨m, fun _ => 0, g⟩ (fun r => (∀ c : Dev Cert.KvProjRefIdeal.nD,
      r.2.mem ((c.tc : Thread Cert.KvProjRefIdeal.nD Cert.KvProjRefIdeal.τ).loc Cert.KvProjRefIdeal.main_arg0) = m ((c.tc : Thread Cert.KvProjRefIdeal.nD Cert.KvProjRefIdeal.τ).loc Cert.KvProjRefIdeal.main_arg0)
      ∧ r.2.mem ((c.tc : Thread Cert.KvProjRefIdeal.nD Cert.KvProjRefIdeal.τ).loc Cert.KvProjRefIdeal.main_arg1) = m ((c.tc : Thread Cert.KvProjRefIdeal.nD Cert.KvProjRefIdeal.τ).loc Cert.KvProjRefIdeal.main_arg1)
      ∧ r.2.mem ((c.tc : Thread Cert.KvProjRefIdeal.nD Cert.KvProjRefIdeal.τ).loc Cert.KvProjRefIdeal.main_arg2) = m ((c.tc : Thread Cert.KvProjRefIdeal.nD Cert.KvProjRefIdeal.τ).loc Cert.KvProjRefIdeal.main_arg2))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10)
      ∧ r.2.mem ((c.tc : Thread Cert.Post.nD Cert.Post.τ).loc Cert.Post.main_arg11) = m ((c.tc : Thread Cert.Post.nD Cert.Post.τ).loc Cert.Post.main_arg11)
      ∧ r.2.mem ((c.tc : Thread Cert.Post.nD Cert.Post.τ).loc Cert.Post.main_arg12) = m ((c.tc : Thread Cert.Post.nD Cert.Post.τ).loc Cert.Post.main_arg12))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
      ∧ r.2.mem ((c.tc : Thread Cert.PostIdeal.nD Cert.PostIdeal.τ).loc Cert.PostIdeal.main_arg12) = m ((c.tc : Thread Cert.PostIdeal.nD Cert.PostIdeal.τ).loc Cert.PostIdeal.main_arg12))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10)
      ∧ r.2.mem ((c.tc : Thread Cert.PostRefIdeal.nD Cert.PostRefIdeal.τ).loc Cert.PostRefIdeal.main_arg11) = m ((c.tc : Thread Cert.PostRefIdeal.nD Cert.PostRefIdeal.τ).loc Cert.PostRefIdeal.main_arg11)
      ∧ r.2.mem ((c.tc : Thread Cert.PostRefIdeal.nD Cert.PostRefIdeal.τ).loc Cert.PostRefIdeal.main_arg12) = m ((c.tc : Thread Cert.PostRefIdeal.nD Cert.PostRefIdeal.τ).loc Cert.PostRefIdeal.main_arg12))
      ∧ r.2.sem = fun _ => 0)

def quiescent_Split [hSplit : Cert.Split.Facts] : Prop :=
  ∀ (m : (ℓ : Loc Cert.Split.nD Cert.Split.τ Cert.Split.sig) → Buf (Elt Bits) ℓ) (g : Dev Cert.Split.nD → PrngReg), Pre_Split m →
    θ_run (Cert.Split.defs (F := Bits)) (onTc (τ := Cert.Split.τ) (Cert.Split.main (F := Bits))) ⟨m, fun _ => 0, g⟩ (fun r => (∀ c : Dev Cert.Split.nD,
      r.2.mem ((c.tc : Thread Cert.Split.nD Cert.Split.τ).loc Cert.Split.main_arg0) = m ((c.tc : Thread Cert.Split.nD Cert.Split.τ).loc Cert.Split.main_arg0))
      ∧ r.2.sem = fun _ => 0)

def quiescent_SplitIdeal [hSplitIdeal : Cert.SplitIdeal.Facts] : Prop :=
  ∀ (m : (ℓ : Loc Cert.SplitIdeal.nD Cert.SplitIdeal.τ Cert.SplitIdeal.sig) → Buf (Elt Ideal) ℓ) (g : Dev Cert.SplitIdeal.nD → PrngReg), Pre_SplitIdeal m →
    θ_run (Cert.SplitIdeal.defs (F := Ideal)) (onTc (τ := Cert.SplitIdeal.τ) (Cert.SplitIdeal.main (F := Ideal))) ⟨m, fun _ => 0, g⟩ (fun r => (∀ c : Dev Cert.SplitIdeal.nD,
      r.2.mem ((c.tc : Thread Cert.SplitIdeal.nD Cert.SplitIdeal.τ).loc Cert.SplitIdeal.main_arg0) = m ((c.tc : Thread Cert.SplitIdeal.nD Cert.SplitIdeal.τ).loc Cert.SplitIdeal.main_arg0))
      ∧ r.2.sem = fun _ => 0)

def quiescent_SplitRefIdeal [hSplitRefIdeal : Cert.SplitRefIdeal.Facts] : Prop :=
  ∀ (m : (ℓ : Loc Cert.SplitRefIdeal.nD Cert.SplitRefIdeal.τ Cert.SplitRefIdeal.sig) → Buf (Elt Ideal) ℓ) (g : Dev Cert.SplitRefIdeal.nD → PrngReg), Pre_SplitRefIdeal m →
    θ_run (Cert.SplitRefIdeal.defs (F := Ideal)) (onTc (τ := Cert.SplitRefIdeal.τ) (Cert.SplitRefIdeal.main (F := Ideal))) ⟨m, fun _ => 0, g⟩ (fun r => (∀ c : Dev Cert.SplitRefIdeal.nD,
      r.2.mem ((c.tc : Thread Cert.SplitRefIdeal.nD Cert.SplitRefIdeal.τ).loc Cert.SplitRefIdeal.main_arg0) = m ((c.tc : Thread Cert.SplitRefIdeal.nD Cert.SplitRefIdeal.τ).loc Cert.SplitRefIdeal.main_arg0))
      ∧ r.2.sem = fun _ => 0)

def preserves_Attn_AttnIdeal : Prop :=
  True

def algebraic_AttnIdeal_AttnRefIdeal_pre_values_and_lambdas_finite [hAttnIdeal : Cert.AttnIdeal.Facts] [hAttnRefIdeal : Cert.AttnRefIdeal.Facts] [hPre_values_and_lambdas_finite : Cert.Pre_values_and_lambdas_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_values_and_lambdas_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v85) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7))

def preserves_Experts_ExpertsIdeal : Prop :=
  True

def algebraic_ExpertsIdeal_ExpertsRefIdeal [hExpertsIdeal : Cert.ExpertsIdeal.Facts] [hExpertsRefIdeal : Cert.ExpertsRefIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)
      ∧ m' ((c.tc : Thread Cert.ExpertsRefIdeal.nD Cert.ExpertsRefIdeal.τ).loc Cert.ExpertsRefIdeal.main_arg7) = m ((c.tc : Thread Cert.ExpertsIdeal.nD Cert.ExpertsIdeal.τ).loc Cert.ExpertsIdeal.main_arg7)
      ∧ m' ((c.tc : Thread Cert.ExpertsRefIdeal.nD Cert.ExpertsRefIdeal.τ).loc Cert.ExpertsRefIdeal.main_arg8) = m ((c.tc : Thread Cert.ExpertsIdeal.nD Cert.ExpertsIdeal.τ).loc Cert.ExpertsIdeal.main_arg8)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
          ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v40) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6)
          ∧ r.2.mem ((c.tc : Thread Cert.ExpertsRefIdeal.nD Cert.ExpertsRefIdeal.τ).loc Cert.ExpertsRefIdeal.main_arg7) = m' ((c.tc : Thread Cert.ExpertsRefIdeal.nD Cert.ExpertsRefIdeal.τ).loc Cert.ExpertsRefIdeal.main_arg7)
          ∧ r.2.mem ((c.tc : Thread Cert.ExpertsRefIdeal.nD Cert.ExpertsRefIdeal.τ).loc Cert.ExpertsRefIdeal.main_arg8) = m' ((c.tc : Thread Cert.ExpertsRefIdeal.nD Cert.ExpertsRefIdeal.τ).loc Cert.ExpertsRefIdeal.main_arg8))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)) (v2 : (c : Dev Cert.InProjIdeal.nD) → Buf (Elt Ideal) ((c.tc : Thread Cert.InProjIdeal.nD Cert.InProjIdeal.τ).loc Cert.InProjIdeal.main_v0_2)) (v3 : (c : Dev Cert.InProjIdeal.nD) → Buf (Elt Ideal) ((c.tc : Thread Cert.InProjIdeal.nD Cert.InProjIdeal.τ).loc Cert.InProjIdeal.main_v0_3)) (v4 : (c : Dev Cert.InProjIdeal.nD) → Buf (Elt Ideal) ((c.tc : Thread Cert.InProjIdeal.nD Cert.InProjIdeal.τ).loc Cert.InProjIdeal.main_v0_4)) (v5 : (c : Dev Cert.InProjIdeal.nD) → Buf (Elt Ideal) ((c.tc : Thread Cert.InProjIdeal.nD Cert.InProjIdeal.τ).loc Cert.InProjIdeal.main_v0_5)) (v6 : (c : Dev Cert.InProjIdeal.nD) → Buf (Elt Ideal) ((c.tc : Thread Cert.InProjIdeal.nD Cert.InProjIdeal.τ).loc Cert.InProjIdeal.main_v0_6)) (v7 : (c : Dev Cert.InProjIdeal.nD) → Buf (Elt Ideal) ((c.tc : Thread Cert.InProjIdeal.nD Cert.InProjIdeal.τ).loc Cert.InProjIdeal.main_v0_7)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_v0_2) = v2 c
          ∧ r.2.mem ((c.tc : Thread Cert.InProjIdeal.nD Cert.InProjIdeal.τ).loc Cert.InProjIdeal.main_v0_3) = v3 c
          ∧ r.2.mem ((c.tc : Thread Cert.InProjIdeal.nD Cert.InProjIdeal.τ).loc Cert.InProjIdeal.main_v0_4) = v4 c
          ∧ r.2.mem ((c.tc : Thread Cert.InProjIdeal.nD Cert.InProjIdeal.τ).loc Cert.InProjIdeal.main_v0_5) = v5 c
          ∧ r.2.mem ((c.tc : Thread Cert.InProjIdeal.nD Cert.InProjIdeal.τ).loc Cert.InProjIdeal.main_v0_6) = v6 c
          ∧ r.2.mem ((c.tc : Thread Cert.InProjIdeal.nD Cert.InProjIdeal.τ).loc Cert.InProjIdeal.main_v0_7) = v7 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v20) = v0 c
          ∧ r.2.mem ((c.tc : Thread Cert.InProjRefIdeal.nD Cert.InProjRefIdeal.τ).loc Cert.InProjRefIdeal.main_v21) = v1 c
          ∧ r.2.mem ((c.tc : Thread Cert.InProjRefIdeal.nD Cert.InProjRefIdeal.τ).loc Cert.InProjRefIdeal.main_v22) = v2 c
          ∧ r.2.mem ((c.tc : Thread Cert.InProjRefIdeal.nD Cert.InProjRefIdeal.τ).loc Cert.InProjRefIdeal.main_v17) = v3 c
          ∧ r.2.mem ((c.tc : Thread Cert.InProjRefIdeal.nD Cert.InProjRefIdeal.τ).loc Cert.InProjRefIdeal.main_v23) = v4 c
          ∧ r.2.mem ((c.tc : Thread Cert.InProjRefIdeal.nD Cert.InProjRefIdeal.τ).loc Cert.InProjRefIdeal.main_v19) = v5 c
          ∧ r.2.mem ((c.tc : Thread Cert.InProjRefIdeal.nD Cert.InProjRefIdeal.τ).loc Cert.InProjRefIdeal.main_v25) = v6 c
          ∧ r.2.mem ((c.tc : Thread Cert.InProjRefIdeal.nD Cert.InProjRefIdeal.τ).loc Cert.InProjRefIdeal.main_v27) = v7 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4))

def preserves_KvProj_KvProjIdeal : Prop :=
  True

def algebraic_KvProjIdeal_KvProjRefIdeal [hKvProjIdeal : Cert.KvProjIdeal.Facts] [hKvProjRefIdeal : Cert.KvProjRefIdeal.Facts] : Prop :=
  ∀ (m : (ℓ : Loc Cert.KvProjIdeal.nD Cert.KvProjIdeal.τ Cert.KvProjIdeal.sig) → Buf (Elt Ideal) ℓ) (g : Dev Cert.KvProjIdeal.nD → PrngReg)
    (m' : (ℓ : Loc Cert.KvProjRefIdeal.nD Cert.KvProjRefIdeal.τ Cert.KvProjRefIdeal.sig) → Buf (Elt Ideal) ℓ) (g' : Dev Cert.KvProjRefIdeal.nD → PrngReg), Pre_KvProjIdeal m →
    (∀ c : Dev Cert.KvProjIdeal.nD,
      m' ((c.tc : Thread Cert.KvProjRefIdeal.nD Cert.KvProjRefIdeal.τ).loc Cert.KvProjRefIdeal.main_arg0) = m ((c.tc : Thread Cert.KvProjIdeal.nD Cert.KvProjIdeal.τ).loc Cert.KvProjIdeal.main_arg0)
      ∧ m' ((c.tc : Thread Cert.KvProjRefIdeal.nD Cert.KvProjRefIdeal.τ).loc Cert.KvProjRefIdeal.main_arg1) = m ((c.tc : Thread Cert.KvProjIdeal.nD Cert.KvProjIdeal.τ).loc Cert.KvProjIdeal.main_arg1)
      ∧ m' ((c.tc : Thread Cert.KvProjRefIdeal.nD Cert.KvProjRefIdeal.τ).loc Cert.KvProjRefIdeal.main_arg2) = m ((c.tc : Thread Cert.KvProjIdeal.nD Cert.KvProjIdeal.τ).loc Cert.KvProjIdeal.main_arg2)) →
    ∃ (v0 : (c : Dev Cert.KvProjIdeal.nD) → Buf (Elt Ideal) ((c.tc : Thread Cert.KvProjIdeal.nD Cert.KvProjIdeal.τ).loc Cert.KvProjIdeal.main_v0_0)) (v1 : (c : Dev Cert.KvProjIdeal.nD) → Buf (Elt Ideal) ((c.tc : Thread Cert.KvProjIdeal.nD Cert.KvProjIdeal.τ).loc Cert.KvProjIdeal.main_v0_1)),
      θ_run (Cert.KvProjIdeal.defs (F := Ideal)) (onTc (τ := Cert.KvProjIdeal.τ) (Cert.KvProjIdeal.main (F := Ideal))) ⟨m, fun _ => 0, g⟩ (fun r => ∀ c : Dev Cert.KvProjIdeal.nD,
          r.2.mem ((c.tc : Thread Cert.KvProjIdeal.nD Cert.KvProjIdeal.τ).loc Cert.KvProjIdeal.main_v0_0) = v0 c
          ∧ r.2.mem ((c.tc : Thread Cert.KvProjIdeal.nD Cert.KvProjIdeal.τ).loc Cert.KvProjIdeal.main_v0_1) = v1 c
          ∧ r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
          ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1)
          ∧ r.2.mem ((c.tc : Thread Cert.KvProjIdeal.nD Cert.KvProjIdeal.τ).loc Cert.KvProjIdeal.main_arg2) = m ((c.tc : Thread Cert.KvProjIdeal.nD Cert.KvProjIdeal.τ).loc Cert.KvProjIdeal.main_arg2))
      ∧ θ_run (Cert.KvProjRefIdeal.defs (F := Ideal)) (onTc (τ := Cert.KvProjRefIdeal.τ) (Cert.KvProjRefIdeal.main (F := Ideal))) ⟨m', fun _ => 0, g'⟩ (fun r => ∀ c : Dev Cert.KvProjRefIdeal.nD,
          r.2.mem ((c.tc : Thread Cert.KvProjRefIdeal.nD Cert.KvProjRefIdeal.τ).loc Cert.KvProjRefIdeal.main_v17) = v0 c
          ∧ r.2.mem ((c.tc : Thread Cert.KvProjRefIdeal.nD Cert.KvProjRefIdeal.τ).loc Cert.KvProjRefIdeal.main_v18) = v1 c
          ∧ r.2.mem ((c.tc : Thread Cert.KvProjRefIdeal.nD Cert.KvProjRefIdeal.τ).loc Cert.KvProjRefIdeal.main_arg0) = m' ((c.tc : Thread Cert.KvProjRefIdeal.nD Cert.KvProjRefIdeal.τ).loc Cert.KvProjRefIdeal.main_arg0)
          ∧ r.2.mem ((c.tc : Thread Cert.KvProjRefIdeal.nD Cert.KvProjRefIdeal.τ).loc Cert.KvProjRefIdeal.main_arg1) = m' ((c.tc : Thread Cert.KvProjRefIdeal.nD Cert.KvProjRefIdeal.τ).loc Cert.KvProjRefIdeal.main_arg1)
          ∧ r.2.mem ((c.tc : Thread Cert.KvProjRefIdeal.nD Cert.KvProjRefIdeal.τ).loc Cert.KvProjRefIdeal.main_arg2) = m' ((c.tc : Thread Cert.KvProjRefIdeal.nD Cert.KvProjRefIdeal.τ).loc Cert.KvProjRefIdeal.main_arg2))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)
      ∧ m' ((c.tc : Thread Cert.PostRefIdeal.nD Cert.PostRefIdeal.τ).loc Cert.PostRefIdeal.main_arg10) = m ((c.tc : Thread Cert.PostIdeal.nD Cert.PostIdeal.τ).loc Cert.PostIdeal.main_arg10)
      ∧ m' ((c.tc : Thread Cert.PostRefIdeal.nD Cert.PostRefIdeal.τ).loc Cert.PostRefIdeal.main_arg11) = m ((c.tc : Thread Cert.PostIdeal.nD Cert.PostIdeal.τ).loc Cert.PostIdeal.main_arg11)
      ∧ m' ((c.tc : Thread Cert.PostRefIdeal.nD Cert.PostRefIdeal.τ).loc Cert.PostRefIdeal.main_arg12) = m ((c.tc : Thread Cert.PostIdeal.nD Cert.PostIdeal.τ).loc Cert.PostIdeal.main_arg12)) →
    ∃ (v0 : (c : Dev Cert.PostIdeal.nD) → Buf (Elt Ideal) ((c.tc : Thread Cert.PostIdeal.nD Cert.PostIdeal.τ).loc Cert.PostIdeal.main_v0_0)) (v1 : (c : Dev Cert.PostIdeal.nD) → Buf (Elt Ideal) ((c.tc : Thread Cert.PostIdeal.nD Cert.PostIdeal.τ).loc Cert.PostIdeal.main_v0_1)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v0_0) = v0 c
          ∧ r.2.mem ((c.tc : Thread Cert.PostIdeal.nD Cert.PostIdeal.τ).loc Cert.PostIdeal.main_v0_1) = v1 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
          ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
          ∧ r.2.mem ((c.tc : Thread Cert.PostIdeal.nD Cert.PostIdeal.τ).loc Cert.PostIdeal.main_arg12) = m ((c.tc : Thread Cert.PostIdeal.nD Cert.PostIdeal.τ).loc Cert.PostIdeal.main_arg12))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v47) = v0 c
          ∧ r.2.mem ((c.tc : Thread Cert.PostRefIdeal.nD Cert.PostRefIdeal.τ).loc Cert.PostRefIdeal.main_v61) = v1 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9)
          ∧ r.2.mem ((c.tc : Thread Cert.PostRefIdeal.nD Cert.PostRefIdeal.τ).loc Cert.PostRefIdeal.main_arg10) = m' ((c.tc : Thread Cert.PostRefIdeal.nD Cert.PostRefIdeal.τ).loc Cert.PostRefIdeal.main_arg10)
          ∧ r.2.mem ((c.tc : Thread Cert.PostRefIdeal.nD Cert.PostRefIdeal.τ).loc Cert.PostRefIdeal.main_arg11) = m' ((c.tc : Thread Cert.PostRefIdeal.nD Cert.PostRefIdeal.τ).loc Cert.PostRefIdeal.main_arg11)
          ∧ r.2.mem ((c.tc : Thread Cert.PostRefIdeal.nD Cert.PostRefIdeal.τ).loc Cert.PostRefIdeal.main_arg12) = m' ((c.tc : Thread Cert.PostRefIdeal.nD Cert.PostRefIdeal.τ).loc Cert.PostRefIdeal.main_arg12))

def preserves_Split_SplitIdeal : Prop :=
  True

def algebraic_SplitIdeal_SplitRefIdeal [hSplitIdeal : Cert.SplitIdeal.Facts] [hSplitRefIdeal : Cert.SplitRefIdeal.Facts] : Prop :=
  ∀ (m : (ℓ : Loc Cert.SplitIdeal.nD Cert.SplitIdeal.τ Cert.SplitIdeal.sig) → Buf (Elt Ideal) ℓ) (g : Dev Cert.SplitIdeal.nD → PrngReg)
    (m' : (ℓ : Loc Cert.SplitRefIdeal.nD Cert.SplitRefIdeal.τ Cert.SplitRefIdeal.sig) → Buf (Elt Ideal) ℓ) (g' : Dev Cert.SplitRefIdeal.nD → PrngReg), Pre_SplitIdeal m →
    (∀ c : Dev Cert.SplitIdeal.nD,
      m' ((c.tc : Thread Cert.SplitRefIdeal.nD Cert.SplitRefIdeal.τ).loc Cert.SplitRefIdeal.main_arg0) = m ((c.tc : Thread Cert.SplitIdeal.nD Cert.SplitIdeal.τ).loc Cert.SplitIdeal.main_arg0)) →
    ∃ (v0 : (c : Dev Cert.SplitIdeal.nD) → Buf (Elt Ideal) ((c.tc : Thread Cert.SplitIdeal.nD Cert.SplitIdeal.τ).loc Cert.SplitIdeal.main_v22_0)) (v1 : (c : Dev Cert.SplitIdeal.nD) → Buf (Elt Ideal) ((c.tc : Thread Cert.SplitIdeal.nD Cert.SplitIdeal.τ).loc Cert.SplitIdeal.main_v22_1)),
      θ_run (Cert.SplitIdeal.defs (F := Ideal)) (onTc (τ := Cert.SplitIdeal.τ) (Cert.SplitIdeal.main (F := Ideal))) ⟨m, fun _ => 0, g⟩ (fun r => ∀ c : Dev Cert.SplitIdeal.nD,
          r.2.mem ((c.tc : Thread Cert.SplitIdeal.nD Cert.SplitIdeal.τ).loc Cert.SplitIdeal.main_v22_0) = v0 c
          ∧ r.2.mem ((c.tc : Thread Cert.SplitIdeal.nD Cert.SplitIdeal.τ).loc Cert.SplitIdeal.main_v22_1) = v1 c
          ∧ r.2.mem ((c.tc : Thread Cert.SplitIdeal.nD Cert.SplitIdeal.τ).loc Cert.SplitIdeal.main_arg0) = m ((c.tc : Thread Cert.SplitIdeal.nD Cert.SplitIdeal.τ).loc Cert.SplitIdeal.main_arg0))
      ∧ θ_run (Cert.SplitRefIdeal.defs (F := Ideal)) (onTc (τ := Cert.SplitRefIdeal.τ) (Cert.SplitRefIdeal.main (F := Ideal))) ⟨m', fun _ => 0, g'⟩ (fun r => ∀ c : Dev Cert.SplitRefIdeal.nD,
          r.2.mem ((c.tc : Thread Cert.SplitRefIdeal.nD Cert.SplitRefIdeal.τ).loc Cert.SplitRefIdeal.main_v1) = v0 c
          ∧ r.2.mem ((c.tc : Thread Cert.SplitRefIdeal.nD Cert.SplitRefIdeal.τ).loc Cert.SplitRefIdeal.main_v3) = v1 c
          ∧ r.2.mem ((c.tc : Thread Cert.SplitRefIdeal.nD Cert.SplitRefIdeal.τ).loc Cert.SplitRefIdeal.main_arg0) = m' ((c.tc : Thread Cert.SplitRefIdeal.nD Cert.SplitRefIdeal.τ).loc Cert.SplitRefIdeal.main_arg0))

def Claim : Prop :=
  ∃ (hAttn : Cert.Attn.Facts) (hAttnIdeal : Cert.AttnIdeal.Facts) (hAttnRefIdeal : Cert.AttnRefIdeal.Facts) (hExperts : Cert.Experts.Facts) (hExpertsIdeal : Cert.ExpertsIdeal.Facts) (hExpertsRefIdeal : Cert.ExpertsRefIdeal.Facts) (hInProj : Cert.InProj.Facts) (hInProjIdeal : Cert.InProjIdeal.Facts) (hInProjRefIdeal : Cert.InProjRefIdeal.Facts) (hKvProj : Cert.KvProj.Facts) (hKvProjIdeal : Cert.KvProjIdeal.Facts) (hKvProjRefIdeal : Cert.KvProjRefIdeal.Facts) (hPost : Cert.Post.Facts) (hPostIdeal : Cert.PostIdeal.Facts) (hPostRefIdeal : Cert.PostRefIdeal.Facts) (hSplit : Cert.Split.Facts) (hSplitIdeal : Cert.SplitIdeal.Facts) (hSplitRefIdeal : Cert.SplitRefIdeal.Facts) (hPre_values_and_lambdas_finite : Cert.Pre_values_and_lambdas_finite.Facts) (hPre_experts_in_range : Cert.Pre_experts_in_range.Facts),
    quiescent_Attn (hAttn := hAttn)
    ∧ quiescent_AttnIdeal (hAttnIdeal := hAttnIdeal)
    ∧ quiescent_AttnIdeal_pre_values_and_lambdas_finite (hAttnIdeal := hAttnIdeal) (hPre_values_and_lambdas_finite := hPre_values_and_lambdas_finite)
    ∧ quiescent_AttnRefIdeal (hAttnRefIdeal := hAttnRefIdeal)
    ∧ quiescent_AttnRefIdeal_pre_values_and_lambdas_finite (hAttnRefIdeal := hAttnRefIdeal) (hPre_values_and_lambdas_finite := hPre_values_and_lambdas_finite)
    ∧ quiescent_Experts (hExperts := hExperts) (hPre_experts_in_range := hPre_experts_in_range)
    ∧ quiescent_ExpertsIdeal (hExpertsIdeal := hExpertsIdeal) (hPre_experts_in_range := hPre_experts_in_range)
    ∧ quiescent_ExpertsRefIdeal (hExpertsRefIdeal := hExpertsRefIdeal) (hPre_experts_in_range := hPre_experts_in_range)
    ∧ quiescent_InProj (hInProj := hInProj)
    ∧ quiescent_InProjIdeal (hInProjIdeal := hInProjIdeal)
    ∧ quiescent_InProjRefIdeal (hInProjRefIdeal := hInProjRefIdeal)
    ∧ quiescent_KvProj (hKvProj := hKvProj)
    ∧ quiescent_KvProjIdeal (hKvProjIdeal := hKvProjIdeal)
    ∧ quiescent_KvProjRefIdeal (hKvProjRefIdeal := hKvProjRefIdeal)
    ∧ quiescent_Post (hPost := hPost)
    ∧ quiescent_PostIdeal (hPostIdeal := hPostIdeal)
    ∧ quiescent_PostRefIdeal (hPostRefIdeal := hPostRefIdeal)
    ∧ quiescent_Split (hSplit := hSplit)
    ∧ quiescent_SplitIdeal (hSplitIdeal := hSplitIdeal)
    ∧ quiescent_SplitRefIdeal (hSplitRefIdeal := hSplitRefIdeal)
    ∧ preserves_Attn_AttnIdeal
    ∧ algebraic_AttnIdeal_AttnRefIdeal_pre_values_and_lambdas_finite (hAttnIdeal := hAttnIdeal) (hAttnRefIdeal := hAttnRefIdeal) (hPre_values_and_lambdas_finite := hPre_values_and_lambdas_finite)
    ∧ preserves_Experts_ExpertsIdeal
    ∧ algebraic_ExpertsIdeal_ExpertsRefIdeal (hExpertsIdeal := hExpertsIdeal) (hExpertsRefIdeal := hExpertsRefIdeal) (hPre_experts_in_range := hPre_experts_in_range)
    ∧ preserves_InProj_InProjIdeal
    ∧ algebraic_InProjIdeal_InProjRefIdeal (hInProjIdeal := hInProjIdeal) (hInProjRefIdeal := hInProjRefIdeal)
    ∧ preserves_KvProj_KvProjIdeal
    ∧ algebraic_KvProjIdeal_KvProjRefIdeal (hKvProjIdeal := hKvProjIdeal) (hKvProjRefIdeal := hKvProjRefIdeal)
    ∧ preserves_Post_PostIdeal
    ∧ algebraic_PostIdeal_PostRefIdeal (hPostIdeal := hPostIdeal) (hPostRefIdeal := hPostRefIdeal)
    ∧ preserves_Split_SplitIdeal
    ∧ algebraic_SplitIdeal_SplitRefIdeal (hSplitIdeal := hSplitIdeal) (hSplitRefIdeal := hSplitRefIdeal)
-- ==== Pre_experts_in_range.lean ====
abbrev S288 : Shape := ⟨1, ![288]⟩
abbrev S1 : Shape := ⟨1, ![1]⟩
abbrev S2359296x128 : Shape := ⟨2, ![2359296, 128]⟩
abbrev S32x1024x1024 : Shape := ⟨3, ![32, 1024, 1024]⟩
abbrev S32x1x1024 : Shape := ⟨3, ![32, 1, 1024]⟩
abbrev S_ : Shape := ⟨0, ![]⟩

class Facts : Prop where
  bcast_S_S288 : S_.BroadcastsInDim S288 (![] : Fin 0 → Fin S288.rank)
  bcast_S_S1 : S_.BroadcastsInDim S1 (![] : Fin 0 → Fin S1.rank)

variable [Facts]

def fn {F : FTy → Type} [FloatOps F] (main_arg0 : IVec S288 32) (main_arg1 : IVec S1 32) (main_arg2 : FVec F S2359296x128 .f32) (main_arg3 : FVec F S32x1024x1024 .bf16) (main_arg4 : FVec F S32x1024x1024 .bf16) (main_arg5 : FVec F S32x1x1024 .f32) (main_arg6 : FVec F S32x1x1024 .f32) (main_arg7 : FVec F S32x1024x1024 .bf16) (main_arg8 : FVec F S32x1x1024 .f32) : IVec S288 1 × IVec S1 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  (main_v4, main_v6)
-- ==== Pre_values_and_lambdas_finite.lean ====
abbrev S32x2048x512 : Shape := ⟨3, ![32, 2048, 512]⟩
abbrev S1x64 : Shape := ⟨2, ![1, 64]⟩
abbrev S1x512 : Shape := ⟨2, ![1, 512]⟩
abbrev S_ : Shape := ⟨0, ![]⟩

class Facts : Prop where
  bitsLt_bf16_f32 : FTy.bits .bf16 < FTy.bits .f32
  bcast_S_S32x2048x512 : S_.BroadcastsInDim S32x2048x512 (![] : Fin 0 → Fin S32x2048x512.rank)
  bcast_S_S1x64 : S_.BroadcastsInDim S1x64 (![] : Fin 0 → Fin S1x64.rank)

variable [Facts]

def fn {F : FTy → Type} [FloatOps F] (main_arg0 : FVec F S32x2048x512 .bf16) (main_arg1 : FVec F S32x2048x512 .bf16) (main_arg2 : FVec F S32x2048x512 .bf16) (main_arg3 : FVec F S1x64 .f32) (main_arg4 : FVec F S1x64 .f32) (main_arg5 : FVec F S1x64 .f32) (main_arg6 : FVec F S1x64 .f32) (main_arg7 : FVec F S1x512 .f32) : IVec S32x2048x512 1 × IVec S1x64 1 × IVec S1x64 1 × IVec S1x64 1 × IVec S1x64 1 :=
  let main_v0 : FVec F S32x2048x512 .f32 := (extf .f32 · bitsLt_bf16_f32) main_arg2
  let main_v1 : FVec F S32x2048x512 .f32 := Host.absf main_v0
  let main_cst : FVec F S_ .f32 := constant S_ .f32 0x7F800000#32
  let main_v2 : FVec F S32x2048x512 .f32 := broadcastInDim S32x2048x512 ![] bcast_S_S32x2048x512 main_cst
  let main_v3 : IVec S32x2048x512 1 := cmpf .olt main_v1 main_v2
  let main_v4 : FVec F S1x64 .f32 := Host.absf main_arg3
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_v7 : FVec F S1x64 .f32 := Host.absf main_arg4
  let main_cst_1 : FVec F S_ .f32 := constant S_ .f32 0x7F800000#32
  let main_v8 : FVec F S1x64 .f32 := broadcastInDim S1x64 ![] bcast_S_S1x64 main_cst_1
  let main_v9 : IVec S1x64 1 := cmpf .olt main_v7 main_v8
  let main_v10 : FVec F S1x64 .f32 := Host.absf main_arg5
  let main_cst_2 : FVec F S_ .f32 := constant S_ .f32 0x7F800000#32
  let main_v11 : FVec F S1x64 .f32 := broadcastInDim S1x64 ![] bcast_S_S1x64 main_cst_2
  let main_v12 : IVec S1x64 1 := cmpf .olt main_v10 main_v11
  let main_v13 : FVec F S1x64 .f32 := Host.absf main_arg6
  let main_cst_3 : FVec F S_ .f32 := constant S_ .f32 0x7F800000#32
  let main_v14 : FVec F S1x64 .f32 := broadcastInDim S1x64 ![] bcast_S_S1x64 main_cst_3
  let main_v15 : IVec S1x64 1 := cmpf .olt main_v13 main_v14
  (main_v3, main_v6, main_v9, main_v12, main_v15)
-- ==== Attn.lean ====
abbrev S32x2048x512 : Shape := ⟨3, ![32, 2048, 512]⟩
abbrev S1x64 : Shape := ⟨2, ![1, 64]⟩
abbrev S1x512 : Shape := ⟨2, ![1, 512]⟩
abbrev S1x2048x128 : Shape := ⟨3, ![1, 2048, 128]⟩
abbrev S1x128 : Shape := ⟨2, ![1, 128]⟩
abbrev S512x512 : Shape := ⟨2, ![512, 512]⟩
abbrev S1 : Shape := ⟨1, ![1]⟩
abbrev S1x1 : Shape := ⟨2, ![1, 1]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S32x2048x512, .bf16⟩
  | .hbm, ⟨1, _⟩ => ⟨S32x2048x512, .bf16⟩
  | .hbm, ⟨2, _⟩ => ⟨S32x2048x512, .bf16⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x512, .f32⟩
  | .hbm, ⟨8, _⟩ => ⟨S32x2048x512, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x128, .f32⟩
  | .local _ .vmem, ⟨11, _⟩ => ⟨S1x128, .f32⟩
  | .local _ .vmem, ⟨12, _⟩ => ⟨S1x2048x128, .bf16⟩
  | .local _ .vmem, ⟨13, _⟩ => ⟨S1x2048x128, .bf16⟩
  | _, _ => ⟨S32x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AttnRefIdeal.lean ====
abbrev S32x2048x512 : Shape := ⟨3, ![32, 2048, 512]⟩
abbrev S1x64 : Shape := ⟨2, ![1, 64]⟩
abbrev S1x512 : Shape := ⟨2, ![1, 512]⟩
abbrev S32x2048x4x2x64 : Shape := ⟨5, ![32, 2048, 4, 2, 64]⟩
abbrev S32x2048x4x1x64 : Shape := ⟨5, ![32, 2048, 4, 1, 64]⟩
abbrev S32x2048x4x64 : Shape := ⟨4, ![32, 2048, 4, 64]⟩
abbrev S32x4x2048x64 : Shape := ⟨4, ![32, 4, 2048, 64]⟩
abbrev S32x2048x4x128 : Shape := ⟨4, ![32, 2048, 4, 128]⟩
abbrev S32x4x2048x128 : Shape := ⟨4, ![32, 4, 2048, 128]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S32x4x2048x2048 : Shape := ⟨4, ![32, 4, 2048, 2048]⟩
abbrev S32x4x2048 : Shape := ⟨3, ![32, 4, 2048]⟩
abbrev S32x4x2048x1 : Shape := ⟨4, ![32, 4, 2048, 1]⟩
abbrev S4x1x128 : Shape := ⟨3, ![4, 1, 128]⟩
abbrev S1x4x1x128 : Shape := ⟨4, ![1, 4, 1, 128]⟩

abbrev nBuf : Space → Nat
  | .hbm => 117
  | .vmem => 0
  | .smem => 0
  | _ => 0

abbrev bufTy : (tb : Table) → Fin (tcTables nBuf tb) → BufTy
  | .hbm, ⟨0, _⟩ => ⟨S32x2048x512, .bf16⟩
  | .hbm, ⟨1, _⟩ => ⟨S32x2048x512, .bf16⟩
  | .hbm, ⟨2, _⟩ => ⟨S32x2048x512, .bf16⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x512, .f32⟩
  | .hbm, ⟨8, _⟩ => ⟨S32x2048x512, .f32⟩
  | .hbm, ⟨9, _⟩ => ⟨S32x2048x512, .f32⟩
  | .hbm, ⟨10, _⟩ => ⟨S32x2048x512, .f32⟩
  | .hbm, ⟨11, _⟩ => ⟨S32x2048x4x2x64, .f32⟩
  | .hbm, ⟨12, _⟩ => ⟨S32x2048x4x1x64, .f32⟩
  | .hbm, ⟨13, _⟩ => ⟨S32x2048x4x64, .f32⟩
  | .hbm, ⟨14, _⟩ => ⟨S32x4x2048x64, .f32⟩
  | .hbm, ⟨15, _⟩ => ⟨S32x2048x4x1x64, .f32⟩
  | .hbm, ⟨16, _⟩ => ⟨S32x2048x4x64, .f32⟩
  | .hbm, ⟨17, _⟩ => ⟨S32x4x2048x64, .f32⟩
  | .hbm, ⟨18, _⟩ => ⟨S32x2048x4x2x64, .f32⟩
  | .hbm, ⟨19, _⟩ => ⟨S32x2048x4x1x64, .f32⟩
  | .hbm, ⟨20, _⟩ => ⟨S32x2048x4x64, .f32⟩
  | .hbm, ⟨21, _⟩ => ⟨S32x4x2048x64, .f32⟩
  | .hbm, ⟨22, _⟩ => ⟨S32x2048x4x1x64, .f32⟩
  | .hbm, ⟨23, _⟩ => ⟨S32x2048x4x64, .f32⟩
  | .hbm, ⟨24, _⟩ => ⟨S32x4x2048x64, .f32⟩
  | .hbm, ⟨25, _⟩ => ⟨S32x2048x4x128, .f32⟩
  | .hbm, ⟨26, _⟩ => ⟨S32x4x2048x128, .f32⟩
  | .hbm, ⟨27, _⟩ => ⟨S1x64, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S1x64, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S2048, .i32⟩
  | .hbm, ⟨39, _⟩ => ⟨S1x2048, .i32⟩
  | .hbm, ⟨40, _⟩ => ⟨S2048x1, .i32⟩
  | .hbm, ⟨41, _⟩ => ⟨S2048x2048, .i32⟩
  | .hbm, ⟨42, _⟩ => ⟨S2048x2048, .i32⟩
  | .hbm, ⟨43, _⟩ => ⟨S2048x2048, .i1⟩
  | .hbm, ⟨44, _⟩ => ⟨S32x4x2048x2048, .f32⟩
  | .hbm, ⟨45, _⟩ => ⟨S_, .f32⟩
  | .hbm, ⟨46, _⟩ => ⟨S32x4x2048x2048, .f32⟩
  | .hbm, ⟨47, _⟩ => ⟨S32x4x2048x2048, .f32⟩
  | .hbm, ⟨48, _⟩ => ⟨S_, .f32⟩
  | .hbm, ⟨49, _⟩ => ⟨S_, .f32⟩
  | .hbm, ⟨50, _⟩ => ⟨S32x4x2048x2048, .i1⟩
  | .hbm, ⟨51, _⟩ => ⟨S32x4x2048x2048, .f32⟩
  | .hbm, ⟨52, _⟩ => ⟨S32x4x2048x2048, .f32⟩
  | .hbm, ⟨53, _⟩ => ⟨S_, .f32⟩
  | .hbm, ⟨54, _⟩ => ⟨S32x4x2048, .f32⟩
  | .hbm, ⟨55, _⟩ => ⟨S_, .f32⟩
  | .hbm, ⟨56, _⟩ => ⟨S32x4x2048, .f32⟩
  | .hbm, ⟨57, _⟩ => ⟨S32x4x2048, .f32⟩
  | .hbm, ⟨58, _⟩ => ⟨S32x4x2048x1, .f32⟩
  | .hbm, ⟨59, _⟩ => ⟨S32x4x2048x2048, .f32⟩
  | .hbm, ⟨60, _⟩ => ⟨S32x4x2048x2048, .f32⟩
  | .hbm, ⟨61, _⟩ => ⟨S32x4x2048x2048, .f32⟩
  | .hbm, ⟨62, _⟩ => ⟨S_, .f32⟩
  | .hbm, ⟨63, _⟩ => ⟨S32x4x2048, .f32⟩
  | .hbm, ⟨64, _⟩ => ⟨S32x4x2048x1, .f32⟩
  | .hbm, ⟨65, _⟩ => ⟨S32x4x2048x2048, .f32⟩
  | .hbm, ⟨66, _⟩ => ⟨S32x4x2048x2048, .f32⟩
  | .hbm, ⟨67, _⟩ => ⟨S32x4x2048x2048, .f32⟩
  | .hbm, ⟨68, _⟩ => ⟨S_, .f32⟩
  | .hbm, ⟨69, _⟩ => ⟨S32x4x2048x2048, .f32⟩
  | .hbm, ⟨70, _⟩ => ⟨S32x4x2048x2048, .f32⟩
  | .hbm, ⟨71, _⟩ => ⟨S_, .f32⟩
  | .hbm, ⟨72, _⟩ => ⟨S_, .f32⟩
  | .hbm, ⟨73, _⟩ => ⟨S32x4x2048x2048, .i1⟩
  | .hbm, ⟨74, _⟩ => ⟨S32x4x2048x2048, .f32⟩
  | .hbm, ⟨75, _⟩ => ⟨S32x4x2048x2048, .f32⟩
  | .hbm, ⟨76, _⟩ => ⟨S_, .f32⟩
  | .hbm, ⟨77, _⟩ => ⟨S32x4x2048, .f32⟩
  | .hbm, ⟨78, _⟩ => ⟨S_, .f32⟩
  | .hbm, ⟨79, _⟩ => ⟨S32x4x2048, .f32⟩
  | .hbm, ⟨80, _⟩ => ⟨S32x4x2048, .f32⟩
  | .hbm, ⟨81, _⟩ => ⟨S32x4x2048x1, .f32⟩
  | .hbm, ⟨82, _⟩ => ⟨S32x4x2048x2048, .f32⟩
  | .hbm, ⟨83, _⟩ => ⟨S32x4x2048x2048, .f32⟩
  | .hbm, ⟨84, _⟩ => ⟨S32x4x2048x2048, .f32⟩
  | .hbm, ⟨85, _⟩ => ⟨S_, .f32⟩
  | .hbm, ⟨86, _⟩ => ⟨S32x4x2048, .f32⟩
  | .hbm, ⟨87, _⟩ => ⟨S32x4x2048x1, .f32⟩
  | .hbm, ⟨88, _⟩ => ⟨S32x4x2048x2048, .f32⟩
  | .hbm, ⟨89, _⟩ => ⟨S32x4x2048x2048, .f32⟩
  | .hbm, ⟨90, _⟩ => ⟨S32x4x2048x2048, .f32⟩
  | .hbm, ⟨91, _⟩ => ⟨S32x4x2048x2048, .f32⟩
  | .hbm, ⟨92, _⟩ => ⟨S32x4x2048x2048, .f32⟩
  | .hbm, ⟨93, _⟩ => ⟨S32x4x2048x128, .f32⟩
  | .hbm, ⟨94, _⟩ => ⟨S4x1x128, .f32⟩
  | .hbm, ⟨95, _⟩ => ⟨S32x4x2048x128, .f32⟩
  | .hbm, ⟨96, _⟩ => ⟨S_, .f32⟩
  | .hbm, ⟨97, _⟩ => ⟨S32x4x2048, .f32⟩
  | .hbm, ⟨98, _⟩ => ⟨S32x4x2048x1, .f32⟩
  | .hbm, ⟨99, _⟩ => ⟨S_, .f32⟩
  | .hbm, ⟨100, _⟩ => ⟨S32x4x2048x1, .f32⟩
  | .hbm, ⟨101, _⟩ => ⟨S32x4x2048x1, .f32⟩
  | .hbm, ⟨102, _⟩ => ⟨S_, .f32⟩
  | .hbm, ⟨103, _⟩ => ⟨S32x4x2048x1, .f32⟩
  | .hbm, ⟨104, _⟩ => ⟨S32x4x2048x1, .f32⟩
  | .hbm, ⟨105, _⟩ => ⟨S32x4x2048x1, .f32⟩
  | .hbm, ⟨106, _⟩ => ⟨S32x4x2048x128, .f32⟩
  | .hbm, ⟨107, _⟩ => ⟨S32x4x2048x128, .f32⟩
  | .hbm, ⟨108, _⟩ => ⟨S1x4x1x128, .f32⟩
  | .hbm, ⟨109, _⟩ => ⟨S32x4x2048x128, .f32⟩
  | .hbm, ⟨110, _⟩ => ⟨S32x4x2048x128, .f32⟩
  | .hbm, ⟨111, _⟩ => ⟨S_, .f32⟩
  | .hbm, ⟨112, _⟩ => ⟨S32x4x2048x128, .f32⟩
  | .hbm, ⟨113, _⟩ => ⟨S32x4x2048x128, .f32⟩
  | .hbm, ⟨114, _⟩ => ⟨S32x2048x4x128, .f32⟩
  | .hbm, ⟨115, _⟩ => ⟨S32x2048x512, .f32⟩
  | .hbm, ⟨116, _⟩ => ⟨S32x2048x512, .bf16⟩
  | _, _ => ⟨S32x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_0 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_1 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_2 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_cst_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_6 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_7 : Ref sig .tc := ⟨.hbm, 68, rfl⟩
abbrev main_v49 : Ref sig .tc := ⟨.hbm, 69, rfl⟩
abbrev main_v50 : Ref sig .tc := ⟨.hbm, 70, rfl⟩
abbrev main_cst_8 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_cst_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_12 : Ref sig .tc := ⟨.hbm, 96, rfl⟩
abbrev main_v69 : Ref sig .tc := ⟨.hbm, 97, rfl⟩
abbrev main_v70 : Ref sig .tc := ⟨.hbm, 98, rfl⟩
abbrev main_cst_13 : Ref sig .tc := ⟨.hbm, 99, rfl⟩
abbrev main_v71 : Ref sig .tc := ⟨.hbm, 100, rfl⟩
abbrev main_v72 : Ref sig .tc := ⟨.hbm, 101, rfl⟩
abbrev main_cst_14 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_15 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩

abbrev nD : Nat := 1
abbrev τ : Topo := Topo.v7x

variable {F : FTy → Type} [FloatOps F]
-- ==== Experts.lean ====
abbrev S288 : Shape := ⟨1, ![288]⟩
abbrev S1 : Shape := ⟨1, ![1]⟩
abbrev S2359296x128 : Shape := ⟨2, ![2359296, 128]⟩
abbrev S32x1024x1024 : Shape := ⟨3, ![32, 1024, 1024]⟩
abbrev S32x1x1024 : Shape := ⟨3, ![32, 1, 1024]⟩
abbrev S8192x128 : Shape := ⟨2, ![8192, 128]⟩
abbrev S1x1024x1024 : Shape := ⟨3, ![1, 1024, 1024]⟩
abbrev S1x1x1024 : Shape := ⟨3, ![1, 1, 1024]⟩
abbrev S1024x128 : Shape := ⟨2, ![1024, 128]⟩
abbrev S1024x1024 : Shape := ⟨2, ![1024, 1024]⟩
abbrev S1x1024 : Shape := ⟨2, ![1, 1024]⟩

abbrev nBuf : Space → Nat
  | .hbm => 8
  | .vmem => 16
  | .smem => 2
  | _ => 0

abbrev bufTy : (tb : Table) → Fin (tcTables nBuf tb) → BufTy
  | .hbm, ⟨0, _⟩ => ⟨S2359296x128, .f32⟩
  | .hbm, ⟨1, _⟩ => ⟨S32x1024x1024, .bf16⟩
  | .hbm, ⟨2, _⟩ => ⟨S32x1024x1024, .bf16⟩
  | .hbm, ⟨3, _⟩ => ⟨S32x1x1024, .f32⟩
  | .hbm, ⟨4, _⟩ => ⟨S32x1x1024, .f32⟩
  | .hbm, ⟨5, _⟩ => ⟨S32x1024x1024, .bf16⟩
  | .hbm, ⟨6, _⟩ => ⟨S32x1x1024, .f32⟩
  | .hbm, ⟨7, _⟩ => ⟨S2359296x128, .f32⟩
  | .local _ .vmem, ⟨0, _⟩ => ⟨S8192x128, .f32⟩
  | .local _ .vmem, ⟨1, _⟩ => ⟨S8192x128, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x1024, .bf16⟩
  | .local _ .vmem, ⟨11, _⟩ => ⟨S1x1024x1024, .bf16⟩
  | .local _ .vmem, ⟨12, _⟩ => ⟨S1x1x1024, .f32⟩
  | .local _ .vmem, ⟨13, _⟩ => ⟨S1x1x1024, .f32⟩
  | .local _ .vmem, ⟨14, _⟩ => ⟨S8192x128, .f32⟩
  | .local _ .vmem, ⟨15, _⟩ => ⟨S8192x128, .f32⟩
  | .local _ .smem, ⟨0, _⟩ => ⟨S288, .i32⟩
  | .local _ .smem, ⟨1, _⟩ => ⟨S1, .i32⟩
  | _, _ => ⟨S2359296x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_v0 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ExpertsRefIdeal.lean ====
abbrev S288 : Shape := ⟨1, ![288]⟩
abbrev S1 : Shape := ⟨1, ![1]⟩
abbrev S2359296x128 : Shape := ⟨2, ![2359296, 128]⟩
abbrev S32x1024x1024 : Shape := ⟨3, ![32, 1024, 1024]⟩
abbrev S32x1x1024 : Shape := ⟨3, ![32, 1, 1024]⟩
abbrev S288x1024x1024 : Shape := ⟨3, ![288, 1024, 1024]⟩
abbrev S288x1 : Shape := ⟨2, ![288, 1]⟩
abbrev S288x1x1024 : Shape := ⟨3, ![288, 1, 1024]⟩
abbrev S_ : Shape := ⟨0, ![]⟩
abbrev S288x1x1 : Shape := ⟨3, ![288, 1, 1]⟩

abbrev nBuf : Space → Nat
  | .hbm => 72
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S2359296x128, .f32⟩
  | .hbm, ⟨3, _⟩ => ⟨S32x1024x1024, .bf16⟩
  | .hbm, ⟨4, _⟩ => ⟨S32x1024x1024, .bf16⟩
  | .hbm, ⟨5, _⟩ => ⟨S32x1x1024, .f32⟩
  | .hbm, ⟨6, _⟩ => ⟨S32x1x1024, .f32⟩
  | .hbm, ⟨7, _⟩ => ⟨S32x1024x1024, .bf16⟩
  | .hbm, ⟨8, _⟩ => ⟨S32x1x1024, .f32⟩
  | .hbm, ⟨9, _⟩ => ⟨S288x1024x1024, .f32⟩
  | .hbm, ⟨10, _⟩ => ⟨S32x1024x1024, .f32⟩
  | .hbm, ⟨11, _⟩ => ⟨S32x1024x1024, .f32⟩
  | .hbm, ⟨12, _⟩ => ⟨S32x1024x1024, .f32⟩
  | .hbm, ⟨13, _⟩ => ⟨S288x1, .i32⟩
  | .hbm, ⟨14, _⟩ => ⟨S288x1024x1024, .f32⟩
  | .hbm, ⟨15, _⟩ => ⟨S288x1024x1024, .f32⟩
  | .hbm, ⟨16, _⟩ => ⟨S288x1, .i32⟩
  | .hbm, ⟨17, _⟩ => ⟨S288x1x1024, .f32⟩
  | .hbm, ⟨18, _⟩ => ⟨S288x1024x1024, .f32⟩
  | .hbm, ⟨19, _⟩ => ⟨S288x1024x1024, .f32⟩
  | .hbm, ⟨20, _⟩ => ⟨S288x1, .i32⟩
  | .hbm, ⟨21, _⟩ => ⟨S288x1024x1024, .f32⟩
  | .hbm, ⟨22, _⟩ => ⟨S288x1024x1024, .f32⟩
  | .hbm, ⟨23, _⟩ => ⟨S288x1, .i32⟩
  | .hbm, ⟨24, _⟩ => ⟨S288x1x1024, .f32⟩
  | .hbm, ⟨25, _⟩ => ⟨S288x1024x1024, .f32⟩
  | .hbm, ⟨26, _⟩ => ⟨S288x1024x1024, .f32⟩
  | .hbm, ⟨27, _⟩ => ⟨S_, .f32⟩
  | .hbm, ⟨28, _⟩ => ⟨S288x1024x1024, .f32⟩
  | .hbm, ⟨29, _⟩ => ⟨S288x1024x1024, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S288x1024x1024, .f32⟩
  | .hbm, ⟨34, _⟩ => ⟨S288x1024x1024, .f32⟩
  | .hbm, ⟨35, _⟩ => ⟨S_, .f32⟩
  | .hbm, ⟨36, _⟩ => ⟨S288x1024x1024, .f32⟩
  | .hbm, ⟨37, _⟩ => ⟨S288x1024x1024, .f32⟩
  | .hbm, ⟨38, _⟩ => ⟨S_, .f32⟩
  | .hbm, ⟨39, _⟩ => ⟨S288x1024x1024, .f32⟩
  | .hbm, ⟨40, _⟩ => ⟨S288x1024x1024, .f32⟩
  | .hbm, ⟨41, _⟩ => ⟨S288x1024x1024, .f32⟩
  | .hbm, ⟨42, _⟩ => ⟨S288x1024x1024, .f32⟩
  | .hbm, ⟨43, _⟩ => ⟨S_, .f32⟩
  | .hbm, ⟨44, _⟩ => ⟨S288x1024x1024, .f32⟩
  | .hbm, ⟨45, _⟩ => ⟨S288x1024x1024, .f32⟩
  | .hbm, ⟨46, _⟩ => ⟨S_, .f32⟩
  | .hbm, ⟨47, _⟩ => ⟨S288x1024x1024, .f32⟩
  | .hbm, ⟨48, _⟩ => ⟨S288x1024x1024, .f32⟩
  | .hbm, ⟨49, _⟩ => ⟨S288x1024x1024, .f32⟩
  | .hbm, ⟨50, _⟩ => ⟨S_, .f32⟩
  | .hbm, ⟨51, _⟩ => ⟨S288x1024x1024, .f32⟩
  | .hbm, ⟨52, _⟩ => ⟨S288x1024x1024, .f32⟩
  | .hbm, ⟨53, _⟩ => ⟨S288x1024x1024, .f32⟩
  | .hbm, ⟨54, _⟩ => ⟨S288x1, .i32⟩
  | .hbm, ⟨55, _⟩ => ⟨S288x1024x1024, .f32⟩
  | .hbm, ⟨56, _⟩ => ⟨S288x1024x1024, .f32⟩
  | .hbm, ⟨57, _⟩ => ⟨S288x1, .i32⟩
  | .hbm, ⟨58, _⟩ => ⟨S288x1x1024, .f32⟩
  | .hbm, ⟨59, _⟩ => ⟨S288x1024x1024, .f32⟩
  | .hbm, ⟨60, _⟩ => ⟨S288x1024x1024, .f32⟩
  | .hbm, ⟨61, _⟩ => ⟨S288, .i32⟩
  | .hbm, ⟨62, _⟩ => ⟨S_, .i32⟩
  | .hbm, ⟨63, _⟩ => ⟨S288, .i32⟩
  | .hbm, ⟨64, _⟩ => ⟨S288, .i1⟩
  | .hbm, ⟨65, _⟩ => ⟨S288x1x1, .i1⟩
  | .hbm, ⟨66, _⟩ => ⟨S_, .f32⟩
  | .hbm, ⟨67, _⟩ => ⟨S_, .f32⟩
  | .hbm, ⟨68, _⟩ => ⟨S288x1024x1024, .i1⟩
  | .hbm, ⟨69, _⟩ => ⟨S288x1024x1024, .f32⟩
  | .hbm, ⟨70, _⟩ => ⟨S288x1024x1024, .f32⟩
  | .hbm, ⟨71, _⟩ => ⟨S2359296x128, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_call1_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call2_v0 : Ref sig .tc := ⟨.hbm, 20, rfl⟩
abbrev main_v9 : Ref sig .tc := ⟨.hbm, 21, rfl⟩
abbrev main_v10 : Ref sig .tc := ⟨.hbm, 22, rfl⟩
abbrev main_call3_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_cst_0 : Ref sig .tc := ⟨.hbm, 30, rfl⟩
abbrev main_cst_1 : Ref sig .tc := ⟨.hbm, 31, rfl⟩
abbrev main_call4_v0 : Ref sig .tc := ⟨.hbm, 32, rfl⟩
abbrev main_call4_v1 : Ref sig .tc := ⟨.hbm, 33, rfl⟩
abbrev main_call4_v2 : Ref sig .tc := ⟨.hbm, 34, rfl⟩
abbrev main_call4_v3 : Ref sig .tc := ⟨.hbm, 35, rfl⟩
abbrev main_call4_v4 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_cst_4 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_5 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_call5_v0 : Ref sig .tc := ⟨.hbm, 54, rfl⟩
abbrev main_v29 : Ref sig .tc := ⟨.hbm, 55, rfl⟩
abbrev main_v30 : Ref sig .tc := ⟨.hbm, 56, rfl⟩
abbrev main_call6_v0 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_6 : Ref sig .tc := ⟨.hbm, 66, rfl⟩
abbrev main_call7_v0 : Ref sig .tc := ⟨.hbm, 67, rfl⟩
abbrev main_call7_v1 : Ref sig .tc := ⟨.hbm, 68, rfl⟩
abbrev main_call7_v2 : Ref sig .tc := ⟨.hbm, 69, rfl⟩
abbrev main_v39 : Ref sig .tc := ⟨.hbm, 70, rfl⟩
abbrev main_v40 : Ref sig .tc := ⟨.hbm, 71, rfl⟩

abbrev nD : Nat := 1
abbrev τ : Topo := Topo.v7x

variable {F : FTy → Type} [FloatOps F]
-- ==== InProj.lean ====
abbrev S65536x1024 : Shape := ⟨2, ![65536, 1024]⟩
abbrev S1x1024 : Shape := ⟨2, ![1, 1024]⟩
abbrev S1024x3072 : Shape := ⟨2, ![1024, 3072]⟩
abbrev S1024x128 : Shape := ⟨2, ![1024, 128]⟩
abbrev S65536x512 : Shape := ⟨2, ![65536, 512]⟩
abbrev S65536x128 : Shape := ⟨2, ![65536, 128]⟩
abbrev S1024x1024 : Shape := ⟨2, ![1024, 1024]⟩
abbrev S1024x512 : Shape := ⟨2, ![1024, 512]⟩
abbrev S1024 : Shape := ⟨1, ![1024]⟩
abbrev S1024x1 : Shape := ⟨2, ![1024, 1]⟩

abbrev nBuf : Space → Nat
  | .hbm => 13
  | .vmem => 22
  | .smem => 0
  | _ => 0

abbrev bufTy : (tb : Table) → Fin (tcTables nBuf tb) → BufTy
  | .hbm, ⟨0, _⟩ => ⟨S65536x1024, .f32⟩
  | .hbm, ⟨1, _⟩ => ⟨S1x1024, .f32⟩
  | .hbm, ⟨2, _⟩ => ⟨S1024x3072, .bf16⟩
  | .hbm, ⟨3, _⟩ => ⟨S1024x128, .bf16⟩
  | .hbm, ⟨4, _⟩ => ⟨S1024x128, .bf16⟩
  | .hbm, ⟨5, _⟩ => ⟨S65536x512, .bf16⟩
  | .hbm, ⟨6, _⟩ => ⟨S65536x512, .bf16⟩
  | .hbm, ⟨7, _⟩ => ⟨S65536x512, .bf16⟩
  | .hbm, ⟨8, _⟩ => ⟨S65536x512, .f32⟩
  | .hbm, ⟨9, _⟩ => ⟨S65536x512, .bf16⟩
  | .hbm, ⟨10, _⟩ => ⟨S65536x512, .f32⟩
  | .hbm, ⟨11, _⟩ => ⟨S65536x128, .f32⟩
  | .hbm, ⟨12, _⟩ => ⟨S65536x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3072, .bf16⟩
  | .local _ .vmem, ⟨4, _⟩ => ⟨S1024x128, .bf16⟩
  | .local _ .vmem, ⟨5, _⟩ => ⟨S1024x128, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .f32⟩
  | .local _ .vmem, ⟨13, _⟩ => ⟨S1024x512, .f32⟩
  | .local _ .vmem, ⟨14, _⟩ => ⟨S1024x512, .bf16⟩
  | .local _ .vmem, ⟨15, _⟩ => ⟨S1024x512, .bf16⟩
  | .local _ .vmem, ⟨16, _⟩ => ⟨S1024x512, .f32⟩
  | .local _ .vmem, ⟨17, _⟩ => ⟨S1024x512, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev main_v0_6 : Ref sig .tc := ⟨.hbm, 11, rfl⟩
abbrev main_v0_7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== InProjRefIdeal.lean ====
abbrev S65536x1024 : Shape := ⟨2, ![65536, 1024]⟩
abbrev S1x1024 : Shape := ⟨2, ![1, 1024]⟩
abbrev S1024x3072 : Shape := ⟨2, ![1024, 3072]⟩
abbrev S1024x128 : Shape := ⟨2, ![1024, 128]⟩
abbrev S_ : Shape := ⟨0, ![]⟩
abbrev S65536 : Shape := ⟨1, ![65536]⟩
abbrev S65536x1 : Shape := ⟨2, ![65536, 1]⟩
abbrev S65536x3072 : Shape := ⟨2, ![65536, 3072]⟩
abbrev S65536x512 : Shape := ⟨2, ![65536, 512]⟩
abbrev S65536x128 : Shape := ⟨2, ![65536, 128]⟩

abbrev nBuf : Space → Nat
  | .hbm => 36
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1x1024, .f32⟩
  | .hbm, ⟨2, _⟩ => ⟨S1024x3072, .bf16⟩
  | .hbm, ⟨3, _⟩ => ⟨S1024x128, .bf16⟩
  | .hbm, ⟨4, _⟩ => ⟨S1024x128, .bf16⟩
  | .hbm, ⟨5, _⟩ => ⟨S65536x1024, .f32⟩
  | .hbm, ⟨6, _⟩ => ⟨S_, .f32⟩
  | .hbm, ⟨7, _⟩ => ⟨S65536, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S65536x1, .f32⟩
  | .hbm, ⟨16, _⟩ => ⟨S65536x1024, .f32⟩
  | .hbm, ⟨17, _⟩ => ⟨S65536x1024, .f32⟩
  | .hbm, ⟨18, _⟩ => ⟨S65536x1024, .f32⟩
  | .hbm, ⟨19, _⟩ => ⟨S65536x1024, .f32⟩
  | .hbm, ⟨20, _⟩ => ⟨S1024x3072, .f32⟩
  | .hbm, ⟨21, _⟩ => ⟨S65536x3072, .f32⟩
  | .hbm, ⟨22, _⟩ => ⟨S65536x512, .f32⟩
  | .hbm, ⟨23, _⟩ => ⟨S65536x512, .f32⟩
  | .hbm, ⟨24, _⟩ => ⟨S65536x512, .f32⟩
  | .hbm, ⟨25, _⟩ => ⟨S65536x512, .f32⟩
  | .hbm, ⟨26, _⟩ => ⟨S65536x512, .f32⟩
  | .hbm, ⟨27, _⟩ => ⟨S65536x512, .f32⟩
  | .hbm, ⟨28, _⟩ => ⟨S65536x512, .bf16⟩
  | .hbm, ⟨29, _⟩ => ⟨S65536x512, .bf16⟩
  | .hbm, ⟨30, _⟩ => ⟨S65536x512, .bf16⟩
  | .hbm, ⟨31, _⟩ => ⟨S65536x512, .bf16⟩
  | .hbm, ⟨32, _⟩ => ⟨S1024x128, .f32⟩
  | .hbm, ⟨33, _⟩ => ⟨S65536x128, .f32⟩
  | .hbm, ⟨34, _⟩ => ⟨S1024x128, .f32⟩
  | .hbm, ⟨35, _⟩ => ⟨S65536x128, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== KvProj.lean ====
abbrev S32x256x1024 : Shape := ⟨3, ![32, 256, 1024]⟩
abbrev S1x1024 : Shape := ⟨2, ![1, 1024]⟩
abbrev S1024x2048 : Shape := ⟨2, ![1024, 2048]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S32x256x1024, .f32⟩
  | .hbm, ⟨1, _⟩ => ⟨S1x1024, .f32⟩
  | .hbm, ⟨2, _⟩ => ⟨S1024x2048, .bf16⟩
  | .hbm, ⟨3, _⟩ => ⟨S32x256x1024, .bf16⟩
  | .hbm, ⟨4, _⟩ => ⟨S32x256x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x2048, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KvProjRefIdeal.lean ====
abbrev S32x256x1024 : Shape := ⟨3, ![32, 256, 1024]⟩
abbrev S1x1024 : Shape := ⟨2, ![1, 1024]⟩
abbrev S1024x2048 : Shape := ⟨2, ![1024, 2048]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S32x256x2048 : Shape := ⟨3, ![32, 256, 2048]⟩

abbrev nBuf : Space → Nat
  | .hbm => 25
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S1x1024, .f32⟩
  | .hbm, ⟨2, _⟩ => ⟨S1024x2048, .bf16⟩
  | .hbm, ⟨3, _⟩ => ⟨S32x256x1024, .f32⟩
  | .hbm, ⟨4, _⟩ => ⟨S_, .f32⟩
  | .hbm, ⟨5, _⟩ => ⟨S32x256, .f32⟩
  | .hbm, ⟨6, _⟩ => ⟨S32x256x1, .f32⟩
  | .hbm, ⟨7, _⟩ => ⟨S_, .f32⟩
  | .hbm, ⟨8, _⟩ => ⟨S32x256x1, .f32⟩
  | .hbm, ⟨9, _⟩ => ⟨S32x256x1, .f32⟩
  | .hbm, ⟨10, _⟩ => ⟨S_, .f32⟩
  | .hbm, ⟨11, _⟩ => ⟨S32x256x1, .f32⟩
  | .hbm, ⟨12, _⟩ => ⟨S32x256x1, .f32⟩
  | .hbm, ⟨13, _⟩ => ⟨S32x256x1, .f32⟩
  | .hbm, ⟨14, _⟩ => ⟨S32x256x1024, .f32⟩
  | .hbm, ⟨15, _⟩ => ⟨S32x256x1024, .f32⟩
  | .hbm, ⟨16, _⟩ => ⟨S1x1x1024, .f32⟩
  | .hbm, ⟨17, _⟩ => ⟨S32x256x1024, .f32⟩
  | .hbm, ⟨18, _⟩ => ⟨S32x256x1024, .f32⟩
  | .hbm, ⟨19, _⟩ => ⟨S1024x2048, .f32⟩
  | .hbm, ⟨20, _⟩ => ⟨S32x256x2048, .f32⟩
  | .hbm, ⟨21, _⟩ => ⟨S32x256x1024, .f32⟩
  | .hbm, ⟨22, _⟩ => ⟨S32x256x1024, .f32⟩
  | .hbm, ⟨23, _⟩ => ⟨S32x256x1024, .bf16⟩
  | .hbm, ⟨24, _⟩ => ⟨S32x256x1024, .bf16⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Post.lean ====
abbrev S32x2048x512 : Shape := ⟨3, ![32, 2048, 512]⟩
abbrev S32x2048x1024 : Shape := ⟨3, ![32, 2048, 1024]⟩
abbrev S32x256x1024 : Shape := ⟨3, ![32, 256, 1024]⟩
abbrev S512x1024 : Shape := ⟨2, ![512, 1024]⟩
abbrev S1x1024 : Shape := ⟨2, ![1, 1024]⟩
abbrev S1024x1024 : Shape := ⟨2, ![1024, 1024]⟩
abbrev S1024x256 : Shape := ⟨2, ![1024, 256]⟩
abbrev S1x128 : Shape := ⟨2, ![1, 128]⟩
abbrev S32x16384x128 : Shape := ⟨3, ![32, 16384, 128]⟩
abbrev S32x2048x128 : Shape := ⟨3, ![32, 2048, 128]⟩
abbrev S128x8x128 : Shape := ⟨3, ![128, 8, 128]⟩
abbrev S1x512x512 : Shape := ⟨3, ![1, 512, 512]⟩
abbrev S1x512x1024 : Shape := ⟨3, ![1, 512, 1024]⟩
abbrev S1x256x1024 : Shape := ⟨3, ![1, 256, 1024]⟩
abbrev S1x4096x128 : Shape := ⟨3, ![1, 4096, 128]⟩
abbrev S1x512x128 : Shape := ⟨3, ![1, 512, 128]⟩
abbrev S1x8x128 : Shape := ⟨3, ![1, 8, 128]⟩
abbrev S512x512 : Shape := ⟨2, ![512, 512]⟩
abbrev S512 : Shape := ⟨1, ![512]⟩
abbrev S512x1 : Shape := ⟨2, ![512, 1]⟩
abbrev S512x256 : Shape := ⟨2, ![512, 256]⟩
abbrev S1x256x256 : Shape := ⟨3, ![1, 256, 256]⟩
abbrev S256x256 : Shape := ⟨2, ![256, 256]⟩
abbrev S512x128 : Shape := ⟨2, ![512, 128]⟩
abbrev S4096x128 : Shape := ⟨2, ![4096, 128]⟩
abbrev S1024x128 : Shape := ⟨2, ![1024, 128]⟩
abbrev S8x128 : Shape := ⟨2, ![8, 128]⟩
abbrev S128 : Shape := ⟨1, ![128]⟩

abbrev nBuf : Space → Nat
  | .hbm => 19
  | .vmem => 30
  | .smem => 0
  | _ => 0

abbrev bufTy : (tb : Table) → Fin (tcTables nBuf tb) → BufTy
  | .hbm, ⟨0, _⟩ => ⟨S32x2048x512, .bf16⟩
  | .hbm, ⟨1, _⟩ => ⟨S32x2048x512, .bf16⟩
  | .hbm, ⟨2, _⟩ => ⟨S32x2048x1024, .f32⟩
  | .hbm, ⟨3, _⟩ => ⟨S32x256x1024, .bf16⟩
  | .hbm, ⟨4, _⟩ => ⟨S32x256x1024, .bf16⟩
  | .hbm, ⟨5, _⟩ => ⟨S512x1024, .bf16⟩
  | .hbm, ⟨6, _⟩ => ⟨S512x1024, .bf16⟩
  | .hbm, ⟨7, _⟩ => ⟨S1x1024, .f32⟩
  | .hbm, ⟨8, _⟩ => ⟨S1024x1024, .bf16⟩
  | .hbm, ⟨9, _⟩ => ⟨S1024x1024, .bf16⟩
  | .hbm, ⟨10, _⟩ => ⟨S1x1024, .f32⟩
  | .hbm, ⟨11, _⟩ => ⟨S1024x256, .bf16⟩
  | .hbm, ⟨12, _⟩ => ⟨S1x128, .f32⟩
  | .hbm, ⟨13, _⟩ => ⟨S32x2048x1024, .f32⟩
  | .hbm, ⟨14, _⟩ => ⟨S32x16384x128, .f32⟩
  | .hbm, ⟨15, _⟩ => ⟨S32x2048x128, .i32⟩
  | .hbm, ⟨16, _⟩ => ⟨S32x2048x128, .f32⟩
  | .hbm, ⟨17, _⟩ => ⟨S1x128, .f32⟩
  | .hbm, ⟨18, _⟩ => ⟨S128x8x128, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x1024, .f32⟩
  | .local _ .vmem, ⟨5, _⟩ => ⟨S1x512x1024, .f32⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1024x1024, .bf16⟩
  | .local _ .vmem, ⟨14, _⟩ => ⟨S1024x1024, .bf16⟩
  | .local _ .vmem, ⟨15, _⟩ => ⟨S1x1024, .f32⟩
  | .local _ .vmem, ⟨16, _⟩ => ⟨S1024x256, .bf16⟩
  | .local _ .vmem, ⟨17, _⟩ => ⟨S1x128, .f32⟩
  | .local _ .vmem, ⟨18, _⟩ => ⟨S1x512x1024, .f32⟩
  | .local _ .vmem, ⟨19, _⟩ => ⟨S1x512x1024, .f32⟩
  | .local _ .vmem, ⟨20, _⟩ => ⟨S1x4096x128, .f32⟩
  | .local _ .vmem, ⟨21, _⟩ => ⟨S1x4096x128, .f32⟩
  | .local _ .vmem, ⟨22, _⟩ => ⟨S1x512x128, .i32⟩
  | .local _ .vmem, ⟨23, _⟩ => ⟨S1x512x128, .i32⟩
  | .local _ .vmem, ⟨24, _⟩ => ⟨S1x512x128, .f32⟩
  | .local _ .vmem, ⟨25, _⟩ => ⟨S1x512x128, .f32⟩
  | .local _ .vmem, ⟨26, _⟩ => ⟨S1x128, .f32⟩
  | .local _ .vmem, ⟨27, _⟩ => ⟨S1x8x128, .f32⟩
  | .local _ .vmem, ⟨28, _⟩ => ⟨S1x8x128, .f32⟩
  | .local _ .vmem, ⟨29, _⟩ => ⟨S1x128, .f32⟩
  | _, _ => ⟨S32x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev main_v0_4 : Ref sig .tc := ⟨.hbm, 17, rfl⟩
abbrev main_v0_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg18_1 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem18_0 : DmaSem sig := 27
abbrev cc0_sem18_1 : DmaSem sig := 28

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x4096x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x128 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x8x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== PostRefIdeal.lean ====
abbrev S32x2048x512 : Shape := ⟨3, ![32, 2048, 512]⟩
abbrev S32x2048x1024 : Shape := ⟨3, ![32, 2048, 1024]⟩
abbrev S32x256x1024 : Shape := ⟨3, ![32, 256, 1024]⟩
abbrev S512x1024 : Shape := ⟨2, ![512, 1024]⟩
abbrev S1x1024 : Shape := ⟨2, ![1, 1024]⟩
abbrev S1024x1024 : Shape := ⟨2, ![1024, 1024]⟩
abbrev S1024x256 : Shape := ⟨2, ![1024, 256]⟩
abbrev S1x128 : Shape := ⟨2, ![1, 128]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x4x256 : Shape := ⟨4, ![32, 2048, 4, 256]⟩
abbrev S32x256x4x256 : Shape := ⟨4, ![32, 256, 4, 256]⟩
abbrev S32x4x2048x256 : Shape := ⟨4, ![32, 4, 2048, 256]⟩
abbrev S32x4x2048 : Shape := ⟨3, ![32, 4, 2048]⟩
abbrev S32x4x2048x1 : Shape := ⟨4, ![32, 4, 2048, 1]⟩
abbrev S32x4x256x2048 : Shape := ⟨4, ![32, 4, 256, 2048]⟩
abbrev S32x16384x128 : Shape := ⟨3, ![32, 16384, 128]⟩

abbrev nBuf : Space → Nat
  | .hbm => 85
  | .vmem => 0
  | .smem => 0
  | _ => 0

abbrev bufTy : (tb : Table) → Fin (tcTables nBuf tb) → BufTy
  | .hbm, ⟨0, _⟩ => ⟨S32x2048x512, .bf16⟩
  | .hbm, ⟨1, _⟩ => ⟨S32x2048x512, .bf16⟩
  | .hbm, ⟨2, _⟩ => ⟨S32x2048x1024, .f32⟩
  | .hbm, ⟨3, _⟩ => ⟨S32x256x1024, .bf16⟩
  | .hbm, ⟨4, _⟩ => ⟨S32x256x1024, .bf16⟩
  | .hbm, ⟨5, _⟩ => ⟨S512x1024, .bf16⟩
  | .hbm, ⟨6, _⟩ => ⟨S512x1024, .bf16⟩
  | .hbm, ⟨7, _⟩ => ⟨S1x1024, .f32⟩
  | .hbm, ⟨8, _⟩ => ⟨S1024x1024, .bf16⟩
  | .hbm, ⟨9, _⟩ => ⟨S1024x1024, .bf16⟩
  | .hbm, ⟨10, _⟩ => ⟨S1x1024, .f32⟩
  | .hbm, ⟨11, _⟩ => ⟨S1024x256, .bf16⟩
  | .hbm, ⟨12, _⟩ => ⟨S1x128, .f32⟩
  | .hbm, ⟨13, _⟩ => ⟨S32x2048x512, .f32⟩
  | .hbm, ⟨14, _⟩ => ⟨S32x2048x512, .f32⟩
  | .hbm, ⟨15, _⟩ => ⟨S32x256x1024, .f32⟩
  | .hbm, ⟨16, _⟩ => ⟨S32x256x1024, .f32⟩
  | .hbm, ⟨17, _⟩ => ⟨S512x1024, .f32⟩
  | .hbm, ⟨18, _⟩ => ⟨S512x1024, .f32⟩
  | .hbm, ⟨19, _⟩ => ⟨S1024x1024, .f32⟩
  | .hbm, ⟨20, _⟩ => ⟨S1024x1024, .f32⟩
  | .hbm, ⟨21, _⟩ => ⟨S32x2048x1024, .f32⟩
  | .hbm, ⟨22, _⟩ => ⟨S1024x1024, .f32⟩
  | .hbm, ⟨23, _⟩ => ⟨S32x2048x1024, .f32⟩
  | .hbm, ⟨24, _⟩ => ⟨S32x2048x1024, .f32⟩
  | .hbm, ⟨25, _⟩ => ⟨S32x2048x1024, .f32⟩
  | .hbm, ⟨26, _⟩ => ⟨S_, .f32⟩
  | .hbm, ⟨27, _⟩ => ⟨S32x2048, .f32⟩
  | .hbm, ⟨28, _⟩ => ⟨S32x2048x1, .f32⟩
  | .hbm, ⟨29, _⟩ => ⟨S_, .f32⟩
  | .hbm, ⟨30, _⟩ => ⟨S32x2048x1, .f32⟩
  | .hbm, ⟨31, _⟩ => ⟨S32x2048x1, .f32⟩
  | .hbm, ⟨32, _⟩ => ⟨S_, .f32⟩
  | .hbm, ⟨33, _⟩ => ⟨S32x2048x1, .f32⟩
  | .hbm, ⟨34, _⟩ => ⟨S32x2048x1, .f32⟩
  | .hbm, ⟨35, _⟩ => ⟨S32x2048x1, .f32⟩
  | .hbm, ⟨36, _⟩ => ⟨S32x2048x1024, .f32⟩
  | .hbm, ⟨37, _⟩ => ⟨S32x2048x1024, .f32⟩
  | .hbm, ⟨38, _⟩ => ⟨S1x1x1024, .f32⟩
  | .hbm, ⟨39, _⟩ => ⟨S32x2048x1024, .f32⟩
  | .hbm, ⟨40, _⟩ => ⟨S32x2048x1024, .f32⟩
  | .hbm, ⟨41, _⟩ => ⟨S32x2048x1024, .f32⟩
  | .hbm, ⟨42, _⟩ => ⟨S32x2048x4x256, .f32⟩
  | .hbm, ⟨43, _⟩ => ⟨S32x256x4x256, .f32⟩
  | .hbm, ⟨44, _⟩ => ⟨S32x256x4x256, .f32⟩
  | .hbm, ⟨45, _⟩ => ⟨S32x4x2048x256, .f32⟩
  | .hbm, ⟨46, _⟩ => ⟨S_, .f32⟩
  | .hbm, ⟨47, _⟩ => ⟨S32x4x2048x256, .f32⟩
  | .hbm, ⟨48, _⟩ => ⟨S32x4x2048x256, .f32⟩
  | .hbm, ⟨49, _⟩ => ⟨S_, .f32⟩
  | .hbm, ⟨50, _⟩ => ⟨S32x4x2048, .f32⟩
  | .hbm, ⟨51, _⟩ => ⟨S_, .f32⟩
  | .hbm, ⟨52, _⟩ => ⟨S32x4x2048, .f32⟩
  | .hbm, ⟨53, _⟩ => ⟨S32x4x2048, .f32⟩
  | .hbm, ⟨54, _⟩ => ⟨S32x4x2048x1, .f32⟩
  | .hbm, ⟨55, _⟩ => ⟨S32x4x2048x256, .f32⟩
  | .hbm, ⟨56, _⟩ => ⟨S32x4x2048x256, .f32⟩
  | .hbm, ⟨57, _⟩ => ⟨S32x4x2048x256, .f32⟩
  | .hbm, ⟨58, _⟩ => ⟨S_, .f32⟩
  | .hbm, ⟨59, _⟩ => ⟨S32x4x2048, .f32⟩
  | .hbm, ⟨60, _⟩ => ⟨S32x4x2048x1, .f32⟩
  | .hbm, ⟨61, _⟩ => ⟨S32x4x2048x256, .f32⟩
  | .hbm, ⟨62, _⟩ => ⟨S32x4x2048x256, .f32⟩
  | .hbm, ⟨63, _⟩ => ⟨S32x4x256x2048, .f32⟩
  | .hbm, ⟨64, _⟩ => ⟨S32x2048x4x256, .f32⟩
  | .hbm, ⟨65, _⟩ => ⟨S32x2048x1024, .f32⟩
  | .hbm, ⟨66, _⟩ => ⟨S32x2048x1024, .f32⟩
  | .hbm, ⟨67, _⟩ => ⟨S32x2048x1024, .f32⟩
  | .hbm, ⟨68, _⟩ => ⟨S32x2048x1024, .f32⟩
  | .hbm, ⟨69, _⟩ => ⟨S_, .f32⟩
  | .hbm, ⟨70, _⟩ => ⟨S32x2048, .f32⟩
  | .hbm, ⟨71, _⟩ => ⟨S32x2048x1, .f32⟩
  | .hbm, ⟨72, _⟩ => ⟨S_, .f32⟩
  | .hbm, ⟨73, _⟩ => ⟨S32x2048x1, .f32⟩
  | .hbm, ⟨74, _⟩ => ⟨S32x2048x1, .f32⟩
  | .hbm, ⟨75, _⟩ => ⟨S_, .f32⟩
  | .hbm, ⟨76, _⟩ => ⟨S32x2048x1, .f32⟩
  | .hbm, ⟨77, _⟩ => ⟨S32x2048x1, .f32⟩
  | .hbm, ⟨78, _⟩ => ⟨S32x2048x1, .f32⟩
  | .hbm, ⟨79, _⟩ => ⟨S32x2048x1024, .f32⟩
  | .hbm, ⟨80, _⟩ => ⟨S32x2048x1024, .f32⟩
  | .hbm, ⟨81, _⟩ => ⟨S1x1x1024, .f32⟩
  | .hbm, ⟨82, _⟩ => ⟨S32x2048x1024, .f32⟩
  | .hbm, ⟨83, _⟩ => ⟨S32x2048x1024, .f32⟩
  | .hbm, ⟨84, _⟩ => ⟨S32x16384x128, .f32⟩
  | _, _ => ⟨S32x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_cst_0 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_2 : Ref sig .tc := ⟨.hbm, 46, rfl⟩
abbrev main_v30 : Ref sig .tc := ⟨.hbm, 47, rfl⟩
abbrev main_v31 : Ref sig .tc := ⟨.hbm, 48, rfl⟩
abbrev main_cst_3 : Ref sig .tc := ⟨.hbm, 49, rfl⟩
abbrev main_v32 : Ref sig .tc := ⟨.hbm, 50, rfl⟩
abbrev main_cst_4 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_5 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_6 : Ref sig .tc := ⟨.hbm, 69, rfl⟩
abbrev main_v49 : Ref sig .tc := ⟨.hbm, 70, rfl⟩
abbrev main_v50 : Ref sig .tc := ⟨.hbm, 71, rfl⟩
abbrev main_cst_7 : Ref sig .tc := ⟨.hbm, 72, rfl⟩
abbrev main_v51 : Ref sig .tc := ⟨.hbm, 73, rfl⟩
abbrev main_v52 : Ref sig .tc := ⟨.hbm, 74, rfl⟩
abbrev main_cst_8 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩

abbrev nD : Nat := 1
abbrev τ : Topo := Topo.v7x

variable {F : FTy → Type} [FloatOps F]
-- ==== Split.lean ====
abbrev S32x1024x2048 : Shape := ⟨3, ![32, 1024, 2048]⟩
abbrev S256 : Shape := ⟨1, ![256]⟩
abbrev S256x1 : Shape := ⟨2, ![256, 1]⟩
abbrev S1x256 : Shape := ⟨2, ![1, 256]⟩
abbrev S_ : Shape := ⟨0, ![]⟩
abbrev S256x256 : Shape := ⟨2, ![256, 256]⟩
abbrev S32x1024x1024 : Shape := ⟨3, ![32, 1024, 1024]⟩
abbrev S1x256x2048 : Shape := ⟨3, ![1, 256, 2048]⟩
abbrev S1x256x1024 : Shape := ⟨3, ![1, 256, 1024]⟩
abbrev S256x2048 : Shape := ⟨2, ![256, 2048]⟩
abbrev S256x128 : Shape := ⟨2, ![256, 128]⟩
abbrev S1x256x128 : Shape := ⟨3, ![1, 256, 128]⟩

abbrev nBuf : Space → Nat
  | .hbm => 31
  | .vmem => 7
  | .smem => 0
  | _ => 0

abbrev bufTy : (tb : Table) → Fin (tcTables nBuf tb) → BufTy
  | .hbm, ⟨0, _⟩ => ⟨S32x1024x2048, .f32⟩
  | .hbm, ⟨1, _⟩ => ⟨S256, .i32⟩
  | .hbm, ⟨2, _⟩ => ⟨S256x1, .i32⟩
  | .hbm, ⟨3, _⟩ => ⟨S256, .i32⟩
  | .hbm, ⟨4, _⟩ => ⟨S1x256, .i32⟩
  | .hbm, ⟨5, _⟩ => ⟨S_, .i32⟩
  | .hbm, ⟨6, _⟩ => ⟨S1x256, .i32⟩
  | .hbm, ⟨7, _⟩ => ⟨S1x256, .i1⟩
  | .hbm, ⟨8, _⟩ => ⟨S_, .i32⟩
  | .hbm, ⟨9, _⟩ => ⟨S1x256, .i32⟩
  | .hbm, ⟨10, _⟩ => ⟨S1x256, .i32⟩
  | .hbm, ⟨11, _⟩ => ⟨S256x256, .i32⟩
  | .hbm, ⟨12, _⟩ => ⟨S256x256, .i32⟩
  | .hbm, ⟨13, _⟩ => ⟨S256x256, .i1⟩
  | .hbm, ⟨14, _⟩ => ⟨S_, .i32⟩
  | .hbm, ⟨15, _⟩ => ⟨S1x256, .i32⟩
  | .hbm, ⟨16, _⟩ => ⟨S1x256, .i32⟩
  | .hbm, ⟨17, _⟩ => ⟨S_, .i32⟩
  | .hbm, ⟨18, _⟩ => ⟨S1x256, .i32⟩
  | .hbm, ⟨19, _⟩ => ⟨S1x256, .i32⟩
  | .hbm, ⟨20, _⟩ => ⟨S_, .i32⟩
  | .hbm, ⟨21, _⟩ => ⟨S1x256, .i32⟩
  | .hbm, ⟨22, _⟩ => ⟨S1x256, .i32⟩
  | .hbm, ⟨23, _⟩ => ⟨S256x256, .i32⟩
  | .hbm, ⟨24, _⟩ => ⟨S256x256, .i32⟩
  | .hbm, ⟨25, _⟩ => ⟨S256x256, .i1⟩
  | .hbm, ⟨26, _⟩ => ⟨S256x256, .i1⟩
  | .hbm, ⟨27, _⟩ => ⟨S256x256, .i1⟩
  | .hbm, ⟨28, _⟩ => ⟨S256x256, .bf16⟩
  | .hbm, ⟨29, _⟩ => ⟨S32x1024x1024, .bf16⟩
  | .hbm, ⟨30, _⟩ => ⟨S32x1024x1024, .bf16⟩
  | .local _ .vmem, ⟨0, _⟩ => ⟨S1x256x2048, .f32⟩
  | .local _ .vmem, ⟨1, _⟩ => ⟨S1x256x2048, .f32⟩
  | .local _ .vmem, ⟨2, _⟩ => ⟨S256x256, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | _, _ => ⟨S32x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_c_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c_1 : Ref sig .tc := ⟨.hbm, 14, rfl⟩
abbrev main_v11 : Ref sig .tc := ⟨.hbm, 15, rfl⟩
abbrev main_v12 : Ref sig .tc := ⟨.hbm, 16, rfl⟩
abbrev main_c_2 : Ref sig .tc := ⟨.hbm, 17, rfl⟩
abbrev main_v13 : Ref sig .tc := ⟨.hbm, 18, rfl⟩
abbrev main_v14 : Ref sig .tc := ⟨.hbm, 19, rfl⟩
abbrev main_c_3 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_call0_v0 : Ref sig .tc := ⟨.hbm, 26, rfl⟩
abbrev main_v20 : Ref sig .tc := ⟨.hbm, 27, rfl⟩
abbrev main_v21 : Ref sig .tc := ⟨.hbm, 28, rfl⟩
abbrev main_v22_0 : Ref sig .tc := ⟨.hbm, 29, rfl⟩
abbrev main_v22_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SplitRefIdeal.lean ====
abbrev S32x1024x2048 : Shape := ⟨3, ![32, 1024, 2048]⟩
abbrev S32x1024x1024 : Shape := ⟨3, ![32, 1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S32x1024x2048, .f32⟩
  | .hbm, ⟨1, _⟩ => ⟨S32x1024x1024, .f32⟩
  | .hbm, ⟨2, _⟩ => ⟨S32x1024x1024, .bf16⟩
  | .hbm, ⟨3, _⟩ => ⟨S32x1024x1024, .f32⟩
  | .hbm, ⟨4, _⟩ => ⟨S32x1024x1024, .bf16⟩
  | _, _ => ⟨S32x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩

abbrev nD : Nat := 1
abbrev τ : Topo := Topo.v7x

variable {F : FTy → Type} [FloatOps F]
-- ==== Proof.Attn.Vecs.lean ====
/- The block the attention kernel writes, in named steps over whole vectors: the printed payloads regrouped. -/
module

public import proofs.«01_k».proof.Proof.Gen.AttnIdeal.Frame
public import Idealize.ShloMosaic.Lib.Pipeline.Value
public import Idealize.ShloMosaic.Lib.Pointwise

@[expose] public section

noncomputable section

namespace Cert.AttnIdeal.Blk

open Cert.AttnIdeal Cert.AttnIdeal.Gen Idealize.ShloMosaic Idealize.SL.Sem

/-- The low lanes (below 64), one bit per lane. -/
def lanesLo : IVec S1x128 1 := cmpi .slt (iota .tc S1x128 32 [1] iota_S1x128_d1_w32) (broadcast S1x128 64#32)

/-- The causal triangle inside a diagonal tile: column at most row. -/
def tri : IVec S512x512 1 :=
  cmpi .sle (iota .tc S512x512 32 [1] iota_S512x512_d1_w32) (iota .tc S512x512 32 [0] iota_S512x512_d0_w32)

/-- A tile of queries times an eighth. -/
def qs (q : Vec Ideal S1x512x128 .bf16) : FVec Ideal S512x128 .bf16 :=
  mulf (shapeCast S512x128 q shapeCasts_S1x512x128_S512x128) (broadcast S512x128 (Scalar.ofBits .bf16 0x3E00#16))

/-- The zero tile that masks a half of the lanes. -/
def zq : FVec Ideal S512x128 .bf16 := broadcast S512x128 (Scalar.ofBits .bf16 0x0000#16)

/-- The lane bits spread over the rows of a tile. -/
def lanes2 : IVec S512x128 1 :=
  broadcastTo S512x128 (shapeCast S1x128 lanesLo shapeCasts_S1x128_S1x128) broadcasts_S1x128_S512x128

/-- The scaled queries on the low lanes, zero on the high ones. -/
def qlo (q : Vec Ideal S1x512x128 .bf16) : FVec Ideal S512x128 .bf16 := select lanes2 (qs q) zq

/-- The scaled queries on the high lanes, zero on the low ones. -/
def qhi (q : Vec Ideal S1x512x128 .bf16) : FVec Ideal S512x128 .bf16 := select lanes2 zq (qs q)

/-- Scores of a tile of masked queries against a tile of keys. -/
def scr (qm : FVec Ideal S512x128 .bf16) (k : Vec Ideal S1x512x128 .bf16) : FVec Ideal S512x512 .f32 :=
  matmul dot_S512x128_S512x128_S512x512_1_1_0_0_n_n none qm
    (shapeCast S512x128 k shapeCasts_S1x512x128_S512x128 : FVec Ideal S512x128 .bf16) (constant S512x512 .f32 0x00000000#32)

/-- Scores of a diagonal tile: minus infinity above the diagonal. -/
def scrD (qm : FVec Ideal S512x128 .bf16) (k : Vec Ideal S1x512x128 .bf16) : FVec Ideal S512x512 .f32 :=
  select tri (scr qm k) (broadcast S512x512 (Scalar.ofBits .f32 0xFF800000#32))

/-- The four groups of 128 columns of a tile, folded by maximum. -/
def foldMax (s : FVec Ideal S512x512 .f32) : FVec Ideal S512x128 .f32 :=
  maximumf (maximumf (maximumf (extractStridedSlice S512x128 ![0, 0] s slices_S512x512_o0_0_S512x128)
    (extractStridedSlice S512x128 ![0, 128] s slices_S512x512_o0_128_S512x128))
    (extractStridedSlice S512x128 ![0, 256] s slices_S512x512_o0_256_S512x128))
    (extractStridedSlice S512x128 ![0, 384] s slices_S512x512_o0_384_S512x128)

/-- The four groups of 128 columns of a tile, folded by addition. -/
def foldAdd (s : FVec Ideal S512x512 .f32) : FVec Ideal S512x128 .f32 :=
  addf (addf (addf (extractStridedSlice S512x128 ![0, 0] s slices_S512x512_o0_0_S512x128)
    (extractStridedSlice S512x128 ![0, 128] s slices_S512x512_o0_128_S512x128))
    (extractStridedSlice S512x128 ![0, 256] s slices_S512x512_o0_256_S512x128))
    (extractStridedSlice S512x128 ![0, 384] s slices_S512x512_o0_384_S512x128)

/-- The maximum of each row, as a column. -/
def rowMax (x : FVec Ideal S512x128 .f32) : FVec Ideal S512x1 .f32 :=
  shapeCast S512x1 (multiReduction .maximumf [1] S512 x 0xFF800000#32 reduces_S512x128_S512 (.inl rfl) rfl) shapeCasts_S512_S512x1

/-- The sum of each row, as a column. -/
def rowSum (x : FVec Ideal S512x128 .f32) : FVec Ideal S512x1 .f32 :=
  shapeCast S512x1 (multiReduction .add [1] S512 x 0x00000000#32 reduces_S512x128_S512 (.inl rfl) rfl) shapeCasts_S512_S512x1

/-- The exponentials of a tile of scores less the row maxima. -/
def pexp (s : FVec Ideal S512x512 .f32) (mx : FVec Ideal S512x1 .f32) : FVec Ideal S512x512 .f32 :=
  exp (subf s (broadcastTo S512x512 mx broadcasts_S512x1_S512x512))

/-- A tile of exponentials times a tile of values. -/
def pv (p : FVec Ideal S512x512 .f32) (v : Vec Ideal S1x512x128 .bf16) : FVec Ideal S512x128 .f32 :=
  matmul dot_S512x512_S512x128_S512x128_1_0_0_1_n_n none (truncf .bf16 p bitsLt_bf16_f32)
    (shapeCast S512x128 v shapeCasts_S1x512x128_S512x128 : FVec Ideal S512x128 .bf16) (constant S512x128 .f32 0x00000000#32)

/-- The row maxima over a first tile of scores and a list of further ones. -/
def mxs (s : FVec Ideal S512x512 .f32) (rest : List (FVec Ideal S512x512 .f32 × Vec Ideal S1x512x128 .bf16)) :
    FVec Ideal S512x1 .f32 :=
  rowMax (rest.foldl (fun a e => maximumf a (foldMax e.1)) (foldMax s))

/-- The unnormalised output over the tiles. -/
def accs (mx : FVec Ideal S512x1 .f32) (s : FVec Ideal S512x512 .f32) (v : Vec Ideal S1x512x128 .bf16)
    (rest : List (FVec Ideal S512x512 .f32 × Vec Ideal S1x512x128 .bf16)) : FVec Ideal S512x128 .f32 :=
  rest.foldl (fun a e => addf a (pv (pexp e.1 mx) e.2)) (pv (pexp s mx) v)

/-- The sums of exponentials over the tiles, lane by lane. -/
def lsums (mx : FVec Ideal S512x1 .f32) (s : FVec Ideal S512x512 .f32)
    (rest : List (FVec Ideal S512x512 .f32 × Vec Ideal S1x512x128 .bf16)) : FVec Ideal S512x128 .f32 :=
  rest.foldl (fun a e => addf a (foldAdd (pexp e.1 mx))) (foldAdd (pexp s mx))

/-- One softmax-weighted average of the values. -/
def sm (s : FVec Ideal S512x512 .f32) (v : Vec Ideal S1x512x128 .bf16)
    (rest : List (FVec Ideal S512x512 .f32 × Vec Ideal S1x512x128 .bf16)) : FVec Ideal S512x128 .f32 :=
  divf (accs (mxs s rest) s v rest)
    (broadcastTo S512x128 (rowSum (lsums (mxs s rest) s rest)) broadcasts_S512x1_S512x128)

/-- The scalar weight of the second softmax. -/
def lamV (a b c d : Vec Ideal S1x64 .f32) : FVec Ideal S1x1 .f32 :=
  addf (subf
    (exp (shapeCast S1x1 (multiReduction .add [1] S1 (mulf a b) 0x00000000#32 reduces_S1x64_S1 (.inl rfl) rfl) shapeCasts_S1_S1x1))
    (exp (shapeCast S1x1 (multiReduction .add [1] S1 (mulf c d) 0x00000000#32 reduces_S1x64_S1 (.inl rfl) rfl) shapeCasts_S1_S1x1)))
    (broadcast S1x1 (Scalar.ofBits .f32 0x3E4CCCCD#32))

/-- The difference of the two averages. -/
def od (lam : FVec Ideal S1x1 .f32) (o1 o2 : FVec Ideal S512x128 .f32) : FVec Ideal S512x128 .f32 :=
  subf o1 (mulf (broadcastTo S512x128 lam broadcasts_S1x1_S512x128) o2)

/-- The reciprocal root mean square of each row. -/
def rinv (x : FVec Ideal S512x128 .f32) : FVec Ideal S512x1 .f32 :=
  rsqrt (addf (divf (rowSum (mulf x x)) (broadcast S512x1 (Scalar.ofBits .f32 0x43000000#32)))
    (broadcast S512x1 (Scalar.ofBits .f32 0x3727C5AC#32)))

/-- The normalised, weighted and scaled rows, as the kernel stores them. -/
def fin (x : FVec Ideal S512x128 .f32) (g : Vec Ideal S1x128 .f32) : FVec Ideal S1x512x128 .bf16 :=
  shapeCast S1x512x128 (truncf .bf16 (mulf (mulf (mulf x (broadcastTo S512x128 (rinv x) broadcasts_S512x1_S512x128))
    (broadcastTo S512x128 g broadcasts_S1x128_S512x128)) (broadcast S512x128 (Scalar.ofBits .f32 0x3F4CCCCD#32))) bitsLt_bf16_f32)
    shapeCasts_S512x128_S1x512x128

variable (x0 x1 x2 : Vec Ideal S1x2048x128 .bf16) (x3 x4 x5 x6 : Vec Ideal S1x64 .f32) (x7 : Vec Ideal S1x128 .f32)

/-- The scalar weight from the argument vectors. -/
def lamX : FVec Ideal S1x1 .f32 := lamV (View.ld x3 r0_0) (View.ld x4 r0_0) (View.ld x5 r0_0) (View.ld x6 r0_0)

/-- What the first 512 rows receive. -/
def p0 : FVec Ideal S1x512x128 .bf16 :=
  fin (od (lamX x3 x4 x5 x6)
    (sm (scrD (qlo (View.ld x0 r0_1)) (View.ld x1 r0_1)) (View.ld x2 r0_1) [])
    (sm (scrD (qhi (View.ld x0 r0_1)) (View.ld x1 r0_1)) (View.ld x2 r0_1) [])) (View.ld x7 r0_2)

/-- What the second 512 rows receive. -/
def p1 : FVec Ideal S1x512x128 .bf16 :=
  fin (od (lamX x3 x4 x5 x6)
    (sm (scr (qlo (View.ld x0 r0_3)) (View.ld x1 r0_1)) (View.ld x2 r0_1)
      [(scrD (qlo (View.ld x0 r0_3)) (View.ld x1 r0_3), View.ld x2 r0_3)])
    (sm (scr (qhi (View.ld x0 r0_3)) (View.ld x1 r0_1)) (View.ld x2 r0_1)
      [(scrD (qhi (View.ld x0 r0_3)) (View.ld x1 r0_3), View.ld x2 r0_3)])) (View.ld x7 r0_2)

/-- What the third 512 rows receive. -/
def p2 : FVec Ideal S1x512x128 .bf16 :=
  fin (od (lamX x3 x4 x5 x6)
    (sm (scr (qlo (View.ld x0 r0_4)) (View.ld x1 r0_1)) (View.ld x2 r0_1)
      [(scr (qlo (View.ld x0 r0_4)) (View.ld x1 r0_3), View.ld x2 r0_3),
       (scrD (qlo (View.ld x0 r0_4)) (View.ld x1 r0_4), View.ld x2 r0_4)])
    (sm (scr (qhi (View.ld x0 r0_4)) (View.ld x1 r0_1)) (View.ld x2 r0_1)
      [(scr (qhi (View.ld x0 r0_4)) (View.ld x1 r0_3), View.ld x2 r0_3),
       (scrD (qhi (View.ld x0 r0_4)) (View.ld x1 r0_4), View.ld x2 r0_4)])) (View.ld x7 r0_2)

/-- What the last 512 rows receive. -/
def p3 : FVec Ideal S1x512x128 .bf16 :=
  fin (od (lamX x3 x4 x5 x6)
    (sm (scr (qlo (View.ld x0 r0_5)) (View.ld x1 r0_1)) (View.ld x2 r0_1)
      [(scr (qlo (View.ld x0 r0_5)) (View.ld x1 r0_3), View.ld x2 r0_3),
       (scr (qlo (View.ld x0 r0_5)) (View.ld x1 r0_4), View.ld x2 r0_4),
       (scrD (qlo (View.ld x0 r0_5)) (View.ld x1 r0_5), View.ld x2 r0_5)])
    (sm (scr (qhi (View.ld x0 r0_5)) (View.ld x1 r0_1)) (View.ld x2 r0_1)
      [(scr (qhi (View.ld x0 r0_5)) (View.ld x1 r0_3), View.ld x2 r0_3),
       (scr (qhi (View.ld x0 r0_5)) (View.ld x1 r0_4), View.ld x2 r0_4),
       (scrD (qhi (View.ld x0 r0_5)) (View.ld x1 r0_5), View.ld x2 r0_5)])) (View.ld x7 r0_2)

set_option maxHeartbeats 4000000 in
/-- The block the body writes is its four stores, in these names. -/
theorem out_eq : out0_8 (F := Ideal) x0 x1 x2 x3 x4 x5 x6 x7
    = View.canon [⟨r0_5, p3 x0 x1 x2 x3 x4 x5 x6 x7⟩, ⟨r0_4, p2 x0 x1 x2 x3 x4 x5 x6 x7⟩,
        ⟨r0_3, p1 x0 x1 x2 x3 x4 x5 x6 x7⟩, ⟨r0_1, p0 x0 x1 x2 x3 x4 x5 x6 x7⟩] := by
  unfold_out out0_8
  unfold_payloads
  dsimp only [p0, p1, p2, p3, fin, od, rinv, sm, mxs, accs, lsums, lamX, lamV, List.foldl, pexp, pv, foldMax, foldAdd,
    scr, scrD, qlo, qhi, qs, zq, rowMax, rowSum, tri, lanes2, lanesLo]

end Cert.AttnIdeal.Blk

end
-- ==== Proof.Attn.Alg.lean ====
/- The arithmetic of one row: softmax weights over extended reals, and a difference of two averages against the average
   under a difference of weights. No program is mentioned here. -/
module

public import Idealize.ShloMosaic.Lib.Pointwise

@[expose] public section

noncomputable section

namespace Cert.DiffAlg

open Idealize.ShloMosaic

/-- The exponential of an element less a bound above it is a real number at least 0. -/
theorem exp_sub_real (s m : EReal) (h : s ≤ m) : ∃ p : ℝ, 0 ≤ p ∧ Ideal.exp (s - m) = (p : EReal) := by
  induction m with
  | bot =>
    obtain rfl : s = ⊥ := le_bot_iff.mp h
    exact ⟨0, le_refl _, by simp [sub_eq_add_neg]⟩
  | top =>
    refine ⟨0, le_refl _, ?_⟩
    have : s - ⊤ = ⊥ := by simp [sub_eq_add_neg]
    rw [this]; simp
  | coe m =>
    induction s with
    | bot => exact ⟨0, le_refl _, by simp [sub_eq_add_neg]⟩
    | top => exact absurd (top_le_iff.mp h) (EReal.coe_ne_top m)
    | coe s => exact ⟨Real.exp (s - m), (Real.exp_pos _).le, by rw [← EReal.coe_sub, Ideal.exp_coe]⟩

/-- The exponential of minus infinity less anything is 0. -/
theorem exp_bot_sub (m : EReal) : Ideal.exp (⊥ - m) = 0 := by
  simp [sub_eq_add_neg]

/-- A value is 0 or one of the infinities. -/
def Ext (x : EReal) : Prop := x = 0 ∨ x = ⊤ ∨ x = ⊥

theorem Ext.add {x y : EReal} (hx : Ext x) (hy : Ext y) : Ext (x + y) := by
  rcases hx with rfl | rfl | rfl <;> rcases hy with rfl | rfl | rfl <;> simp [Ext]

theorem Ext.sum {ι : Type} (s : Finset ι) (f : ι → EReal) (h : ∀ i ∈ s, Ext (f i)) : Ext (∑ i ∈ s, f i) :=
  Finset.sum_induction f Ext (fun _ _ => Ext.add) (Or.inl rfl) h

/-- An infinity times a real number is 0 or an infinity. -/
theorem Ext.mul_coe {x : EReal} (hx : Ext x) (r : ℝ) : Ext (x * (r : EReal)) := by
  rcases hx with rfl | rfl | rfl
  · left; simp
  · rcases lt_trichotomy r 0 with h | rfl | h
    · right; right; exact EReal.top_mul_coe_of_neg h
    · left; simp
    · right; left; exact EReal.top_mul_coe_of_pos h
  · rcases lt_trichotomy r 0 with h | rfl | h
    · right; left; exact EReal.bot_mul_coe_of_neg h
    · left; simp
    · right; right; exact EReal.bot_mul_coe_of_pos h

/-- The word of 128. -/
theorem ofBits_128 : Ideal.ofBits .f32 0x43000000#32 = ((128 : ℝ) : EReal) := by
  simp [Ideal.ofBits, Ideal.ieee, -EReal.coe_mul]; norm_num

/-- The word of an eighth. -/
theorem ofBits_eighth : Ideal.ofBits .f32 0x3E000000#32 = ((1 / 8 : ℝ) : EReal) := by
  simp [Ideal.ofBits, Ideal.ieee, -EReal.coe_mul]; norm_num

/-- The short word of an eighth. -/
theorem ofBits_eighth_bf16 : Ideal.ofBits .bf16 0x3E00#16 = ((1 / 8 : ℝ) : EReal) := by
  simp [Ideal.ofBits, Ideal.ieee, -EReal.coe_mul]; norm_num

/-- The word of minus infinity. -/
theorem ofBits_bot : Ideal.ofBits .f32 0xFF800000#32 = ⊥ := by
  simp [Ideal.ofBits, Ideal.ieee]

/-- The word the mean square is raised by is not minus infinity. -/
theorem ofBits_eps_ne : Ideal.ofBits .f32 0x3727C5AC#32 ≠ ⊥ := by
  simp [Ideal.ofBits, Ideal.ieee, -EReal.coe_mul]

/-- The word of a fifth denotes a real number. -/
theorem ofBits_fifth : ∃ r : ℝ, Ideal.ofBits .f32 0x3E4CCCCD#32 = (r : EReal) := by
  refine ⟨(Ideal.ofBits .f32 0x3E4CCCCD#32).toReal, ?_⟩
  simp [Ideal.ofBits, Ideal.ieee, -EReal.coe_mul]

/-- The reciprocal root of the mean square of 128 lanes, raised by the small constant. -/
def rinv (x : Fin 128 → EReal) : EReal :=
  Ideal.rsqrt (Ideal.div (∑ n, x n * x n) (Ideal.ofBits .f32 0x43000000#32) + Ideal.ofBits .f32 0x3727C5AC#32)

/-- A row of zeros and infinities is normalised to zeros. -/
theorem mul_rinv_of_ext (x : Fin 128 → EReal) (h : ∀ n, Ext (x n)) (n : Fin 128) : x n * rinv x = 0 := by
  by_cases h0 : ∀ n, x n = 0
  · rw [h0 n, zero_mul]
  · obtain ⟨k, hk⟩ := not_forall.mp h0
    have hsq : ∀ n, 0 ≤ x n * x n := fun n => by
      rcases h n with e | e | e <;> rw [e] <;> simp
    have hkt : x k * x k = ⊤ := by
      rcases h k with e | e | e
      · exact absurd e hk
      · rw [e]; simp
      · rw [e]; simp
    have hs : ∑ n, x n * x n = ⊤ := by
      refine top_le_iff.mp ?_
      rw [← hkt]
      exact Finset.single_le_sum (f := fun n => x n * x n) (fun n _ => hsq n) (Finset.mem_univ k)
    have hr : rinv x = 0 := by
      unfold rinv
      rw [hs, ofBits_128, Ideal.div_coe (by norm_num), EReal.top_mul_coe_of_pos (by norm_num),
        EReal.top_add_of_ne_bot ofBits_eps_ne, Ideal.rsqrt_top]
    rw [hr, mul_zero]

variable {ι : Type} [Fintype ι]

/-- The unnormalised softmax weight of an element of a row. -/
def P (s : ι → EReal) (k : ι) : EReal := Ideal.exp (s k - Finset.univ.sup s)

/-- The sum of a row's unnormalised weights. -/
def L (s : ι → EReal) : EReal := ∑ k, P s k

/-- The weights of a row are real numbers at least 0. -/
theorem P_real (s : ι → EReal) : ∃ p : ι → ℝ, (∀ k, 0 ≤ p k) ∧ P s = fun k => (p k : EReal) := by
  have h : ∀ k, ∃ p : ℝ, 0 ≤ p ∧ P s k = (p : EReal) := fun k =>
    exp_sub_real _ _ (Finset.le_sup (Finset.mem_univ k))
  choose p hp he using h
  exact ⟨p, hp, funext he⟩

/-- A finite sum of real numbers, as extended reals. -/
theorem coe_sum {κ : Type} (s : Finset κ) (f : κ → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The kernel's difference of two averages. -/
def kod (s1 s2 : ι → EReal) (lam : EReal) (v : ι → Fin 128 → EReal) (n : Fin 128) : EReal :=
  Ideal.div (∑ k, P s1 k * v k n) (L s1) - lam * Ideal.div (∑ k, P s2 k * v k n) (L s2)

/-- The reference's average under the difference of weights. -/
def rod (s1 s2 : ι → EReal) (lam : EReal) (v : ι → Fin 128 → EReal) (n : Fin 128) : EReal :=
  ∑ k, (Ideal.div (P s1 k) (L s1) - lam * Ideal.div (P s2 k) (L s2)) * v k n

theorem div_zero_zero : Ideal.div 0 0 = ⊥ := by simp [Ideal.div]

/-- Once normalised, the two rows agree, for real values and a real weight. -/
theorem kod_rinv_eq (s1 s2 : ι → EReal) (lam : ℝ) (v : ι → Fin 128 → ℝ) (n : Fin 128) :
    kod s1 s2 lam (fun k n => (v k n : EReal)) n * rinv (kod s1 s2 lam (fun k n => (v k n : EReal)))
      = rod s1 s2 lam (fun k n => (v k n : EReal)) n * rinv (rod s1 s2 lam (fun k n => (v k n : EReal))) := by
  obtain ⟨p1, hp1, e1⟩ := P_real s1
  obtain ⟨p2, hp2, e2⟩ := P_real s2
  have hL1 : L s1 = ((∑ k, p1 k : ℝ) : EReal) := by unfold L; rw [e1, coe_sum]
  have hL2 : L s2 = ((∑ k, p2 k : ℝ) : EReal) := by unfold L; rw [e2, coe_sum]
  have hA1 : ∀ n, ∑ k, P s1 k * (v k n : EReal) = ((∑ k, p1 k * v k n : ℝ) : EReal) := fun n => by
    rw [e1, coe_sum]; exact Finset.sum_congr rfl fun k _ => (EReal.coe_mul _ _).symm
  have hA2 : ∀ n, ∑ k, P s2 k * (v k n : EReal) = ((∑ k, p2 k * v k n : ℝ) : EReal) := fun n => by
    rw [e2, coe_sum]; exact Finset.sum_congr rfl fun k _ => (EReal.coe_mul _ _).symm
  by_cases z1 : (∑ k, p1 k) = 0
  · -- no weight on the first side
    have hz : ∀ k, p1 k = 0 := fun k => (Finset.sum_eq_zero_iff_of_nonneg fun k _ => hp1 k).mp z1 k (Finset.mem_univ k)
    have hk : ∀ n, Ext (kod s1 s2 lam (fun k n => (v k n : EReal)) n) := fun n => by
      right; right
      unfold kod
      rw [hA1, hL1, z1]
      simp [hz, div_zero_zero, sub_eq_add_neg]
    have hr : ∀ n, Ext (rod s1 s2 lam (fun k n => (v k n : EReal)) n) := fun n => by
      unfold rod
      refine Ext.sum _ _ fun k _ => Ext.mul_coe ?_ _
      right; right
      rw [hL1, z1, e1]
      simp [hz, div_zero_zero, sub_eq_add_neg]
    rw [mul_rinv_of_ext _ hk, mul_rinv_of_ext _ hr]
  · by_cases z2 : (∑ k, p2 k) = 0
    · have hz : ∀ k, p2 k = 0 := fun k => (Finset.sum_eq_zero_iff_of_nonneg fun k _ => hp2 k).mp z2 k (Finset.mem_univ k)
      rcases eq_or_ne lam 0 with rfl | hl
      · have : kod s1 s2 ((0 : ℝ) : EReal) (fun k n => (v k n : EReal)) = rod s1 s2 ((0 : ℝ) : EReal) (fun k n => (v k n : EReal)) := by
          funext n
          unfold kod rod
          rw [hA1, hL1, e1, Ideal.div_coe z1]
          simp only [EReal.coe_zero, zero_mul, sub_zero, Ideal.div_coe z1]
          rw [← EReal.coe_mul, Finset.sum_mul, coe_sum]
          refine Finset.sum_congr rfl fun k _ => ?_
          rw [← EReal.coe_mul, ← EReal.coe_mul]
          congr 1; ring
        rw [this]
      · have hinf : ∀ x : ℝ, Ext ((x : EReal) - (lam : EReal) * ⊥) := fun x => by
          rcases lt_or_gt_of_ne hl with h | h
          · rw [EReal.coe_mul_bot_of_neg h]; right; right; simp [sub_eq_add_neg]
          · rw [EReal.coe_mul_bot_of_pos h]; right; left; simp [sub_eq_add_neg]
        have hk : ∀ n, Ext (kod s1 s2 lam (fun k n => (v k n : EReal)) n) := fun n => by
          unfold kod
          rw [hA1, hL1, hA2, hL2, z2, Ideal.div_coe z1, ← EReal.coe_mul]
          simp only [hz, zero_mul, Finset.sum_const_zero, EReal.coe_zero, div_zero_zero]
          exact hinf _
        have hr : ∀ n, Ext (rod s1 s2 lam (fun k n => (v k n : EReal)) n) := fun n => by
          unfold rod
          refine Ext.sum _ _ fun k _ => Ext.mul_coe ?_ _
          rw [hL1, hL2, z2, e1, e2, Ideal.div_coe z1, ← EReal.coe_mul]
          simp only [hz, EReal.coe_zero, div_zero_zero]
          exact hinf _
        rw [mul_rinv_of_ext _ hk, mul_rinv_of_ext _ hr]
    · have : kod s1 s2 lam (fun k n => (v k n : EReal)) = rod s1 s2 lam (fun k n => (v k n : EReal)) := by
        funext n
        unfold kod rod
        rw [hA1, hL1, hA2, hL2, e1, e2]
        simp only [Ideal.div_coe z1, Ideal.div_coe z2, ← EReal.coe_mul, ← EReal.coe_sub]
        rw [← coe_sum]
        congr 1
        rw [Finset.sum_mul, Finset.sum_mul, Finset.mul_sum, ← Finset.sum_sub_distrib]
        exact Finset.sum_congr rfl fun k _ => by ring
      rw [this]

/-- A sum over four equal runs. -/
theorem sum4 {M : Type} [AddCommMonoid M] (n N a b c : ℕ) (hN : N = n + n + n + n) (ha : a = n) (hb : b = n + n)
    (hc : c = n + n + n) (f : Fin N → M) :
    ∑ k, f k = (∑ l : Fin n, f ⟨l, by omega⟩) + (∑ l : Fin n, f ⟨a + l, by omega⟩) + (∑ l : Fin n, f ⟨b + l, by omega⟩)
      + ∑ l : Fin n, f ⟨c + l, by omega⟩ := by
  subst hN ha hb hc
  rw [Fin.sum_univ_add, Fin.sum_univ_add, Fin.sum_univ_add]
  rfl

/-- A supremum over four equal runs. -/
theorem sup4 (n N a b c : ℕ) (hN : N = n + n + n + n) (ha : a = n) (hb : b = n + n)
    (hc : c = n + n + n) (f : Fin N → EReal) :
    Finset.univ.sup f = max (max (max (Finset.univ.sup fun l : Fin n => f ⟨l, by omega⟩)
      (Finset.univ.sup fun l : Fin n => f ⟨a + l, by omega⟩)) (Finset.univ.sup fun l : Fin n => f ⟨b + l, by omega⟩))
      (Finset.univ.sup fun l : Fin n => f ⟨c + l, by omega⟩) := by
  apply le_antisymm
  · refine Finset.sup_le fun k _ => ?_
    by_cases h1 : k.val < n
    · refine le_max_of_le_left (le_max_of_le_left (le_max_of_le_left ?_))
      exact Finset.le_sup (f := fun l : Fin n => f ⟨l, by omega⟩) (Finset.mem_univ ⟨k.val, h1⟩)
    · by_cases h2 : k.val < n + n
      · refine le_max_of_le_left (le_max_of_le_left (le_max_of_le_right ?_))
        refine le_trans (le_of_eq (congrArg f (Fin.ext ?_))) (Finset.le_sup (f := fun l : Fin n => f ⟨a + l, by omega⟩) (Finset.mem_univ ⟨k.val - n, by omega⟩))
        show k.val = a + (k.val - n); omega
      · by_cases h3 : k.val < n + n + n
        · refine le_max_of_le_left (le_max_of_le_right ?_)
          refine le_trans (le_of_eq (congrArg f (Fin.ext ?_))) (Finset.le_sup (f := fun l : Fin n => f ⟨b + l, by omega⟩) (Finset.mem_univ ⟨k.val - (n + n), by omega⟩))
          show k.val = b + (k.val - (n + n)); omega
        · refine le_max_of_le_right ?_
          refine le_trans (le_of_eq (congrArg f (Fin.ext ?_))) (Finset.le_sup (f := fun l : Fin n => f ⟨c + l, by omega⟩) (Finset.mem_univ ⟨k.val - (n + n + n), by omega⟩))
          show k.val = c + (k.val - (n + n + n)); omega
  · refine max_le (max_le (max_le ?_ ?_) ?_) ?_ <;>
      exact Finset.sup_le fun l _ => Finset.le_sup (f := f) (Finset.mem_univ _)

/-- A fold by maximum from minus infinity is the supremum. -/
theorem fold_max_bot {κ : Type} (s : Finset κ) (f : κ → EReal) : Finset.fold max ⊥ f s = s.sup f := rfl

end Cert.DiffAlg

end
-- ==== Proof.Attn.Tiles.lean ====
/- The steps of the attention block read at an index, up to one row of one tile. -/
module

public import proofs.«01_k».proof.Proof.Attn.Vecs
public import proofs.«01_k».proof.Proof.Attn.Alg
public import Idealize.ShloMosaic.Lib.WordCmp

@[expose] public section

noncomputable section

namespace Cert.AttnIdeal.Blk

open Cert.AttnIdeal Cert.AttnIdeal.Gen Idealize.ShloMosaic Idealize.SL.Sem Cert.DiffAlg

/-- The low half of the scaled queries: an eighth of the query below lane 64, zero from there on. -/
theorem qlo_apply (q : Vec Ideal S1x512x128 .bf16) (r : Fin 512) (l : Fin 128) :
    qlo q (ix2 r l) = if l.val < 64 then q (ix3 0 r l) * Ideal.ofBits .bf16 0x3E00#16 else 0 := by
  pointwise [qlo, qs, zq, lanes2, lanesLo]
  rw [show (64#32 : BitVec 32) = BitVec.ofNat 32 64 from rfl, WordCmp.cmpi_slt_ofNat (by omega) (by omega)]
  rw [WordCmp.select_ofBool]
  simp only [decide_eq_true_eq]

/-- The high half of the scaled queries: zero below lane 64, an eighth of the query from there on. -/
theorem qhi_apply (q : Vec Ideal S1x512x128 .bf16) (r : Fin 512) (l : Fin 128) :
    qhi q (ix2 r l) = if l.val < 64 then 0 else q (ix3 0 r l) * Ideal.ofBits .bf16 0x3E00#16 := by
  pointwise [qhi, qs, zq, lanes2, lanesLo]
  rw [show (64#32 : BitVec 32) = BitVec.ofNat 32 64 from rfl, WordCmp.cmpi_slt_ofNat (by omega) (by omega)]
  rw [WordCmp.select_ofBool]
  simp only [decide_eq_true_eq]

/-- A score is the product of a query row and a key row. -/
theorem scr_apply (qm : FVec Ideal S512x128 .bf16) (k : Vec Ideal S1x512x128 .bf16) (r : Fin 512) (t : Fin 512) :
    scr qm k (ix2 r t) = ∑ l : Fin 128, qm (ix2 r l) * k (ix3 0 t l) := by
  pointwise [scr]

/-- A diagonal tile's score above the diagonal is minus infinity. -/
theorem scrD_apply (qm : FVec Ideal S512x128 .bf16) (k : Vec Ideal S1x512x128 .bf16) (r : Fin 512) (t : Fin 512) :
    scrD qm k (ix2 r t) = if t.val ≤ r.val then scr qm k (ix2 r t) else ⊥ := by
  pointwise [scrD, tri]
  rw [WordCmp.cmpi_sle_ofNat (by omega) (by omega), ofBits_bot]
  rw [WordCmp.select_ofBool]
  simp only [decide_eq_true_eq]

/-- The maximum over the lanes of a tile's fold is the maximum of the tile's row. -/
theorem sup_foldMax (s : FVec Ideal S512x512 .f32) (r : Fin 512) :
    (Finset.univ.sup fun l : Fin 128 => foldMax s (ix2 r l)) = Finset.univ.sup fun t : Fin 512 => s (ix2 r t) := by
  rw [sup4 128 512 128 256 384 rfl rfl rfl rfl]
  rw [← Finset.sup_sup, ← Finset.sup_sup, ← Finset.sup_sup]
  refine Finset.sup_congr rfl fun l _ => ?_
  pointwise [foldMax]
  rfl

/-- The sum over the lanes of a tile's fold is the sum of the tile's row. -/
theorem sum_foldAdd (s : FVec Ideal S512x512 .f32) (r : Fin 512) :
    ∑ l : Fin 128, foldAdd s (ix2 r l) = ∑ t : Fin 512, s (ix2 r t) := by
  rw [sum4 128 512 128 256 384 rfl rfl rfl rfl]
  rw [← Finset.sum_add_distrib, ← Finset.sum_add_distrib, ← Finset.sum_add_distrib]
  refine Finset.sum_congr rfl fun l _ => ?_
  pointwise [foldAdd]

/-- The maximum of a row over a first tile and a list of further ones. -/
def mxR (s : FVec Ideal S512x512 .f32) (rest : List (FVec Ideal S512x512 .f32 × Vec Ideal S1x512x128 .bf16))
    (r : Fin 512) : EReal :=
  rest.foldl (fun a e => max a (Finset.univ.sup fun t : Fin 512 => e.1 (ix2 r t))) (Finset.univ.sup fun t : Fin 512 => s (ix2 r t))

theorem sup_foldl (rest : List (FVec Ideal S512x512 .f32 × Vec Ideal S1x512x128 .bf16)) (a : FVec Ideal S512x128 .f32) (r : Fin 512) :
    (Finset.univ.sup fun l : Fin 128 => rest.foldl (fun a e => maximumf a (foldMax e.1)) a (ix2 r l))
      = rest.foldl (fun a e => max a (Finset.univ.sup fun t : Fin 512 => e.1 (ix2 r t))) (Finset.univ.sup fun l : Fin 128 => a (ix2 r l)) := by
  induction rest generalizing a with
  | nil => rfl
  | cons e rest ih =>
    simp only [List.foldl_cons]
    rw [ih]
    congr 1
    rw [← sup_foldMax, ← Finset.sup_sup]
    refine Finset.sup_congr rfl fun l _ => ?_
    pointwise []
    rfl

theorem mxs_apply (s : FVec Ideal S512x512 .f32) (rest : List (FVec Ideal S512x512 .f32 × Vec Ideal S1x512x128 .bf16))
    (r : Fin 512) : mxs s rest (ix2 r 0) = mxR s rest r := by
  pointwise [mxs, rowMax]
  rw [ofBits_bot, fold_max_bot, sup_foldl, sup_foldMax]
  rfl

theorem pexp_apply (s : FVec Ideal S512x512 .f32) (m : FVec Ideal S512x1 .f32) (r t : Fin 512) :
    pexp s m (ix2 r t) = Ideal.exp (s (ix2 r t) - m (ix2 r 0)) := by
  pointwise [pexp]

theorem pv_apply (p : FVec Ideal S512x512 .f32) (v : Vec Ideal S1x512x128 .bf16) (r : Fin 512) (n : Fin 128) :
    pv p v (ix2 r n) = ∑ t : Fin 512, p (ix2 r t) * v (ix3 0 t n) := by
  pointwise [pv]

theorem rowSum_apply (x : FVec Ideal S512x128 .f32) (r : Fin 512) : rowSum x (ix2 r 0) = ∑ l : Fin 128, x (ix2 r l) := by
  pointwise [rowSum]

theorem lsums_apply (mx : FVec Ideal S512x1 .f32) (s : FVec Ideal S512x512 .f32)
    (rest : List (FVec Ideal S512x512 .f32 × Vec Ideal S1x512x128 .bf16)) (r : Fin 512) :
    ∑ l : Fin 128, lsums mx s rest (ix2 r l)
      = rest.foldl (fun a e => a + ∑ t : Fin 512, Ideal.exp (e.1 (ix2 r t) - mx (ix2 r 0)))
          (∑ t : Fin 512, Ideal.exp (s (ix2 r t) - mx (ix2 r 0))) := by
  have gen : ∀ (rest : List (FVec Ideal S512x512 .f32 × Vec Ideal S1x512x128 .bf16)) (a : FVec Ideal S512x128 .f32),
      ∑ l : Fin 128, rest.foldl (fun a e => addf a (foldAdd (pexp e.1 mx))) a (ix2 r l)
        = rest.foldl (fun a e => a + ∑ t : Fin 512, Ideal.exp (e.1 (ix2 r t) - mx (ix2 r 0))) (∑ l : Fin 128, a (ix2 r l)) := by
    intro rest
    induction rest with
    | nil => intro a; rfl
    | cons e rest ih =>
      intro a
      simp only [List.foldl_cons]
      rw [ih]
      congr 1
      simp only [← pexp_apply]
      rw [← sum_foldAdd, ← Finset.sum_add_distrib]
      refine Finset.sum_congr rfl fun l _ => ?_
      pointwise []
  unfold lsums
  rw [gen, sum_foldAdd]
  simp only [pexp_apply]

theorem accs_apply (mx : FVec Ideal S512x1 .f32) (s : FVec Ideal S512x512 .f32) (v : Vec Ideal S1x512x128 .bf16)
    (rest : List (FVec Ideal S512x512 .f32 × Vec Ideal S1x512x128 .bf16)) (r : Fin 512) (n : Fin 128) :
    accs mx s v rest (ix2 r n)
      = rest.foldl (fun a e => a + ∑ t : Fin 512, Ideal.exp (e.1 (ix2 r t) - mx (ix2 r 0)) * e.2 (ix3 0 t n))
          (∑ t : Fin 512, Ideal.exp (s (ix2 r t) - mx (ix2 r 0)) * v (ix3 0 t n)) := by
  have gen : ∀ (rest : List (FVec Ideal S512x512 .f32 × Vec Ideal S1x512x128 .bf16)) (a : FVec Ideal S512x128 .f32),
      rest.foldl (fun a e => addf a (pv (pexp e.1 mx) e.2)) a (ix2 r n)
        = rest.foldl (fun a e => a + ∑ t : Fin 512, Ideal.exp (e.1 (ix2 r t) - mx (ix2 r 0)) * e.2 (ix3 0 t n)) (a (ix2 r n)) := by
    intro rest
    induction rest with
    | nil => intro a; rfl
    | cons e rest ih =>
      intro a
      simp only [List.foldl_cons]
      rw [ih]
      congr 1
      simp only [← pexp_apply]
      rw [← pv_apply]
      pointwise []
  unfold accs
  rw [gen, pv_apply]
  simp only [pexp_apply]

/-- One entry of a softmax-weighted average, over the tiles' rows. -/
theorem sm_apply (s : FVec Ideal S512x512 .f32) (v : Vec Ideal S1x512x128 .bf16)
    (rest : List (FVec Ideal S512x512 .f32 × Vec Ideal S1x512x128 .bf16)) (r : Fin 512) (n : Fin 128) :
    sm s v rest (ix2 r n)
      = Ideal.div
          (rest.foldl (fun a e => a + ∑ t : Fin 512, Ideal.exp (e.1 (ix2 r t) - mxR s rest r) * e.2 (ix3 0 t n))
            (∑ t : Fin 512, Ideal.exp (s (ix2 r t) - mxR s rest r) * v (ix3 0 t n)))
          (rest.foldl (fun a e => a + ∑ t : Fin 512, Ideal.exp (e.1 (ix2 r t) - mxR s rest r))
            (∑ t : Fin 512, Ideal.exp (s (ix2 r t) - mxR s rest r))) := by
  have h : sm s v rest (ix2 r n) = Ideal.div (accs (mxs s rest) s v rest (ix2 r n)) (rowSum (lsums (mxs s rest) s rest) (ix2 r 0)) := by
    pointwise [sm]
  rw [h, accs_apply, rowSum_apply, lsums_apply, mxs_apply]

/-- The scalar weight of the second average. -/
theorem lamV_apply (a b c d : Vec Ideal S1x64 .f32) :
    lamV a b c d (ix2 0 0) = Ideal.exp (∑ j : Fin 64, a (ix2 0 j) * b (ix2 0 j)) - Ideal.exp (∑ j : Fin 64, c (ix2 0 j) * d (ix2 0 j))
      + Ideal.ofBits .f32 0x3E4CCCCD#32 := by
  pointwise [lamV]

/-- The difference of the averages. -/
theorem od_apply (x y : FVec Ideal S512x128 .f32) (lam : FVec Ideal S1x1 .f32) (r : Fin 512) (n : Fin 128) :
    od lam x y (ix2 r n) = x (ix2 r n) - lam (ix2 0 0) * y (ix2 r n) := by
  pointwise [od]

/-- A stored entry: the row normalised, weighted and scaled. -/
theorem fin_apply (x : FVec Ideal S512x128 .f32) (g : Vec Ideal S1x128 .f32) (r : Fin 512) (n : Fin 128) :
    fin x g (ix3 0 r n) = x (ix2 r n) * DiffAlg.rinv (fun n => x (ix2 r n)) * g (ix2 0 n) * Ideal.ofBits .f32 0x3F4CCCCD#32 := by
  have h : rowSum (mulf x x) (ix2 r 0) = ∑ n : Fin 128, x (ix2 r n) * x (ix2 r n) := by
    rw [rowSum_apply]
    refine Finset.sum_congr rfl fun l _ => ?_
    pointwise []
  pointwise [fin, rinv]
  rw [h]
  rfl

end Cert.AttnIdeal.Blk

end
-- ==== Proof.Attn.Score.lean ====
/- The scores of one query row, halved by lanes: the product of a whole row with zeros in the other half against the
   product of the half. No program is mentioned here. -/
module

public import proofs.«01_k».proof.Proof.Attn.Alg

@[expose] public section

noncomputable section

namespace Cert.DiffAlg

open Idealize.ShloMosaic

/-- The scaled product of the low halves of two rows. -/
def lo (q k : Fin 128 → EReal) : EReal :=
  (∑ d : Fin 64, q ⟨d.val, by omega⟩ * k ⟨d.val, by omega⟩) * Ideal.ofBits .f32 0x3E000000#32

/-- The scaled product of the high halves of two rows. -/
def hi (q k : Fin 128 → EReal) : EReal :=
  (∑ d : Fin 64, q ⟨64 + d.val, by omega⟩ * k ⟨64 + d.val, by omega⟩) * Ideal.ofBits .f32 0x3E000000#32

/-- Minus infinity at the keys after a row. -/
def msk (r : Fin 2048) (f : Fin 2048 → EReal) (k : Fin 2048) : EReal := if k.val ≤ r.val then f k else ⊥

/-- A finite sum times a real number at least 0. -/
theorem sum_mul_real {κ : Type} (s : Finset κ) (f : κ → EReal) (c : ℝ) (hc : 0 ≤ c) :
    (∑ k ∈ s, f k) * (c : EReal) = ∑ k ∈ s, f k * (c : EReal) := by
  classical
  induction s using Finset.induction_on with
  | empty => simp
  | insert a s ha ih =>
    rw [Finset.sum_insert ha, Finset.sum_insert ha, ← ih,
      EReal.right_distrib_of_nonneg_of_ne_top (by exact_mod_cast hc) (EReal.coe_ne_top c)]

theorem sum_halves (f : Fin 128 → EReal) :
    ∑ l, f l = ∑ d : Fin 64, f ⟨d.val, by omega⟩ + ∑ d : Fin 64, f ⟨64 + d.val, by omega⟩ := by
  rw [show (∑ l, f l) = ∑ l : Fin (64 + 64), f l from rfl, Fin.sum_univ_add]
  rfl

/-- The low half's score from a row with zeros in its high half. -/
theorem lo_eq (q k : Fin 128 → EReal) :
    ∑ l : Fin 128, (if l.val < 64 then q l * Ideal.ofBits .bf16 0x3E00#16 else 0) * k l = lo q k := by
  rw [sum_halves, lo, ofBits_eighth, ofBits_eighth_bf16, sum_mul_real _ _ _ (by norm_num)]
  have h2 : ∑ d : Fin 64, (if 64 + d.val < 64 then q ⟨64 + d.val, by omega⟩ * ((1 / 8 : ℝ) : EReal) else 0) * k ⟨64 + d.val, by omega⟩ = 0 :=
    Finset.sum_eq_zero fun d _ => by rw [if_neg (by omega), zero_mul]
  rw [h2, add_zero]
  refine Finset.sum_congr rfl fun d _ => ?_
  rw [if_pos d.isLt]
  exact mul_right_comm _ _ _

/-- The high half's score from a row with zeros in its low half. -/
theorem hi_eq (q k : Fin 128 → EReal) :
    ∑ l : Fin 128, (if l.val < 64 then 0 else q l * Ideal.ofBits .bf16 0x3E00#16) * k l = hi q k := by
  rw [sum_halves, hi, ofBits_eighth, ofBits_eighth_bf16, sum_mul_real _ _ _ (by norm_num)]
  have h2 : ∑ d : Fin 64, (if d.val < 64 then 0 else q ⟨d.val, by omega⟩ * ((1 / 8 : ℝ) : EReal)) * k ⟨d.val, by omega⟩ = 0 :=
    Finset.sum_eq_zero fun d _ => by rw [if_pos d.isLt, zero_mul]
  rw [h2, zero_add]
  refine Finset.sum_congr rfl fun d _ => ?_
  rw [if_neg (show ¬ 64 + d.val < 64 by omega)]
  exact mul_right_comm _ _ _

/-- The maximum of a row of 2048, over its four tiles. -/
theorem sup_tiles (f : Fin 2048 → EReal) :
    Finset.univ.sup f = max (max (max (Finset.univ.sup fun t : Fin 512 => f ⟨t.val, by omega⟩)
      (Finset.univ.sup fun t : Fin 512 => f ⟨512 + t.val, by omega⟩))
      (Finset.univ.sup fun t : Fin 512 => f ⟨1024 + t.val, by omega⟩))
      (Finset.univ.sup fun t : Fin 512 => f ⟨1536 + t.val, by omega⟩) :=
  sup4 512 2048 512 1024 1536 rfl rfl rfl rfl f

/-- The sum of a row of 2048, over its four tiles. -/
theorem sum_tiles (f : Fin 2048 → EReal) :
    ∑ k, f k = ((∑ t : Fin 512, f ⟨t.val, by omega⟩ + ∑ t : Fin 512, f ⟨512 + t.val, by omega⟩)
      + ∑ t : Fin 512, f ⟨1024 + t.val, by omega⟩) + ∑ t : Fin 512, f ⟨1536 + t.val, by omega⟩ :=
  sum4 512 2048 512 1024 1536 rfl rfl rfl rfl f

end Cert.DiffAlg

end
-- ==== Proof.Attn.Rows.lean ====
/- The attention block, row by row: each of its 2048 rows is the normalised difference of two causal softmax averages. -/
module

public import proofs.«01_k».proof.Proof.Attn.Tiles
public import proofs.«01_k».proof.Proof.Attn.Score

@[expose] public section

noncomputable section

namespace Cert.AttnIdeal.Blk

open Cert.AttnIdeal Cert.AttnIdeal.Gen Idealize.ShloMosaic Idealize.SL.Sem Cert.DiffAlg

/-- A softmax-weighted average of values over 2048 keys. -/
def avg (S V : Fin 2048 → EReal) : EReal := Ideal.div (∑ k, P S k * V k) (L S)

/-- The average over one tile of keys is the average over all keys, the keys after them scoring minus infinity. -/
theorem sm0_eq (s0 : FVec Ideal S512x512 .f32) (v0 : Vec Ideal S1x512x128 .bf16) (r : Fin 512) (n : Fin 128)
    (S V : Fin 2048 → EReal)
    (h0 : ∀ t : Fin 512, s0 (ix2 r t) = S ⟨t.val, by omega⟩) (g0 : ∀ t : Fin 512, v0 (ix3 0 t n) = V ⟨t.val, by omega⟩)
    (h1 : ∀ t : Fin 512, S ⟨512 + t.val, by omega⟩ = ⊥)
    (h2 : ∀ t : Fin 512, S ⟨1024 + t.val, by omega⟩ = ⊥)
    (h3 : ∀ t : Fin 512, S ⟨1536 + t.val, by omega⟩ = ⊥) :
    sm s0 v0 [] (ix2 r n) = avg S V := by
  have hm : mxR s0 [] r = Finset.univ.sup S := by
    rw [sup_tiles S]
    simp only [mxR, List.foldl, h0, h1, h2, h3, Finset.sup_bot, max_bot_right]
  rw [sm_apply, hm]
  simp only [List.foldl, h0, g0]
  unfold avg L
  rw [sum_tiles (fun k => P S k * V k), sum_tiles (P S)]
  simp only [P]
  simp only [h1, h2, h3, exp_bot_sub, zero_mul, Finset.sum_const_zero, add_zero]

/-- The average over two tiles of keys is the average over all keys, the keys after them scoring minus infinity. -/
theorem sm1_eq (s0 s1 : FVec Ideal S512x512 .f32) (v0 v1 : Vec Ideal S1x512x128 .bf16) (r : Fin 512) (n : Fin 128)
    (S V : Fin 2048 → EReal)
    (h0 : ∀ t : Fin 512, s0 (ix2 r t) = S ⟨t.val, by omega⟩) (g0 : ∀ t : Fin 512, v0 (ix3 0 t n) = V ⟨t.val, by omega⟩)
    (h1 : ∀ t : Fin 512, s1 (ix2 r t) = S ⟨512 + t.val, by omega⟩) (g1 : ∀ t : Fin 512, v1 (ix3 0 t n) = V ⟨512 + t.val, by omega⟩)
    (h2 : ∀ t : Fin 512, S ⟨1024 + t.val, by omega⟩ = ⊥)
    (h3 : ∀ t : Fin 512, S ⟨1536 + t.val, by omega⟩ = ⊥) :
    sm s0 v0 [(s1, v1)] (ix2 r n) = avg S V := by
  have hm : mxR s0 [(s1, v1)] r = Finset.univ.sup S := by
    rw [sup_tiles S]
    simp only [mxR, List.foldl, h0, h1, h2, h3, Finset.sup_bot, max_bot_right]
  rw [sm_apply, hm]
  simp only [List.foldl, h0, g0, h1, g1]
  unfold avg L
  rw [sum_tiles (fun k => P S k * V k), sum_tiles (P S)]
  simp only [P]
  simp only [h2, h3, exp_bot_sub, zero_mul, Finset.sum_const_zero, add_zero]

/-- The average over three tiles of keys is the average over all keys, the keys after them scoring minus infinity. -/
theorem sm2_eq (s0 s1 s2 : FVec Ideal S512x512 .f32) (v0 v1 v2 : Vec Ideal S1x512x128 .bf16) (r : Fin 512) (n : Fin 128)
    (S V : Fin 2048 → EReal)
    (h0 : ∀ t : Fin 512, s0 (ix2 r t) = S ⟨t.val, by omega⟩) (g0 : ∀ t : Fin 512, v0 (ix3 0 t n) = V ⟨t.val, by omega⟩)
    (h1 : ∀ t : Fin 512, s1 (ix2 r t) = S ⟨512 + t.val, by omega⟩) (g1 : ∀ t : Fin 512, v1 (ix3 0 t n) = V ⟨512 + t.val, by omega⟩)
    (h2 : ∀ t : Fin 512, s2 (ix2 r t) = S ⟨1024 + t.val, by omega⟩) (g2 : ∀ t : Fin 512, v2 (ix3 0 t n) = V ⟨1024 + t.val, by omega⟩)
    (h3 : ∀ t : Fin 512, S ⟨1536 + t.val, by omega⟩ = ⊥) :
    sm s0 v0 [(s1, v1), (s2, v2)] (ix2 r n) = avg S V := by
  have hm : mxR s0 [(s1, v1), (s2, v2)] r = Finset.univ.sup S := by
    rw [sup_tiles S]
    simp only [mxR, List.foldl, h0, h1, h2, h3, Finset.sup_bot, max_bot_right]
  rw [sm_apply, hm]
  simp only [List.foldl, h0, g0, h1, g1, h2, g2]
  unfold avg L
  rw [sum_tiles (fun k => P S k * V k), sum_tiles (P S)]
  simp only [P]
  simp only [h3, exp_bot_sub, zero_mul, Finset.sum_const_zero, add_zero]

/-- The average over four tiles of keys is the average over all keys, the keys after them scoring minus infinity. -/
theorem sm3_eq (s0 s1 s2 s3 : FVec Ideal S512x512 .f32) (v0 v1 v2 v3 : Vec Ideal S1x512x128 .bf16) (r : Fin 512) (n : Fin 128)
    (S V : Fin 2048 → EReal)
    (h0 : ∀ t : Fin 512, s0 (ix2 r t) = S ⟨t.val, by omega⟩) (g0 : ∀ t : Fin 512, v0 (ix3 0 t n) = V ⟨t.val, by omega⟩)
    (h1 : ∀ t : Fin 512, s1 (ix2 r t) = S ⟨512 + t.val, by omega⟩) (g1 : ∀ t : Fin 512, v1 (ix3 0 t n) = V ⟨512 + t.val, by omega⟩)
    (h2 : ∀ t : Fin 512, s2 (ix2 r t) = S ⟨1024 + t.val, by omega⟩) (g2 : ∀ t : Fin 512, v2 (ix3 0 t n) = V ⟨1024 + t.val, by omega⟩)
    (h3 : ∀ t : Fin 512, s3 (ix2 r t) = S ⟨1536 + t.val, by omega⟩) (g3 : ∀ t : Fin 512, v3 (ix3 0 t n) = V ⟨1536 + t.val, by omega⟩) :
    sm s0 v0 [(s1, v1), (s2, v2), (s3, v3)] (ix2 r n) = avg S V := by
  have hm : mxR s0 [(s1, v1), (s2, v2), (s3, v3)] r = Finset.univ.sup S := by
    rw [sup_tiles S]
    simp only [mxR, List.foldl, h0, h1, h2, h3, Finset.sup_bot, max_bot_right]
  rw [sm_apply, hm]
  simp only [List.foldl, h0, g0, h1, g1, h2, g2, h3, g3]
  unfold avg L
  rw [sum_tiles (fun k => P S k * V k), sum_tiles (P S)]
  simp only [P]

theorem ld0 (x : Vec Ideal S1x2048x128 .bf16) (t : Fin 512) (l : Fin 128) : View.ld x r0_1 (ix3 0 t l) = x (ix3 0 ⟨t.val, by omega⟩ l) := by
  pointwise [r0_1]
theorem ld1 (x : Vec Ideal S1x2048x128 .bf16) (t : Fin 512) (l : Fin 128) : View.ld x r0_3 (ix3 0 t l) = x (ix3 0 ⟨512 + t.val, by omega⟩ l) := by
  pointwise [r0_3]
theorem ld2 (x : Vec Ideal S1x2048x128 .bf16) (t : Fin 512) (l : Fin 128) : View.ld x r0_4 (ix3 0 t l) = x (ix3 0 ⟨1024 + t.val, by omega⟩ l) := by
  pointwise [r0_4]
theorem ld3 (x : Vec Ideal S1x2048x128 .bf16) (t : Fin 512) (l : Fin 128) : View.ld x r0_5 (ix3 0 t l) = x (ix3 0 ⟨1536 + t.val, by omega⟩ l) := by
  pointwise [r0_5]

variable (x0 x1 x2 : Vec Ideal S1x2048x128 .bf16) (x3 x4 x5 x6 : Vec Ideal S1x64 .f32) (x7 : Vec Ideal S1x128 .f32)

/-- A row of a block. -/
def rw (x : Vec Ideal S1x2048x128 .bf16) (R : Fin 2048) (l : Fin 128) : EReal := x (ix3 0 R l)
/-- The first softmax's scores of a row. -/
def t1 (R : Fin 2048) : Fin 2048 → EReal := msk R fun k => lo (rw x0 R) (rw x1 k)
/-- The second softmax's scores of a row. -/
def t2 (R : Fin 2048) : Fin 2048 → EReal := msk R fun k => hi (rw x0 R) (rw x1 k)
/-- The weight of the second average. -/
def lamB : EReal :=
  Ideal.exp (∑ j : Fin 64, x3 (ix2 0 j) * x4 (ix2 0 j)) - Ideal.exp (∑ j : Fin 64, x5 (ix2 0 j) * x6 (ix2 0 j))
      + Ideal.ofBits .f32 0x3E4CCCCD#32
/-- The row before its normalisation. -/
def dif (R : Fin 2048) : Fin 128 → EReal := kod (t1 x0 x1 R) (t2 x0 x1 R) (lamB x3 x4 x5 x6) (rw x2)
/-- The row the block holds. -/
def res (R : Fin 2048) (n : Fin 128) : EReal :=
  dif x0 x1 x2 x3 x4 x5 x6 R n * DiffAlg.rinv (dif x0 x1 x2 x3 x4 x5 x6 R) * x7 (ix2 0 n) * Ideal.ofBits .f32 0x3F4CCCCD#32

theorem lamX_apply : lamX x3 x4 x5 x6 (ix2 0 0) = lamB x3 x4 x5 x6 := by
  have h0 : ∀ a : Fin 2, (![0, 0] : Fin 2 → ℕ) a = 0 := by decide
  have e : ∀ x : Vec Ideal S1x64 .f32, View.ld x r0_0 = x := fun x => View.ld_unit_zero (funext h0) _ x
  unfold lamX lamB
  rw [lamV_apply, e x3, e x4, e x5, e x6]

/-- A masked score below or on the diagonal. -/
theorem msk_pos (R k : Fin 2048) (f : Fin 2048 → EReal) (h : k.val ≤ R.val) : msk R f k = f k := if_pos h
/-- A masked score above the diagonal. -/
theorem msk_neg (R k : Fin 2048) (f : Fin 2048 → EReal) (h : ¬ k.val ≤ R.val) : msk R f k = ⊥ := if_neg h

theorem qlo00 (r t : Fin 512) : scrD (qlo (View.ld x0 r0_1)) (View.ld x1 r0_1) (ix2 r t)
    = t1 x0 x1 ⟨r.val, by omega⟩ ⟨t.val, by omega⟩ := by
  rw [scrD_apply]
  by_cases ht : t.val ≤ r.val
  · rw [if_pos ht, t1, msk_pos _ _ _ (show _ ≤ _ by simp; omega), scr_apply, ← lo_eq]
    simp only [qlo_apply, rw]
    exact Finset.sum_congr rfl fun l _ => congrArg₂ (· * ·) (congrArg (fun z : EReal => if l.val < 64 then z * Ideal.ofBits .bf16 0x3E00#16 else 0) (ld0 x0 r l)) (ld0 x1 t l)
  · rw [if_neg ht, t1, msk_neg _ _ _ (show ¬ _ ≤ _ by simp; omega)]
theorem qhi00 (r t : Fin 512) : scrD (qhi (View.ld x0 r0_1)) (View.ld x1 r0_1) (ix2 r t)
    = t2 x0 x1 ⟨r.val, by omega⟩ ⟨t.val, by omega⟩ := by
  rw [scrD_apply]
  by_cases ht : t.val ≤ r.val
  · rw [if_pos ht, t2, msk_pos _ _ _ (show _ ≤ _ by simp; omega), scr_apply, ← hi_eq]
    simp only [qhi_apply, rw]
    exact Finset.sum_congr rfl fun l _ => congrArg₂ (· * ·) (congrArg (fun z : EReal => if l.val < 64 then 0 else z * Ideal.ofBits .bf16 0x3E00#16) (ld0 x0 r l)) (ld0 x1 t l)
  · rw [if_neg ht, t2, msk_neg _ _ _ (show ¬ _ ≤ _ by simp; omega)]
theorem qlo10 (r t : Fin 512) : scr (qlo (View.ld x0 r0_3)) (View.ld x1 r0_1) (ix2 r t)
    = t1 x0 x1 ⟨512 + r.val, by omega⟩ ⟨t.val, by omega⟩ := by
  rw [t1, msk_pos _ _ _ (show _ ≤ _ by simp; omega), scr_apply, ← lo_eq]
  simp only [qlo_apply, rw]
  exact Finset.sum_congr rfl fun l _ => congrArg₂ (· * ·) (congrArg (fun z : EReal => if l.val < 64 then z * Ideal.ofBits .bf16 0x3E00#16 else 0) (ld1 x0 r l)) (ld0 x1 t l)
theorem qlo11 (r t : Fin 512) : scrD (qlo (View.ld x0 r0_3)) (View.ld x1 r0_3) (ix2 r t)
    = t1 x0 x1 ⟨512 + r.val, by omega⟩ ⟨512 + t.val, by omega⟩ := by
  rw [scrD_apply]
  by_cases ht : t.val ≤ r.val
  · rw [if_pos ht, t1, msk_pos _ _ _ (show _ ≤ _ by simp; omega), scr_apply, ← lo_eq]
    simp only [qlo_apply, rw]
    exact Finset.sum_congr rfl fun l _ => congrArg₂ (· * ·) (congrArg (fun z : EReal => if l.val < 64 then z * Ideal.ofBits .bf16 0x3E00#16 else 0) (ld1 x0 r l)) (ld1 x1 t l)
  · rw [if_neg ht, t1, msk_neg _ _ _ (show ¬ _ ≤ _ by simp; omega)]
theorem qhi10 (r t : Fin 512) : scr (qhi (View.ld x0 r0_3)) (View.ld x1 r0_1) (ix2 r t)
    = t2 x0 x1 ⟨512 + r.val, by omega⟩ ⟨t.val, by omega⟩ := by
  rw [t2, msk_pos _ _ _ (show _ ≤ _ by simp; omega), scr_apply, ← hi_eq]
  simp only [qhi_apply, rw]
  exact Finset.sum_congr rfl fun l _ => congrArg₂ (· * ·) (congrArg (fun z : EReal => if l.val < 64 then 0 else z * Ideal.ofBits .bf16 0x3E00#16) (ld1 x0 r l)) (ld0 x1 t l)
theorem qhi11 (r t : Fin 512) : scrD (qhi (View.ld x0 r0_3)) (View.ld x1 r0_3) (ix2 r t)
    = t2 x0 x1 ⟨512 + r.val, by omega⟩ ⟨512 + t.val, by omega⟩ := by
  rw [scrD_apply]
  by_cases ht : t.val ≤ r.val
  · rw [if_pos ht, t2, msk_pos _ _ _ (show _ ≤ _ by simp; omega), scr_apply, ← hi_eq]
    simp only [qhi_apply, rw]
    exact Finset.sum_congr rfl fun l _ => congrArg₂ (· * ·) (congrArg (fun z : EReal => if l.val < 64 then 0 else z * Ideal.ofBits .bf16 0x3E00#16) (ld1 x0 r l)) (ld1 x1 t l)
  · rw [if_neg ht, t2, msk_neg _ _ _ (show ¬ _ ≤ _ by simp; omega)]
theorem qlo20 (r t : Fin 512) : scr (qlo (View.ld x0 r0_4)) (View.ld x1 r0_1) (ix2 r t)
    = t1 x0 x1 ⟨1024 + r.val, by omega⟩ ⟨t.val, by omega⟩ := by
  rw [t1, msk_pos _ _ _ (show _ ≤ _ by simp; omega), scr_apply, ← lo_eq]
  simp only [qlo_apply, rw]
  exact Finset.sum_congr rfl fun l _ => congrArg₂ (· * ·) (congrArg (fun z : EReal => if l.val < 64 then z * Ideal.ofBits .bf16 0x3E00#16 else 0) (ld2 x0 r l)) (ld0 x1 t l)
theorem qlo21 (r t : Fin 512) : scr (qlo (View.ld x0 r0_4)) (View.ld x1 r0_3) (ix2 r t)
    = t1 x0 x1 ⟨1024 + r.val, by omega⟩ ⟨512 + t.val, by omega⟩ := by
  rw [t1, msk_pos _ _ _ (show _ ≤ _ by simp; omega), scr_apply, ← lo_eq]
  simp only [qlo_apply, rw]
  exact Finset.sum_congr rfl fun l _ => congrArg₂ (· * ·) (congrArg (fun z : EReal => if l.val < 64 then z * Ideal.ofBits .bf16 0x3E00#16 else 0) (ld2 x0 r l)) (ld1 x1 t l)
theorem qlo22 (r t : Fin 512) : scrD (qlo (View.ld x0 r0_4)) (View.ld x1 r0_4) (ix2 r t)
    = t1 x0 x1 ⟨1024 + r.val, by omega⟩ ⟨1024 + t.val, by omega⟩ := by
  rw [scrD_apply]
  by_cases ht : t.val ≤ r.val
  · rw [if_pos ht, t1, msk_pos _ _ _ (show _ ≤ _ by simp; omega), scr_apply, ← lo_eq]
    simp only [qlo_apply, rw]
    exact Finset.sum_congr rfl fun l _ => congrArg₂ (· * ·) (congrArg (fun z : EReal => if l.val < 64 then z * Ideal.ofBits .bf16 0x3E00#16 else 0) (ld2 x0 r l)) (ld2 x1 t l)
  · rw [if_neg ht, t1, msk_neg _ _ _ (show ¬ _ ≤ _ by simp; omega)]
theorem qhi20 (r t : Fin 512) : scr (qhi (View.ld x0 r0_4)) (View.ld x1 r0_1) (ix2 r t)
    = t2 x0 x1 ⟨1024 + r.val, by omega⟩ ⟨t.val, by omega⟩ := by
  rw [t2, msk_pos _ _ _ (show _ ≤ _ by simp; omega), scr_apply, ← hi_eq]
  simp only [qhi_apply, rw]
  exact Finset.sum_congr rfl fun l _ => congrArg₂ (· * ·) (congrArg (fun z : EReal => if l.val < 64 then 0 else z * Ideal.ofBits .bf16 0x3E00#16) (ld2 x0 r l)) (ld0 x1 t l)
theorem qhi21 (r t : Fin 512) : scr (qhi (View.ld x0 r0_4)) (View.ld x1 r0_3) (ix2 r t)
    = t2 x0 x1 ⟨1024 + r.val, by omega⟩ ⟨512 + t.val, by omega⟩ := by
  rw [t2, msk_pos _ _ _ (show _ ≤ _ by simp; omega), scr_apply, ← hi_eq]
  simp only [qhi_apply, rw]
  exact Finset.sum_congr rfl fun l _ => congrArg₂ (· * ·) (congrArg (fun z : EReal => if l.val < 64 then 0 else z * Ideal.ofBits .bf16 0x3E00#16) (ld2 x0 r l)) (ld1 x1 t l)
theorem qhi22 (r t : Fin 512) : scrD (qhi (View.ld x0 r0_4)) (View.ld x1 r0_4) (ix2 r t)
    = t2 x0 x1 ⟨1024 + r.val, by omega⟩ ⟨1024 + t.val, by omega⟩ := by
  rw [scrD_apply]
  by_cases ht : t.val ≤ r.val
  · rw [if_pos ht, t2, msk_pos _ _ _ (show _ ≤ _ by simp; omega), scr_apply, ← hi_eq]
    simp only [qhi_apply, rw]
    exact Finset.sum_congr rfl fun l _ => congrArg₂ (· * ·) (congrArg (fun z : EReal => if l.val < 64 then 0 else z * Ideal.ofBits .bf16 0x3E00#16) (ld2 x0 r l)) (ld2 x1 t l)
  · rw [if_neg ht, t2, msk_neg _ _ _ (show ¬ _ ≤ _ by simp; omega)]
theorem qlo30 (r t : Fin 512) : scr (qlo (View.ld x0 r0_5)) (View.ld x1 r0_1) (ix2 r t)
    = t1 x0 x1 ⟨1536 + r.val, by omega⟩ ⟨t.val, by omega⟩ := by
  rw [t1, msk_pos _ _ _ (show _ ≤ _ by simp; omega), scr_apply, ← lo_eq]
  simp only [qlo_apply, rw]
  exact Finset.sum_congr rfl fun l _ => congrArg₂ (· * ·) (congrArg (fun z : EReal => if l.val < 64 then z * Ideal.ofBits .bf16 0x3E00#16 else 0) (ld3 x0 r l)) (ld0 x1 t l)
theorem qlo31 (r t : Fin 512) : scr (qlo (View.ld x0 r0_5)) (View.ld x1 r0_3) (ix2 r t)
    = t1 x0 x1 ⟨1536 + r.val, by omega⟩ ⟨512 + t.val, by omega⟩ := by
  rw [t1, msk_pos _ _ _ (show _ ≤ _ by simp; omega), scr_apply, ← lo_eq]
  simp only [qlo_apply, rw]
  exact Finset.sum_congr rfl fun l _ => congrArg₂ (· * ·) (congrArg (fun z : EReal => if l.val < 64 then z * Ideal.ofBits .bf16 0x3E00#16 else 0) (ld3 x0 r l)) (ld1 x1 t l)
theorem qlo32 (r t : Fin 512) : scr (qlo (View.ld x0 r0_5)) (View.ld x1 r0_4) (ix2 r t)
    = t1 x0 x1 ⟨1536 + r.val, by omega⟩ ⟨1024 + t.val, by omega⟩ := by
  rw [t1, msk_pos _ _ _ (show _ ≤ _ by simp; omega), scr_apply, ← lo_eq]
  simp only [qlo_apply, rw]
  exact Finset.sum_congr rfl fun l _ => congrArg₂ (· * ·) (congrArg (fun z : EReal => if l.val < 64 then z * Ideal.ofBits .bf16 0x3E00#16 else 0) (ld3 x0 r l)) (ld2 x1 t l)
theorem qlo33 (r t : Fin 512) : scrD (qlo (View.ld x0 r0_5)) (View.ld x1 r0_5) (ix2 r t)
    = t1 x0 x1 ⟨1536 + r.val, by omega⟩ ⟨1536 + t.val, by omega⟩ := by
  rw [scrD_apply]
  by_cases ht : t.val ≤ r.val
  · rw [if_pos ht, t1, msk_pos _ _ _ (show _ ≤ _ by simp; omega), scr_apply, ← lo_eq]
    simp only [qlo_apply, rw]
    exact Finset.sum_congr rfl fun l _ => congrArg₂ (· * ·) (congrArg (fun z : EReal => if l.val < 64 then z * Ideal.ofBits .bf16 0x3E00#16 else 0) (ld3 x0 r l)) (ld3 x1 t l)
  · rw [if_neg ht, t1, msk_neg _ _ _ (show ¬ _ ≤ _ by simp; omega)]
theorem qhi30 (r t : Fin 512) : scr (qhi (View.ld x0 r0_5)) (View.ld x1 r0_1) (ix2 r t)
    = t2 x0 x1 ⟨1536 + r.val, by omega⟩ ⟨t.val, by omega⟩ := by
  rw [t2, msk_pos _ _ _ (show _ ≤ _ by simp; omega), scr_apply, ← hi_eq]
  simp only [qhi_apply, rw]
  exact Finset.sum_congr rfl fun l _ => congrArg₂ (· * ·) (congrArg (fun z : EReal => if l.val < 64 then 0 else z * Ideal.ofBits .bf16 0x3E00#16) (ld3 x0 r l)) (ld0 x1 t l)
theorem qhi31 (r t : Fin 512) : scr (qhi (View.ld x0 r0_5)) (View.ld x1 r0_3) (ix2 r t)
    = t2 x0 x1 ⟨1536 + r.val, by omega⟩ ⟨512 + t.val, by omega⟩ := by
  rw [t2, msk_pos _ _ _ (show _ ≤ _ by simp; omega), scr_apply, ← hi_eq]
  simp only [qhi_apply, rw]
  exact Finset.sum_congr rfl fun l _ => congrArg₂ (· * ·) (congrArg (fun z : EReal => if l.val < 64 then 0 else z * Ideal.ofBits .bf16 0x3E00#16) (ld3 x0 r l)) (ld1 x1 t l)
theorem qhi32 (r t : Fin 512) : scr (qhi (View.ld x0 r0_5)) (View.ld x1 r0_4) (ix2 r t)
    = t2 x0 x1 ⟨1536 + r.val, by omega⟩ ⟨1024 + t.val, by omega⟩ := by
  rw [t2, msk_pos _ _ _ (show _ ≤ _ by simp; omega), scr_apply, ← hi_eq]
  simp only [qhi_apply, rw]
  exact Finset.sum_congr rfl fun l _ => congrArg₂ (· * ·) (congrArg (fun z : EReal => if l.val < 64 then 0 else z * Ideal.ofBits .bf16 0x3E00#16) (ld3 x0 r l)) (ld2 x1 t l)
theorem qhi33 (r t : Fin 512) : scrD (qhi (View.ld x0 r0_5)) (View.ld x1 r0_5) (ix2 r t)
    = t2 x0 x1 ⟨1536 + r.val, by omega⟩ ⟨1536 + t.val, by omega⟩ := by
  rw [scrD_apply]
  by_cases ht : t.val ≤ r.val
  · rw [if_pos ht, t2, msk_pos _ _ _ (show _ ≤ _ by simp; omega), scr_apply, ← hi_eq]
    simp only [qhi_apply, rw]
    exact Finset.sum_congr rfl fun l _ => congrArg₂ (· * ·) (congrArg (fun z : EReal => if l.val < 64 then 0 else z * Ideal.ofBits .bf16 0x3E00#16) (ld3 x0 r l)) (ld3 x1 t l)
  · rw [if_neg ht, t2, msk_neg _ _ _ (show ¬ _ ≤ _ by simp; omega)]

/-- The rows of tile 0. -/
theorem p0_apply (r : Fin 512) (n : Fin 128) : p0 x0 x1 x2 x3 x4 x5 x6 x7 (ix3 0 r n) = res x0 x1 x2 x3 x4 x5 x6 x7 ⟨r.val, by omega⟩ n := by
  have e : (fun n => od (lamX x3 x4 x5 x6)
      (sm (scrD (qlo (View.ld x0 r0_1)) (View.ld x1 r0_1)) (View.ld x2 r0_1)
        [])
      (sm (scrD (qhi (View.ld x0 r0_1)) (View.ld x1 r0_1)) (View.ld x2 r0_1)
        []) (ix2 r n)) = dif x0 x1 x2 x3 x4 x5 x6 ⟨r.val, by omega⟩ := by
    funext n
    rw [od_apply, lamX_apply]
    rw [sm0_eq _ _ r n (t1 x0 x1 ⟨r.val, by omega⟩) (fun k => rw x2 k n)
      (fun t => qlo00 x0 x1 r t) (fun t => ld0 x2 t n)
      (fun t => msk_neg _ _ _ (show ¬ _ ≤ _ by simp; omega))
      (fun t => msk_neg _ _ _ (show ¬ _ ≤ _ by simp; omega))
      (fun t => msk_neg _ _ _ (show ¬ _ ≤ _ by simp; omega))]
    rw [sm0_eq _ _ r n (t2 x0 x1 ⟨r.val, by omega⟩) (fun k => rw x2 k n)
      (fun t => qhi00 x0 x1 r t) (fun t => ld0 x2 t n)
      (fun t => msk_neg _ _ _ (show ¬ _ ≤ _ by simp; omega))
      (fun t => msk_neg _ _ _ (show ¬ _ ≤ _ by simp; omega))
      (fun t => msk_neg _ _ _ (show ¬ _ ≤ _ by simp; omega))]
    rfl
  have eg : View.ld x7 r0_2 (ix2 0 n) = x7 (ix2 0 n) := by pointwise [r0_2]
  unfold p0 res
  rw [fin_apply, e, eg, ← e]

/-- The rows of tile 1. -/
theorem p1_apply (r : Fin 512) (n : Fin 128) : p1 x0 x1 x2 x3 x4 x5 x6 x7 (ix3 0 r n) = res x0 x1 x2 x3 x4 x5 x6 x7 ⟨512 + r.val, by omega⟩ n := by
  have e : (fun n => od (lamX x3 x4 x5 x6)
      (sm (scr (qlo (View.ld x0 r0_3)) (View.ld x1 r0_1)) (View.ld x2 r0_1)
        [(scrD (qlo (View.ld x0 r0_3)) (View.ld x1 r0_3), View.ld x2 r0_3)])
      (sm (scr (qhi (View.ld x0 r0_3)) (View.ld x1 r0_1)) (View.ld x2 r0_1)
        [(scrD (qhi (View.ld x0 r0_3)) (View.ld x1 r0_3), View.ld x2 r0_3)]) (ix2 r n)) = dif x0 x1 x2 x3 x4 x5 x6 ⟨512 + r.val, by omega⟩ := by
    funext n
    rw [od_apply, lamX_apply]
    rw [sm1_eq _ _ _ _ r n (t1 x0 x1 ⟨512 + r.val, by omega⟩) (fun k => rw x2 k n)
      (fun t => qlo10 x0 x1 r t) (fun t => ld0 x2 t n)
      (fun t => qlo11 x0 x1 r t) (fun t => ld1 x2 t n)
      (fun t => msk_neg _ _ _ (show ¬ _ ≤ _ by simp; omega))
      (fun t => msk_neg _ _ _ (show ¬ _ ≤ _ by simp; omega))]
    rw [sm1_eq _ _ _ _ r n (t2 x0 x1 ⟨512 + r.val, by omega⟩) (fun k => rw x2 k n)
      (fun t => qhi10 x0 x1 r t) (fun t => ld0 x2 t n)
      (fun t => qhi11 x0 x1 r t) (fun t => ld1 x2 t n)
      (fun t => msk_neg _ _ _ (show ¬ _ ≤ _ by simp; omega))
      (fun t => msk_neg _ _ _ (show ¬ _ ≤ _ by simp; omega))]
    rfl
  have eg : View.ld x7 r0_2 (ix2 0 n) = x7 (ix2 0 n) := by pointwise [r0_2]
  unfold p1 res
  rw [fin_apply, e, eg, ← e]

/-- The rows of tile 2. -/
theorem p2_apply (r : Fin 512) (n : Fin 128) : p2 x0 x1 x2 x3 x4 x5 x6 x7 (ix3 0 r n) = res x0 x1 x2 x3 x4 x5 x6 x7 ⟨1024 + r.val, by omega⟩ n := by
  have e : (fun n => od (lamX x3 x4 x5 x6)
      (sm (scr (qlo (View.ld x0 r0_4)) (View.ld x1 r0_1)) (View.ld x2 r0_1)
        [(scr (qlo (View.ld x0 r0_4)) (View.ld x1 r0_3), View.ld x2 r0_3), (scrD (qlo (View.ld x0 r0_4)) (View.ld x1 r0_4), View.ld x2 r0_4)])
      (sm (scr (qhi (View.ld x0 r0_4)) (View.ld x1 r0_1)) (View.ld x2 r0_1)
        [(scr (qhi (View.ld x0 r0_4)) (View.ld x1 r0_3), View.ld x2 r0_3), (scrD (qhi (View.ld x0 r0_4)) (View.ld x1 r0_4), View.ld x2 r0_4)]) (ix2 r n)) = dif x0 x1 x2 x3 x4 x5 x6 ⟨1024 + r.val, by omega⟩ := by
    funext n
    rw [od_apply, lamX_apply]
    rw [sm2_eq _ _ _ _ _ _ r n (t1 x0 x1 ⟨1024 + r.val, by omega⟩) (fun k => rw x2 k n)
      (fun t => qlo20 x0 x1 r t) (fun t => ld0 x2 t n)
      (fun t => qlo21 x0 x1 r t) (fun t => ld1 x2 t n)
      (fun t => qlo22 x0 x1 r t) (fun t => ld2 x2 t n)
      (fun t => msk_neg _ _ _ (show ¬ _ ≤ _ by simp; omega))]
    rw [sm2_eq _ _ _ _ _ _ r n (t2 x0 x1 ⟨1024 + r.val, by omega⟩) (fun k => rw x2 k n)
      (fun t => qhi20 x0 x1 r t) (fun t => ld0 x2 t n)
      (fun t => qhi21 x0 x1 r t) (fun t => ld1 x2 t n)
      (fun t => qhi22 x0 x1 r t) (fun t => ld2 x2 t n)
      (fun t => msk_neg _ _ _ (show ¬ _ ≤ _ by simp; omega))]
    rfl
  have eg : View.ld x7 r0_2 (ix2 0 n) = x7 (ix2 0 n) := by pointwise [r0_2]
  unfold p2 res
  rw [fin_apply, e, eg, ← e]

/-- The rows of tile 3. -/
theorem p3_apply (r : Fin 512) (n : Fin 128) : p3 x0 x1 x2 x3 x4 x5 x6 x7 (ix3 0 r n) = res x0 x1 x2 x3 x4 x5 x6 x7 ⟨1536 + r.val, by omega⟩ n := by
  have e : (fun n => od (lamX x3 x4 x5 x6)
      (sm (scr (qlo (View.ld x0 r0_5)) (View.ld x1 r0_1)) (View.ld x2 r0_1)
        [(scr (qlo (View.ld x0 r0_5)) (View.ld x1 r0_3), View.ld x2 r0_3), (scr (qlo (View.ld x0 r0_5)) (View.ld x1 r0_4), View.ld x2 r0_4), (scrD (qlo (View.ld x0 r0_5)) (View.ld x1 r0_5), View.ld x2 r0_5)])
      (sm (scr (qhi (View.ld x0 r0_5)) (View.ld x1 r0_1)) (View.ld x2 r0_1)
        [(scr (qhi (View.ld x0 r0_5)) (View.ld x1 r0_3), View.ld x2 r0_3), (scr (qhi (View.ld x0 r0_5)) (View.ld x1 r0_4), View.ld x2 r0_4), (scrD (qhi (View.ld x0 r0_5)) (View.ld x1 r0_5), View.ld x2 r0_5)]) (ix2 r n)) = dif x0 x1 x2 x3 x4 x5 x6 ⟨1536 + r.val, by omega⟩ := by
    funext n
    rw [od_apply, lamX_apply]
    rw [sm3_eq _ _ _ _ _ _ _ _ r n (t1 x0 x1 ⟨1536 + r.val, by omega⟩) (fun k => rw x2 k n)
      (fun t => qlo30 x0 x1 r t) (fun t => ld0 x2 t n)
      (fun t => qlo31 x0 x1 r t) (fun t => ld1 x2 t n)
      (fun t => qlo32 x0 x1 r t) (fun t => ld2 x2 t n)
      (fun t => qlo33 x0 x1 r t) (fun t => ld3 x2 t n)]
    rw [sm3_eq _ _ _ _ _ _ _ _ r n (t2 x0 x1 ⟨1536 + r.val, by omega⟩) (fun k => rw x2 k n)
      (fun t => qhi30 x0 x1 r t) (fun t => ld0 x2 t n)
      (fun t => qhi31 x0 x1 r t) (fun t => ld1 x2 t n)
      (fun t => qhi32 x0 x1 r t) (fun t => ld2 x2 t n)
      (fun t => qhi33 x0 x1 r t) (fun t => ld3 x2 t n)]
    rfl
  have eg : View.ld x7 r0_2 (ix2 0 n) = x7 (ix2 0 n) := by pointwise [r0_2]
  unfold p3 res
  rw [fin_apply, e, eg, ← e]

end Cert.AttnIdeal.Blk

end
-- ==== Proof.Attn.Block.lean ====
/- The whole attention block as one function of its rows. -/
module

public import proofs.«01_k».proof.Proof.Attn.Rows

@[expose] public section

noncomputable section

namespace Cert.AttnIdeal.Blk

open Cert.AttnIdeal Cert.AttnIdeal.Gen Idealize.ShloMosaic Idealize.SL.Sem Cert.DiffAlg

variable (x0 x1 x2 : Vec Ideal S1x2048x128 .bf16) (x3 x4 x5 x6 : Vec Ideal S1x64 .f32) (x7 : Vec Ideal S1x128 .f32)

/-- The block, from its rows. -/
def blk : Vec Ideal S1x2048x128 .bf16 := fun y => res x0 x1 x2 x3 x4 x5 x6 x7 (y 1) (y 2)

/-- A property of every row and lane of a tile is one of every index of it. -/
theorem tile_idx (C : S1x512x128.Idx → Prop) (h : ∀ (r : Fin 512) (n : Fin 128), C (ix3 0 r n)) (j : S1x512x128.Idx) : C j := by
  have e : j = ix3 (j 0) (j 1) (j 2) := eq_ix3 j
  have e0 : j 0 = (0 : Fin 1) := Subsingleton.elim (α := Fin 1) _ _
  rw [e, e0]
  exact h _ _

/-- The four stores leave the block. -/
theorem out_blk (y : S1x2048x128.Idx) : out0_8 (F := Ideal) x0 x1 x2 x3 x4 x5 x6 x7 y = blk x0 x1 x2 x3 x4 x5 x6 x7 y := by
  rw [out_eq]
  refine View.canon_apply_of_pieces (blk x0 x1 x2 x3 x4 x5 x6 x7) _ (fun p hp j => ?_) y (cover0_8 _ _ _ _ y)
  simp only [List.mem_cons, List.mem_nil_iff, or_false] at hp
  rcases hp with rfl | rfl | rfl | rfl
  · refine tile_idx (fun j => p3 x0 x1 x2 x3 x4 x5 x6 x7 j = blk x0 x1 x2 x3 x4 x5 x6 x7 (r0_5.emb j)) (fun r n => ?_) j
    rw [p3_apply]
    exact congrArg₂ (res x0 x1 x2 x3 x4 x5 x6 x7) (Fin.ext (by simp)) (Fin.ext (by simp))
  · refine tile_idx (fun j => p2 x0 x1 x2 x3 x4 x5 x6 x7 j = blk x0 x1 x2 x3 x4 x5 x6 x7 (r0_4.emb j)) (fun r n => ?_) j
    rw [p2_apply]
    exact congrArg₂ (res x0 x1 x2 x3 x4 x5 x6 x7) (Fin.ext (by simp)) (Fin.ext (by simp))
  · refine tile_idx (fun j => p1 x0 x1 x2 x3 x4 x5 x6 x7 j = blk x0 x1 x2 x3 x4 x5 x6 x7 (r0_3.emb j)) (fun r n => ?_) j
    rw [p1_apply]
    exact congrArg₂ (res x0 x1 x2 x3 x4 x5 x6 x7) (Fin.ext (by simp)) (Fin.ext (by simp))
  · refine tile_idx (fun j => p0 x0 x1 x2 x3 x4 x5 x6 x7 j = blk x0 x1 x2 x3 x4 x5 x6 x7 (r0_1.emb j)) (fun r n => ?_) j
    rw [p0_apply]
    exact congrArg₂ (res x0 x1 x2 x3 x4 x5 x6 x7) (Fin.ext (by simp)) (Fin.ext (by simp))

end Cert.AttnIdeal.Blk

end
-- ==== Proof.Attn.Ref.lean ====
/- The attention reference read at an index: one row of one head. -/
module

public import proofs.«01_k».proof.Proof.Gen.AttnRefIdeal.Read
public import proofs.«01_k».proof.Proof.Attn.Score
public import Idealize.ShloMosaic.Lib.WordCmp

@[expose] public section

noncomputable section

namespace Cert.AttnRefIdeal.Rows

open Cert.AttnRefIdeal Cert.AttnRefIdeal.Gen Cert.AttnRefIdeal.Read Idealize.ShloMosaic Idealize.SL.Sem Cert.DiffAlg

abbrev X := Vec Ideal S32x2048x512 .bf16
abbrev Y := Vec Ideal S1x64 .f32

/-- Lane `l` of head `h`. -/
def lane (h : Fin 4) (l : Fin 128) : Fin 512 := ⟨h.val * 128 + l.val, by omega⟩

/-- The head's part of a row of an array. -/
def hd (x : X) (b : Fin 32) (h : Fin 4) (r : Fin 2048) (l : Fin 128) : EReal := x (ix3 b r (lane h l))

/-- The first softmax's scores of a row. -/
def s1 (x0 x1 : X) (b : Fin 32) (h : Fin 4) (r : Fin 2048) : Fin 2048 → EReal := msk r fun k => lo (hd x0 b h r) (hd x1 b h k)
/-- The second softmax's scores of a row. -/
def s2 (x0 x1 : X) (b : Fin 32) (h : Fin 4) (r : Fin 2048) : Fin 2048 → EReal := msk r fun k => hi (hd x0 b h r) (hd x1 b h k)

variable (x0 x1 x2 : X) (x3 x4 x5 x6 : Y) (x7 : Vec Ideal S1x512 .f32)
variable (b : Fin 32) (h : Fin 4) (r k : Fin 2048)

theorem q1_apply (d : Fin 64) : val_main_v6 (F := Ideal) x0 (ix4 b h r d) = hd x0 b h r ⟨d.val, by omega⟩ := by
  pointwise [val_main_v6, val_main_v5, val_main_v4, val_main_v3, val_main_v0]
  unfold hd lane
  congr 2
theorem q2_apply (d : Fin 64) : val_main_v9 (F := Ideal) x0 (ix4 b h r d) = hd x0 b h r ⟨64 + d.val, by omega⟩ := by
  pointwise [val_main_v9, val_main_v8, val_main_v7, val_main_v3, val_main_v0]
  unfold hd lane
  congr 2
  try (ext; simp; try omega)
theorem k1_apply (d : Fin 64) : val_main_v13 (F := Ideal) x1 (ix4 b h k d) = hd x1 b h k ⟨d.val, by omega⟩ := by
  pointwise [val_main_v13, val_main_v12, val_main_v11, val_main_v10, val_main_v1]
  unfold hd lane
  congr 2
theorem k2_apply (d : Fin 64) : val_main_v16 (F := Ideal) x1 (ix4 b h k d) = hd x1 b h k ⟨64 + d.val, by omega⟩ := by
  pointwise [val_main_v16, val_main_v15, val_main_v14, val_main_v10, val_main_v1]
  unfold hd lane
  congr 2
  try (ext; simp; try omega)
theorem v_apply (d : Fin 128) : val_main_v18 (F := Ideal) x2 (ix4 b h k d) = hd x2 b h k d := by
  pointwise [val_main_v18, val_main_v17, val_main_v2]
  unfold hd lane
  congr 2

theorem sc1_apply : val_main_v36 (F := Ideal) x0 x1 (ix4 b h r k) = s1 x0 x1 b h r k := by
  pointwise [val_main_v36, val_main_call0_v1, val_main_v32, val_main_v31, val_main_v30, val_main_v29, val_main_v28, val_main_v27, val_main_v35, val_main_v34, val_main_cst_2, val_main_v33, val_main_call0_v2, val_main_call0_v0, val_main_cst_3]
  rw [WordCmp.cmpi_sle_ofNat (by omega) (by omega), WordCmp.select_ofBool]
  unfold s1 msk lo
  simp only [q1_apply, k1_apply, decide_eq_true_eq]
  rw [← ofBits_bot]
  rfl
theorem sc2_apply : val_main_v51 (F := Ideal) x0 x1 (ix4 b h r k) = s2 x0 x1 b h r k := by
  pointwise [val_main_v51, val_main_call1_v1, val_main_v32, val_main_v31, val_main_v30, val_main_v29, val_main_v28, val_main_v27, val_main_v50, val_main_v49, val_main_cst_7, val_main_v48, val_main_call1_v2, val_main_call1_v0, val_main_cst_8]
  rw [WordCmp.cmpi_sle_ofNat (by omega) (by omega), WordCmp.select_ofBool]
  unfold s2 msk hi
  simp only [q2_apply, k2_apply, decide_eq_true_eq]
  rw [← ofBits_bot]
  rfl

/-- The maximum along the last axis, read at an index. -/
theorem maxRow (y : FVec Ideal S32x4x2048x2048 .f32) (c : FVec Ideal S_ .f32) :
    Host.reduce FloatOps.maximumf y c reducesTo_S32x4x2048x2048_S32x4x2048_d3 h_S_ (ix3 b h r)
      = Finset.fold max (c (Shape.Idx.first h_S_)) (fun k => y (ix4 b h r k)) Finset.univ := by
  pointwise []

theorem m1_apply : val_main_v39 (F := Ideal) x0 x1 (ix3 b h r) = Finset.univ.sup (s1 x0 x1 b h r) := by
  have e : val_main_v37 (F := Ideal) x0 x1 (ix3 b h r) = Finset.fold max (val_main_cst_4 (F := Ideal) (Shape.Idx.first h_S_))
      (fun k => val_main_v36 (F := Ideal) x0 x1 (ix4 b h r k)) Finset.univ := by
    unfold val_main_v37
    exact maxRow b h r _ _
  rw [val_main_v39_apply, val_main_v38_apply, val_main_cst_5_apply, Ideal.maximumf_def, e, val_main_cst_4_apply,
    Ideal.ofBits_def, ofBits_bot, fold_max_bot, max_eq_right bot_le]
  exact Finset.sup_congr rfl fun k _ => sc1_apply x0 x1 b h r k
theorem m2_apply : val_main_v54 (F := Ideal) x0 x1 (ix3 b h r) = Finset.univ.sup (s2 x0 x1 b h r) := by
  have e : val_main_v52 (F := Ideal) x0 x1 (ix3 b h r) = Finset.fold max (val_main_cst_9 (F := Ideal) (Shape.Idx.first h_S_))
      (fun k => val_main_v51 (F := Ideal) x0 x1 (ix4 b h r k)) Finset.univ := by
    unfold val_main_v52
    exact maxRow b h r _ _
  rw [val_main_v54_apply, val_main_v53_apply, val_main_cst_10_apply, Ideal.maximumf_def, e, val_main_cst_9_apply,
    Ideal.ofBits_def, ofBits_bot, fold_max_bot, max_eq_right bot_le]
  exact Finset.sup_congr rfl fun k _ => sc2_apply x0 x1 b h r k

theorem p1_apply : val_main_v43 (F := Ideal) x0 x1 (ix4 b h r k) = P (s1 x0 x1 b h r) k := by
  pointwise [val_main_v43, val_main_v42, val_main_v41, val_main_v40]
  rw [m1_apply, sc1_apply]
  rfl
theorem p2_apply : val_main_v58 (F := Ideal) x0 x1 (ix4 b h r k) = P (s2 x0 x1 b h r) k := by
  pointwise [val_main_v58, val_main_v57, val_main_v56, val_main_v55]
  rw [m2_apply, sc2_apply]
  rfl

theorem w1_apply : val_main_v47 (F := Ideal) x0 x1 (ix4 b h r k) = Ideal.div (P (s1 x0 x1 b h r) k) (L (s1 x0 x1 b h r)) := by
  pointwise [val_main_v47, val_main_v46, val_main_v45, val_main_v44, val_main_cst_6]
  simp only [p1_apply]
  rfl
theorem w2_apply : val_main_v62 (F := Ideal) x0 x1 (ix4 b h r k) = Ideal.div (P (s2 x0 x1 b h r) k) (L (s2 x0 x1 b h r)) := by
  pointwise [val_main_v62, val_main_v61, val_main_v60, val_main_v59, val_main_cst_11]
  simp only [p2_apply]
  rfl

/-- The weight of the second average. -/
def lam (x3 x4 x5 x6 : Y) : EReal :=
  Ideal.exp (∑ j : Fin 64, x3 (ix2 0 j) * x4 (ix2 0 j)) - Ideal.exp (∑ j : Fin 64, x5 (ix2 0 j) * x6 (ix2 0 j))
      + Ideal.ofBits .f32 0x3E4CCCCD#32

theorem lam_apply : val_main_v26 (F := Ideal) x3 x4 x5 x6 ix0 = lam x3 x4 x5 x6 := by
  pointwise [val_main_v26, val_main_v25, val_main_v24, val_main_v23, val_main_v22, val_main_v21, val_main_v20, val_main_v19, val_main_cst_0, val_main_cst_1, val_main_cst]
  simp only [Fin.sum_univ_one]
  rfl

/-- The row before its normalisation. -/
def row (b : Fin 32) (h : Fin 4) (r : Fin 2048) : Fin 128 → EReal :=
  rod (s1 x0 x1 b h r) (s2 x0 x1 b h r) (lam x3 x4 x5 x6) (hd x2 b h)

theorem od_apply (n : Fin 128) : val_main_v66 (F := Ideal) x0 x1 x2 x3 x4 x5 x6 (ix4 b h r n) = row x0 x1 x2 x3 x4 x5 x6 b h r n := by
  have e : ∀ k, val_main_v65 (F := Ideal) x0 x1 x3 x4 x5 x6 (ix4 b h r k)
      = val_main_v47 (F := Ideal) x0 x1 (ix4 b h r k) - val_main_v26 (F := Ideal) x3 x4 x5 x6 ix0 * val_main_v62 (F := Ideal) x0 x1 (ix4 b h r k) := by
    intro k
    pointwise [val_main_v65, val_main_v64, val_main_v63]
  pointwise [val_main_v66]
  simp only [e, w1_apply, w2_apply, lam_apply, v_apply]
  rfl

theorem rinv_apply : val_main_v75 (F := Ideal) x0 x1 x2 x3 x4 x5 x6 (ix4 b h r 0) = rinv (row x0 x1 x2 x3 x4 x5 x6 b h r) := by
  pointwise [val_main_v75, val_main_v74, val_main_v73, val_main_v72, val_main_v71, val_main_v70, val_main_v69, val_main_v68, val_main_cst_12, val_main_cst_13, val_main_cst_14]
  simp only [od_apply]
  rfl

/-- The reference's result at a lane of a head. -/
theorem out_apply (l : Fin 128) : val_main_v85 (F := Ideal) x0 x1 x2 x3 x4 x5 x6 x7 (ix3 b r (lane h l))
    = row x0 x1 x2 x3 x4 x5 x6 b h r l * rinv (row x0 x1 x2 x3 x4 x5 x6 b h r) * x7 (ix2 0 (lane h l)) * Ideal.ofBits .f32 0x3F4CCCCD#32 := by
  have e : ∀ n : Fin 512, val_main_v85 (F := Ideal) x0 x1 x2 x3 x4 x5 x6 x7 (ix3 b r n)
      = val_main_v66 (F := Ideal) x0 x1 x2 x3 x4 x5 x6 (ix4 b ⟨n.val / 128, by omega⟩ r ⟨n.val % 128, by omega⟩)
        * val_main_v75 (F := Ideal) x0 x1 x2 x3 x4 x5 x6 (ix4 b ⟨n.val / 128, by omega⟩ r 0) * x7 (ix2 0 n) * Ideal.ofBits .f32 0x3F4CCCCD#32 := by
    intro n
    pointwise [val_main_v85, val_main_v84, val_main_v83, val_main_v82, val_main_v81, val_main_cst_15, val_main_v80, val_main_v79, val_main_v78, val_main_v67, val_main_v77, val_main_v76]
  have h1 : (⟨(lane h l).val / 128, by omega⟩ : Fin 4) = h := Fin.ext (by show (h.val * 128 + l.val) / 128 = h.val; omega)
  have h2 : (⟨(lane h l).val % 128, by omega⟩ : Fin 128) = l := Fin.ext (by show (h.val * 128 + l.val) % 128 = l.val; omega)
  rw [e, h1, h2, od_apply, rinv_apply]

end Cert.AttnRefIdeal.Rows

end
-- ==== Proof.Attn.Pair.lean ====
/- One row of the attention, as the kernel arranges it and as the reference writes it, for real values and a real weight. -/
module

public import proofs.«01_k».proof.Proof.Attn.Ref

@[expose] public section

noncomputable section

namespace Cert.AttnRefIdeal.Rows

open Cert.AttnRefIdeal Idealize.ShloMosaic Cert.DiffAlg

/-- A finite sum of products of real numbers is a real number. -/
theorem dot_real (a b : Y) (ha : ∀ j : Fin 64, ∃ x : ℝ, a (ix2 0 j) = (x : EReal)) (hb : ∀ j : Fin 64, ∃ x : ℝ, b (ix2 0 j) = (x : EReal)) :
    ∃ s : ℝ, ∑ j : Fin 64, a (ix2 0 j) * b (ix2 0 j) = (s : EReal) := by
  choose f hf using ha
  choose g hg using hb
  refine ⟨∑ j, f j * g j, ?_⟩
  rw [coe_sum]
  exact Finset.sum_congr rfl fun j _ => by rw [hf, hg, EReal.coe_mul]

variable (x0 x1 x2 : X) (x3 x4 x5 x6 : Y) (x7 : Vec Ideal S1x512 .f32)

/-- The scalar weight is a real number when its vectors are real. -/
theorem lam_real (h3 : ∀ j : Fin 64, ∃ x : ℝ, x3 (ix2 0 j) = (x : EReal)) (h4 : ∀ j : Fin 64, ∃ x : ℝ, x4 (ix2 0 j) = (x : EReal))
    (h5 : ∀ j : Fin 64, ∃ x : ℝ, x5 (ix2 0 j) = (x : EReal)) (h6 : ∀ j : Fin 64, ∃ x : ℝ, x6 (ix2 0 j) = (x : EReal)) :
    ∃ r : ℝ, lam x3 x4 x5 x6 = (r : EReal) := by
  obtain ⟨s, hs⟩ := dot_real x3 x4 h3 h4
  obtain ⟨t, ht⟩ := dot_real x5 x6 h5 h6
  obtain ⟨w, hw⟩ := ofBits_fifth
  refine ⟨Real.exp s - Real.exp t + w, ?_⟩
  unfold lam
  rw [hs, ht, hw, Ideal.exp_coe, Ideal.exp_coe, ← EReal.coe_sub, ← EReal.coe_add]

/-- The normalised rows agree. -/
theorem row_eq (hv : ∀ (b : Fin 32) (r : Fin 2048) (n : Fin 512), ∃ x : ℝ, x2 (ix3 b r n) = (x : EReal))
    (hl : ∃ r : ℝ, lam x3 x4 x5 x6 = (r : EReal)) (b : Fin 32) (h : Fin 4) (r : Fin 2048) (l : Fin 128) :
    kod (s1 x0 x1 b h r) (s2 x0 x1 b h r) (lam x3 x4 x5 x6) (hd x2 b h) l
        * rinv (kod (s1 x0 x1 b h r) (s2 x0 x1 b h r) (lam x3 x4 x5 x6) (hd x2 b h))
      = row x0 x1 x2 x3 x4 x5 x6 b h r l * rinv (row x0 x1 x2 x3 x4 x5 x6 b h r) := by
  have hv' : ∀ k n, ∃ x : ℝ, hd x2 b h k n = (x : EReal) := fun k n => hv b k (lane h n)
  choose v e using hv'
  obtain ⟨w, hw⟩ := hl
  have e' : hd x2 b h = fun k n => (v k n : EReal) := funext fun k => funext fun n => e k n
  unfold row
  rw [e', hw]
  exact kod_rinv_eq _ _ w v l

end Cert.AttnRefIdeal.Rows

end
-- ==== Proof.Attn.Array.lean ====
/- The attention's result array: every block of it, at its place, holds the reference's result. -/
module

public import proofs.«01_k».proof.Proof.Attn.Block
public import proofs.«01_k».proof.Proof.Attn.Pair
public import proofs.«01_k».proof.Proof.Gen.AttnIdeal.Value
public import Idealize.ShloMosaic.Lib.Pipeline.ValueKit.Geometry

@[expose] public section

noncomputable section

namespace Cert.AttnIdeal.Arr

open Cert.AttnIdeal Cert.AttnIdeal.Gen Idealize.ShloMosaic Idealize.ShloMosaic.TcCoe Idealize.SL.Sem Cert.DiffAlg
open Cert.AttnRefIdeal.Rows (hd lane s1 s2 lam row)

/-- Where each window's block starts at a grid point: batch `t / 4`, head `t % 4`. -/
theorem at0 : ∀ t : Fin cfg0.N, win0_0.index t = ![t.val / 4, 0, t.val % 4] := (by decide +kernel : ∀ t : Fin grid0.N, _)
theorem at1 : ∀ t : Fin cfg0.N, win0_1.index t = ![t.val / 4, 0, t.val % 4] := (by decide +kernel : ∀ t : Fin grid0.N, _)
theorem at2 : ∀ t : Fin cfg0.N, win0_2.index t = ![t.val / 4, 0, t.val % 4] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![0, 0] := (by decide +kernel : ∀ t : Fin grid0.N, _)
theorem at7 : ∀ t : Fin cfg0.N, win0_7.index t = ![0, t.val % 4] := (by decide +kernel : ∀ t : Fin grid0.N, _)
theorem at8 : ∀ t : Fin cfg0.N, win0_8.index t = ![t.val / 4, 0, t.val % 4] := (by decide +kernel : ∀ t : Fin grid0.N, _)

theorem lt_N (t : Fin cfg0.N) : t.val < 128 := lt_of_lt_of_eq t.isLt (by decide : grid0.N = 128)

/-- The batch of a grid point. -/
def bt (t : Fin cfg0.N) : Fin 32 := ⟨t.val / 4, by have := lt_N t; omega⟩
/-- The head of a grid point. -/
def ht (t : Fin cfg0.N) : Fin 4 := ⟨t.val % 4, by omega⟩

variable (m : (ℓ : Loc nD τ sig) → Buf (Elt Ideal) ℓ) (c : Dev nD)

abbrev A0 : Vec Ideal S32x2048x512 .bf16 := m ((c : Thread nD τ).loc main_arg0)
abbrev A1 : Vec Ideal S32x2048x512 .bf16 := m ((c : Thread nD τ).loc main_arg1)
abbrev A2 : Vec Ideal S32x2048x512 .bf16 := m ((c : Thread nD τ).loc main_arg2)
abbrev A3 : Vec Ideal S1x64 .f32 := m ((c : Thread nD τ).loc main_arg3)
abbrev A4 : Vec Ideal S1x64 .f32 := m ((c : Thread nD τ).loc main_arg4)
abbrev A5 : Vec Ideal S1x64 .f32 := m ((c : Thread nD τ).loc main_arg5)
abbrev A6 : Vec Ideal S1x64 .f32 := m ((c : Thread nD τ).loc main_arg6)
abbrev A7 : Vec Ideal S1x512 .f32 := m ((c : Thread nD τ).loc main_arg7)

theorem rows0 (t : Fin cfg0.N) : Blk.rw (iblk m c 0 t) = hd (A0 m c) (bt t) (ht t) := by
  funext R l
  show V m c main_arg0 (((cfg0.win 0).blk t).view.emb (ix3 0 R l)) = A0 m c (ix3 (bt t) R (lane (ht t) l))
  rw [V_main_arg0]
  refine congrArg (A0 m c) ?_
  blk_ext [at0, bt, ht, lane]
theorem rows1 (t : Fin cfg0.N) : Blk.rw (iblk m c 1 t) = hd (A1 m c) (bt t) (ht t) := by
  funext R l
  show V m c main_arg1 (((cfg0.win 1).blk t).view.emb (ix3 0 R l)) = A1 m c (ix3 (bt t) R (lane (ht t) l))
  rw [V_main_arg1]
  refine congrArg (A1 m c) ?_
  blk_ext [at1, bt, ht, lane]
theorem rows2 (t : Fin cfg0.N) : Blk.rw (iblk m c 2 t) = hd (A2 m c) (bt t) (ht t) := by
  funext R l
  show V m c main_arg2 (((cfg0.win 2).blk t).view.emb (ix3 0 R l)) = A2 m c (ix3 (bt t) R (lane (ht t) l))
  rw [V_main_arg2]
  refine congrArg (A2 m c) ?_
  blk_ext [at2, bt, ht, lane]
theorem vec3 (t : Fin cfg0.N) (j : Fin 64) : iblk m c 3 t (ix2 0 j) = A3 m c (ix2 0 j) := by
  show V m c main_arg3 (((cfg0.win 3).blk t).view.emb (ix2 0 j)) = _
  rw [V_main_arg3]
  refine congrArg (A3 m c) ?_
  blk_ext [at3]
theorem vec4 (t : Fin cfg0.N) (j : Fin 64) : iblk m c 4 t (ix2 0 j) = A4 m c (ix2 0 j) := by
  show V m c main_arg4 (((cfg0.win 4).blk t).view.emb (ix2 0 j)) = _
  rw [V_main_arg4]
  refine congrArg (A4 m c) ?_
  blk_ext [at4]
theorem vec5 (t : Fin cfg0.N) (j : Fin 64) : iblk m c 5 t (ix2 0 j) = A5 m c (ix2 0 j) := by
  show V m c main_arg5 (((cfg0.win 5).blk t).view.emb (ix2 0 j)) = _
  rw [V_main_arg5]
  refine congrArg (A5 m c) ?_
  blk_ext [at5]
theorem vec6 (t : Fin cfg0.N) (j : Fin 64) : iblk m c 6 t (ix2 0 j) = A6 m c (ix2 0 j) := by
  show V m c main_arg6 (((cfg0.win 6).blk t).view.emb (ix2 0 j)) = _
  rw [V_main_arg6]
  refine congrArg (A6 m c) ?_
  blk_ext [at6]
theorem vec7 (t : Fin cfg0.N) (l : Fin 128) : iblk m c 7 t (ix2 0 l) = A7 m c (ix2 0 (lane (ht t) l)) := by
  show V m c main_arg7 (((cfg0.win 7).blk t).view.emb (ix2 0 l)) = _
  rw [V_main_arg7]
  refine congrArg (A7 m c) ?_
  blk_ext [at7, ht, lane]

/-- The weight of the second average, from the arrays. -/
theorem lam_eq (t : Fin cfg0.N) : Blk.lamB (iblk m c 3 t) (iblk m c 4 t) (iblk m c 5 t) (iblk m c 6 t) = lam (A3 m c) (A4 m c) (A5 m c) (A6 m c) := by
  unfold Blk.lamB lam
  simp only [vec3, vec4, vec5, vec6]

/-- A row of a point's block before its normalisation, from the arrays. -/
theorem dif_eq (t : Fin cfg0.N) (R : Fin 2048) :
    Blk.dif (iblk m c 0 t) (iblk m c 1 t) (iblk m c 2 t) (iblk m c 3 t) (iblk m c 4 t) (iblk m c 5 t) (iblk m c 6 t) R
      = kod (s1 (A0 m c) (A1 m c) (bt t) (ht t) R) (s2 (A0 m c) (A1 m c) (bt t) (ht t) R) (lam (A3 m c) (A4 m c) (A5 m c) (A6 m c)) (hd (A2 m c) (bt t) (ht t)) := by
  unfold Blk.dif Blk.t1 Blk.t2 s1 s2
  rw [lam_eq, rows0, rows1, rows2]

/-- The result array, as the reference's result of the argument arrays. -/
def G : Vec Ideal S32x2048x512 .bf16 :=
  Cert.AttnRefIdeal.Read.val_main_v85 (F := Ideal) (A0 m c) (A1 m c) (A2 m c) (A3 m c) (A4 m c) (A5 m c) (A6 m c) (A7 m c)

/-- The values and the scalar weight are real numbers. -/
structure Real : Prop where
  v : ∀ (b : Fin 32) (r : Fin 2048) (n : Fin 512), ∃ x : ℝ, A2 m c (ix3 b r n) = (x : EReal)
  l : ∃ r : ℝ, lam (A3 m c) (A4 m c) (A5 m c) (A6 m c) = (r : EReal)

/-- A grid point's block holds the reference's result. -/
theorem point_eq (hr : Real m c) (t : Fin cfg0.N) (R : Fin 2048) (l : Fin 128) :
    Blk.res (iblk m c 0 t) (iblk m c 1 t) (iblk m c 2 t) (iblk m c 3 t) (iblk m c 4 t) (iblk m c 5 t) (iblk m c 6 t) (iblk m c 7 t) R l
      = G m c (ix3 (bt t) R (lane (ht t) l)) := by
  unfold Blk.res G
  rw [Cert.AttnRefIdeal.Rows.out_apply, dif_eq, Cert.AttnRefIdeal.Rows.row_eq _ _ _ _ _ _ _ hr.v hr.l, vec7]

/-- The array after the run. -/
theorem final8 (hr : Real m c) : (dats m 0 c).arrAt 8 cfg0.N = G m c := by
  refine (dats m 0 c).arrAt_eq_of_covers 8 (G m c) (by decide +kernel) fun t hf y => ?_
  blk_simp
  rw [after0_8, Blk.out_blk]
  have e : ((win0_8.blk t).view.emb y : S32x2048x512.Idx) = ix3 (bt t) (y 1) (lane (ht t) (y 2)) := by
    blk_ext [at8, bt, ht, lane]
  rw [e]
  exact point_eq m c hr t (y 1) (y 2)

end Cert.AttnIdeal.Arr

end
-- ==== Proof.Attn.Finite.lean ====
/- What the precondition gives: the values and the vectors of the scalar weight are real numbers. -/
module

public import proofs.«01_k».proof.Pre_values_and_lambdas_finite
public import Idealize.ShloMosaic.Lib.Pointwise

@[expose] public section

noncomputable section

namespace Cert.Finite

open Idealize.ShloMosaic Cert.Pre_values_and_lambdas_finite

/-- The precondition's stated facts hold. -/
theorem facts : Cert.Pre_values_and_lambdas_finite.Facts where
  bitsLt_bf16_f32 := by decide
  bcast_S_S32x2048x512 := by decide
  bcast_S_S1x64 := by decide

/-- A value whose absolute value is below plus infinity is a real number. -/
theorem real_of_cmp (x : EReal) (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  induction x with
  | bot => simp [Ideal.cmp] at h
  | top => simp [Ideal.cmp] at h
  | coe r => exact ⟨r, rfl⟩

attribute [local instance] facts

/-- The first result of the precondition: every value is real. -/
theorem values (a0 a1 a2 : FVec Ideal S32x2048x512 .bf16) (a3 a4 a5 a6 : FVec Ideal S1x64 .f32) (a7 : FVec Ideal S1x512 .f32)
    (h : (fn a0 a1 a2 a3 a4 a5 a6 a7).1 = fun _ => 1#1) (b : Fin 32) (r : Fin 2048) (n : Fin 512) : ∃ x : ℝ, a2 (ix3 b r n) = (x : EReal) := by
  refine real_of_cmp _ ?_
  rw [← congrFun h (ix3 b r n)]
  symm
  unfold fn
  dsimp only
  pointwise []
  rfl

/-- Its further results: every entry of the four vectors is real. -/
theorem vec (a : FVec Ideal S1x64 .f32) (j : Fin 64)
    (h : (cmpf .olt (Host.absf a) (broadcastInDim S1x64 ![] Facts.bcast_S_S1x64 (constant (F := Ideal) S_ .f32 0x7F800000#32)) : IVec S1x64 1) = fun _ => 1#1) :
    ∃ x : ℝ, a (ix2 0 j) = (x : EReal) := by
  refine real_of_cmp _ ?_
  rw [← congrFun h (ix2 0 j)]
  symm
  pointwise []
  rfl

end Cert.Finite

end
-- ==== Proof.Attn.Claims.lean ====
/- The attention's claims. -/
module

public import proofs.«01_k».proof.Defs
public import proofs.«01_k».proof.Proof.Gen.Attn.Frame
public import proofs.«01_k».proof.Proof.Gen.AttnRefIdeal.Run
public import proofs.«01_k».proof.Proof.Attn.Array
public import proofs.«01_k».proof.Proof.Attn.Finite
public import Idealize.ShloMosaic.Lib.Quiescent

@[expose] public section

noncomputable section

namespace Cert.Proof.AttnClaims

open Idealize.ShloMosaic Idealize.ShloMosaic.TcCoe Idealize.SL.Sem

attribute [local instance] Cert.Finite.facts

/-- The kernel runs and leaves its arguments. -/
theorem frame_p : Cert.quiescent_Attn := fun m ρ _ => Cert.Attn.Gen.frame m ρ
/-- The kernel at exact arithmetic runs and leaves its arguments. -/
theorem frame_pi : Cert.quiescent_AttnIdeal := fun m ρ _ => Cert.AttnIdeal.Gen.frame m ρ
theorem frame_pi_pre : Cert.quiescent_AttnIdeal_pre_values_and_lambdas_finite := fun m ρ _ => Cert.AttnIdeal.Gen.frame m ρ
/-- The reference runs and leaves its arguments. -/
theorem frame_ri : Cert.quiescent_AttnRefIdeal := fun m ρ _ =>
  (θ_run Cert.AttnRefIdeal.defs _ _).mono (fun r h => ⟨fun c => (h c).2, sem_eq_zero_of_no_sems (by decide) r.2⟩)
    (Cert.AttnRefIdeal.Value.run (F := Ideal) m ρ)
theorem frame_ri_pre : Cert.quiescent_AttnRefIdeal_pre_values_and_lambdas_finite := fun m ρ _ =>
  (θ_run Cert.AttnRefIdeal.defs _ _).mono (fun r h => ⟨fun c => (h c).2, sem_eq_zero_of_no_sems (by decide) r.2⟩)
    (Cert.AttnRefIdeal.Value.run (F := Ideal) m ρ)
/-- No operation was rewritten between the kernel and its exact form. -/
theorem preserves : Cert.preserves_Attn_AttnIdeal := trivial

/-- The precondition makes the values and the scalar weight real numbers. -/
theorem real_of_pre (m : (ℓ : Loc Cert.AttnIdeal.nD Cert.AttnIdeal.τ Cert.AttnIdeal.sig) → Buf (Elt Ideal) ℓ)
    (h : Cert.Pre_AttnIdeal_values_and_lambdas_finite m) (c : Dev Cert.AttnIdeal.nD) : Cert.AttnIdeal.Arr.Real m c := by
  obtain ⟨hv, h3, h4, h5, h6⟩ := h c
  exact ⟨Cert.Finite.values _ _ _ _ _ _ _ _ hv, Cert.AttnRefIdeal.Rows.lam_real _ _ _ _ (fun j => Cert.Finite.vec _ j h3)
    (fun j => Cert.Finite.vec _ j h4) (fun j => Cert.Finite.vec _ j h5) (fun j => Cert.Finite.vec _ j h6)⟩

/-- At exact arithmetic the kernel's result is the reference's. -/
theorem algebraic : Cert.algebraic_AttnIdeal_AttnRefIdeal_pre_values_and_lambdas_finite := by
  intro m ρ m' ρ' hp hagree
  refine ⟨fun c => Cert.AttnIdeal.Arr.G m c, ?_, ?_⟩
  · exact (θ_run Cert.AttnIdeal.defs _ _).mono
      (fun _ h c => ⟨(h c).1.trans (Cert.AttnIdeal.Arr.final8 m c (real_of_pre m hp c)), (h c).2⟩)
      (Cert.AttnIdeal.Value.run_blocks (F := Ideal) m ρ)
  · refine (θ_run Cert.AttnRefIdeal.defs _ _).mono (fun _ h c => ⟨?_, (h c).2⟩) (Cert.AttnRefIdeal.Value.run (F := Ideal) m' ρ')
    obtain ⟨e0, e1, e2, e3, e4, e5, e6, e7⟩ := hagree c
    rw [(h c).1, Cert.AttnRefIdeal.Read.val_main_v85_eq]
    unfold Cert.AttnIdeal.Arr.G
    rw [e0, e1, e2, e3, e4, e5, e6, e7]

end Cert.Proof.AttnClaims

end
-- ==== Proof.Experts.Range.lean ====
/- What the precondition says of the tables: every block names one of the 32 experts, and at least one block is filled. -/
module

public import proofs.«01_k».proof.Proof.Gen.Pre_experts_in_range
public import Idealize.ShloMosaic.Lib.StableHlo.Predicate

@[expose] public section

noncomputable section

namespace Cert.ExpertsRange

open Cert.Pre_experts_in_range Idealize.ShloMosaic

variable {F : FTy → Type} [FloatOps F]
variable (a0 : IVec S288 32) (a1 : IVec S1 32) (a2 : FVec F S2359296x128 .f32) (a3 a4 : FVec F S32x1024x1024 .bf16)
  (a5 a6 : FVec F S32x1x1024 .f32) (a7 : FVec F S32x1024x1024 .bf16) (a8 : FVec F S32x1x1024 .f32)

theorem and_one (a b : BitVec 1) : IntOp.andi a b = 1#1 ↔ a = 1#1 ∧ b = 1#1 := by revert a b; decide

/-- A word from 0 up and below 32, compared as signed, is a number below 32. -/
theorem lt32 (w : BitVec 32) (h0 : IntOp.cmpi .sge w 0#32 = 1#1) (h1 : IntOp.cmpi .slt w 32#32 = 1#1) : w.toNat < 32 := by
  have ofb : ∀ b : Bool, BitVec.ofBool b = 1#1 → b = true := by decide
  have e0 := ofb _ h0
  have e1 := ofb _ h1
  simp only [BitVec.sle, BitVec.slt, decide_eq_true_eq] at e0 e1
  have t := BitVec.toInt_eq_toNat_cond w
  have z : (0#32 : BitVec 32).toInt = 0 := by decide
  have z1 : (32#32 : BitVec 32).toInt = 32 := by decide
  rw [z] at e0
  rw [z1] at e1
  split at t <;> omega

/-- A word from 1 up, compared as signed, is such a number. -/
theorem pos31 (w : BitVec 32) (h0 : IntOp.cmpi .sge w 1#32 = 1#1) : 1 ≤ w.toNat ∧ w.toNat < 2147483648 := by
  have ofb : ∀ b : Bool, BitVec.ofBool b = 1#1 → b = true := by decide
  have e0 := ofb _ h0
  simp only [BitVec.sle, BitVec.slt, decide_eq_true_eq] at e0
  have t := BitVec.toInt_eq_toNat_cond w
  have z : (1#32 : BitVec 32).toInt = 1 := by decide
  rw [z] at e0
  split at t <;> omega

theorem experts (h : (fn (F := F) a0 a1 a2 a3 a4 a5 a6 a7 a8).1 = fun _ => 1#1) (j : S288.Idx) : (a0 j).toNat < 32 := by
  have e := congrFun h j
  simp only [fn, andi, cmpi, broadcastInDim, constantI, and_one] at e
  exact lt32 _ e.1 e.2

theorem filled (h : (fn (F := F) a0 a1 a2 a3 a4 a5 a6 a7 a8).2 = fun _ => 1#1) (j : S1.Idx) : 1 ≤ (a1 j).toNat ∧ (a1 j).toNat < 2147483648 := by
  have e := congrFun h j
  simp only [fn, cmpi, broadcastInDim, constantI] at e
  exact pos31 _ e

end Cert.ExpertsRange

end
-- ==== Proof.Experts.KitExpertsIdeal.lean ====
/-
The launch of the experts call: its arrays and tables as the launch memory holds them, the windows' blocks,
and the frame claim read off a run that leaves every input array as it was.
-/
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.ExpertsIdeal.Hand

open Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section

/-- Window 7 (result 0 (%0)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 0 (by decide) (by decide) (Pipeline.Window.sep_of_coord cc0_transform_7 0 0 (fun _ => rfl) (by decide)) (P := 1) (m := 0) (by decide) rfl t).mpr (Nat.mod_one _) : ∀ t : Fin grid0.N, Pipeline.Window.flushOf grid0 true cc0_transform_7 t = true)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_experts (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7))

end

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S288 .i32 := Memref.whole main_arg0
abbrev htbM0_0 : tbM0_0.IsWhole := Memref.isWhole_whole _
abbrev tbM0_1 : Memref sig .tc .smem S1 .i32 := Memref.whole main_arg1
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (MT nD τ sig Unit (Elt F) ℕ (UR sig nD τ) ℕ) :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp (MT nD τ sig Unit (Elt F) ℕ (UR sig nD τ) ℕ)) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_ExpertsIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats 0 c).arrAt_in 0 rfl _).trans ((hA c 0).trans (V_main_arg2 m c))),
      ((h c).1 1).trans (((dats 0 c).arrAt_in 1 rfl _).trans ((hA c 1).trans (V_main_arg3 m c))),
      ((h c).1 2).trans (((dats 0 c).arrAt_in 2 rfl _).trans ((hA c 2).trans (V_main_arg4 m c))),
      ((h c).1 3).trans (((dats 0 c).arrAt_in 3 rfl _).trans ((hA c 3).trans (V_main_arg5 m c))),
      ((h c).1 4).trans (((dats 0 c).arrAt_in 4 rfl _).trans ((hA c 4).trans (V_main_arg6 m c))),
      ((h c).1 5).trans (((dats 0 c).arrAt_in 5 rfl _).trans ((hA c 5).trans (V_main_arg7 m c))),
      ((h c).1 6).trans (((dats 0 c).arrAt_in 6 rfl _).trans ((hA c 6).trans (V_main_arg8 m c)))⟩) h

/-- Each window's current staging memref at point `t`, spelled as the pipeline passes it (`bodyAt0`), and its wholeness. -/
abbrev ms0_0 (hO : Ok m) (t : Fin (cfgM m hO).N) : Memref sig .tc .vmem S8192x128 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x1024 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x1024 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1024x1024 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1x1024 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S8192x128 .f32 := spec0_7.stage ((cfgM m hO).slots t 7)
abbrev hs0_7 (hO : Ok m) (t : Fin (cfgM m hO).N) : (ms0_7 m hO t).IsWhole := hstage0_7 (((cfgM m hO).slots t 7).cast nbuf0_7)

end Cert.ExpertsIdeal.Hand

end
-- ==== Proof.Experts.BodyExpertsIdeal.lean ====
/-
What the experts' body leaves in its output block: the rows' outputs stored one column tile at a time
when the step is an active one, zeros when it is not.
-/
module

public import proofs.«01_k».proof.Proof.Experts.KitExpertsIdeal

@[expose] public section

set_option maxRecDepth 16384

noncomputable section

namespace Cert.ExpertsIdeal.Hand

open Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every eighth row of the block from row 0: where column tile 0 of the rows lies. -/
abbrev rS0 : Rect S8192x128 := ⟨(⟨![0, 0], S1024x128.size, ![8, 1], inb_S8192x128_S1024x128_0_0_s_8_1⟩ : LoadRect S8192x128), spos_8_1⟩
/-- Every eighth row of the block from row 1: where column tile 1 of the rows lies. -/
abbrev rS1 : Rect S8192x128 := ⟨(⟨![1, 0], S1024x128.size, ![8, 1], inb_S8192x128_S1024x128_1_0_s_8_1⟩ : LoadRect S8192x128), spos_8_1⟩
/-- Every eighth row of the block from row 2: where column tile 2 of the rows lies. -/
abbrev rS2 : Rect S8192x128 := ⟨(⟨![2, 0], S1024x128.size, ![8, 1], inb_S8192x128_S1024x128_2_0_s_8_1⟩ : LoadRect S8192x128), spos_8_1⟩
/-- Every eighth row of the block from row 3: where column tile 3 of the rows lies. -/
abbrev rS3 : Rect S8192x128 := ⟨(⟨![3, 0], S1024x128.size, ![8, 1], inb_S8192x128_S1024x128_3_0_s_8_1⟩ : LoadRect S8192x128), spos_8_1⟩
/-- Every eighth row of the block from row 4: where column tile 4 of the rows lies. -/
abbrev rS4 : Rect S8192x128 := ⟨(⟨![4, 0], S1024x128.size, ![8, 1], inb_S8192x128_S1024x128_4_0_s_8_1⟩ : LoadRect S8192x128), spos_8_1⟩
/-- Every eighth row of the block from row 5: where column tile 5 of the rows lies. -/
abbrev rS5 : Rect S8192x128 := ⟨(⟨![5, 0], S1024x128.size, ![8, 1], inb_S8192x128_S1024x128_5_0_s_8_1⟩ : LoadRect S8192x128), spos_8_1⟩
/-- Every eighth row of the block from row 6: where column tile 6 of the rows lies. -/
abbrev rS6 : Rect S8192x128 := ⟨(⟨![6, 0], S1024x128.size, ![8, 1], inb_S8192x128_S1024x128_6_0_s_8_1⟩ : LoadRect S8192x128), spos_8_1⟩
/-- Every eighth row of the block from row 7: where column tile 7 of the rows lies. -/
abbrev rS7 : Rect S8192x128 := ⟨(⟨![7, 0], S1024x128.size, ![8, 1], inb_S8192x128_S1024x128_7_0_s_8_1⟩ : LoadRect S8192x128), spos_8_1⟩
abbrev rW : Rect S1x1024x1024 := Rect.unit (s := S1x1024x1024) ![0, 0, 0] S1x1024x1024.size inb_S1x1024x1024_S1x1024x1024_0_0_0
abbrev rB : Rect S1x1x1024 := Rect.unit (s := S1x1x1024) ![0, 0, 0] S1x1x1024.size inb_S1x1x1024_S1x1x1024_0_0_0
abbrev rO : Rect S8192x128 := Rect.unit (s := S8192x128) ![0, 0] S8192x128.size inb_S8192x128_S8192x128_0_0

/-- The rows' linear half before its clamp, from the blocks. -/
def pA (x0 : Vec F S8192x128 .f32) (x2 : Vec F S1x1024x1024 .bf16) (x4 : Vec F S1x1x1024 .f32) : FVec F S1024x1024 .f32 :=
  k0_pay4 (View.ld x0 rS0) (View.ld x0 rS1) (View.ld x0 rS2) (View.ld x0 rS3) (View.ld x0 rS4) (View.ld x0 rS5) (View.ld x0 rS6) (View.ld x0 rS7) (View.ld x2 rW) (View.ld x4 rB)

/-- The rows' gate half, clamped, from the blocks. -/
def pB (x0 : Vec F S8192x128 .f32) (x1 : Vec F S1x1024x1024 .bf16) (x3 : Vec F S1x1x1024 .f32) : FVec F S1024x1024 .f32 :=
  k0_pay5 (View.ld x0 rS0) (View.ld x0 rS1) (View.ld x0 rS2) (View.ld x0 rS3) (View.ld x0 rS4) (View.ld x0 rS5) (View.ld x0 rS6) (View.ld x0 rS7) (View.ld x1 rW) (View.ld x3 rB)

/-- The output block of an active step. -/
def outA (x0 : Vec F S8192x128 .f32) (x1 : Vec F S1x1024x1024 .bf16) (x2 : Vec F S1x1024x1024 .bf16) (x3 : Vec F S1x1x1024 .f32) (x4 : Vec F S1x1x1024 .f32) (x5 : Vec F S1x1024x1024 .bf16) (x6 : Vec F S1x1x1024 .f32) : Vec F S8192x128 .f32 :=
  View.canon [⟨rS7, k0_pay1 (k0_pay7 (pA x0 x2 x4) (pB x0 x1 x3) (Scalar.ofBits .f32 0x40E00000#32) (k0_pay6 (F := F)) (View.ld x5 rW) (View.ld x6 rB))⟩,
    ⟨rS6, k0_pay14 (pA x0 x2 x4) (pB x0 x1 x3) (Scalar.ofBits .f32 0x40E00000#32) (k0_pay6 (F := F)) (View.ld x5 rW) (View.ld x6 rB)⟩,
    ⟨rS5, k0_pay13 (pA x0 x2 x4) (pB x0 x1 x3) (Scalar.ofBits .f32 0x40E00000#32) (k0_pay6 (F := F)) (View.ld x5 rW) (View.ld x6 rB)⟩,
    ⟨rS4, k0_pay12 (pA x0 x2 x4) (pB x0 x1 x3) (Scalar.ofBits .f32 0x40E00000#32) (k0_pay6 (F := F)) (View.ld x5 rW) (View.ld x6 rB)⟩,
    ⟨rS3, k0_pay11 (pA x0 x2 x4) (pB x0 x1 x3) (Scalar.ofBits .f32 0x40E00000#32) (k0_pay6 (F := F)) (View.ld x5 rW) (View.ld x6 rB)⟩,
    ⟨rS2, k0_pay10 (pA x0 x2 x4) (pB x0 x1 x3) (Scalar.ofBits .f32 0x40E00000#32) (k0_pay6 (F := F)) (View.ld x5 rW) (View.ld x6 rB)⟩,
    ⟨rS1, k0_pay9 (pA x0 x2 x4) (pB x0 x1 x3) (Scalar.ofBits .f32 0x40E00000#32) (k0_pay6 (F := F)) (View.ld x5 rW) (View.ld x6 rB)⟩,
    ⟨rS0, k0_pay8 (pA x0 x2 x4) (pB x0 x1 x3) (Scalar.ofBits .f32 0x40E00000#32) (k0_pay6 (F := F)) (View.ld x5 rW) (View.ld x6 rB)⟩]

/-- The output block of an inactive step. -/
def outB : Vec F S8192x128 .f32 := View.canon [⟨rO, k0_pay2 (F := F)⟩]

/-- Row `8 j + k` of the block lies in the rows stored for column tile `k`. -/
theorem mem_rS (k : ℕ) (inb : ∀ a : Fin 2, S1024x128.size a = 0 ∨ (![k, 0] : Fin 2 → ℕ) a + (![8, 1] : Fin 2 → ℕ) a * (S1024x128.size a - 1) < S8192x128.size a)
    (y : S8192x128.Idx) (h : (y 0).val % 8 = k) :
    y ∈ (⟨(⟨![k, 0], S1024x128.size, ![8, 1], inb⟩ : LoadRect S8192x128), spos_8_1⟩ : Rect S8192x128).set := by
  rw [LoadRect.mem_set]
  intro a
  match a with
  | ⟨0, _⟩ =>
    have hy : (y 0).val < 8192 := (y 0).isLt
    exact ⟨(y 0).val / 8, show (y 0).val / 8 < 1024 by omega, show (y 0).val = k + 8 * ((y 0).val / 8) by omega⟩
  | ⟨1, _⟩ =>
    have hy : (y 1).val < 128 := (y 1).isLt
    exact ⟨(y 1).val, hy, show (y 1).val = 0 + 1 * (y 1).val by omega⟩

theorem coverA (p0 : Vec F S1024x128 .f32) (p1 : Vec F S1024x128 .f32) (p2 : Vec F S1024x128 .f32) (p3 : Vec F S1024x128 .f32) (p4 : Vec F S1024x128 .f32) (p5 : Vec F S1024x128 .f32) (p6 : Vec F S1024x128 .f32) (p7 : Vec F S1024x128 .f32) (y : S8192x128.Idx) :
    ∃ pc ∈ ([⟨rS7, p7⟩, ⟨rS6, p6⟩, ⟨rS5, p5⟩, ⟨rS4, p4⟩, ⟨rS3, p3⟩, ⟨rS2, p2⟩, ⟨rS1, p1⟩, ⟨rS0, p0⟩] : List (View.Piece (Elt F) S8192x128 .f32)), y ∈ pc.1.set := by
  have h8 : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7 := by omega
  rcases h8 with h | h | h | h | h | h | h | h
  · exact ⟨⟨rS0, p0⟩, by simp, mem_rS 0 inb_S8192x128_S1024x128_0_0_s_8_1 y h⟩
  · exact ⟨⟨rS1, p1⟩, by simp, mem_rS 1 inb_S8192x128_S1024x128_1_0_s_8_1 y h⟩
  · exact ⟨⟨rS2, p2⟩, by simp, mem_rS 2 inb_S8192x128_S1024x128_2_0_s_8_1 y h⟩
  · exact ⟨⟨rS3, p3⟩, by simp, mem_rS 3 inb_S8192x128_S1024x128_3_0_s_8_1 y h⟩
  · exact ⟨⟨rS4, p4⟩, by simp, mem_rS 4 inb_S8192x128_S1024x128_4_0_s_8_1 y h⟩
  · exact ⟨⟨rS5, p5⟩, by simp, mem_rS 5 inb_S8192x128_S1024x128_5_0_s_8_1 y h⟩
  · exact ⟨⟨rS6, p6⟩, by simp, mem_rS 6 inb_S8192x128_S1024x128_6_0_s_8_1 y h⟩
  · exact ⟨⟨rS7, p7⟩, by simp, mem_rS 7 inb_S8192x128_S1024x128_7_0_s_8_1 y h⟩

theorem coverB (p : Vec F S8192x128 .f32) (y : S8192x128.Idx) :
    ∃ pc ∈ ([⟨rO, p⟩] : List (View.Piece (Elt F) S8192x128 .f32)), y ∈ pc.1.set :=
  View.cover_of_tiled [⟨rO, p⟩] S8192x128.size (by rfl) y

/-- A step is active or inactive, never both. -/
theorem conds (i : grid0.Coords) (v : BitVec 32) : k0_cond2 i v = 1#1 ↔ ¬ k0_cond1 i v = 1#1 := by
  have e1 : k0_cond1 i v = 1#1 ↔ (BitVec.ofNat 32 (i 0).val).slt v = true := by
    unfold k0_cond1
    simp only [Scalar.cmpi, Scalar.extui, IntOp.cmpi]
    generalize (BitVec.ofNat 32 (i 0).val).slt v = b
    cases b <;> decide
  have e2 : k0_cond2 i v = 1#1 ↔ v.sle (BitVec.ofNat 32 (i 0).val) = true := by
    unfold k0_cond2
    simp only [Scalar.cmpi, Scalar.extui, IntOp.cmpi]
    generalize v.sle (BitVec.ofNat 32 (i 0).val) = b
    cases b <;> decide
  rw [e1, e2, BitVec.sle_eq_not_slt]
  simp

set_option maxHeartbeats 2000000 in
theorem soundA (c : Dev nD) (E : Set ℕ) (i : grid0.Coords) (arg3 : Memref sig .tc .vmem S8192x128 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024x1024 .bf16) (harg8 : arg8.IsWhole) (arg9 : Memref sig .tc .vmem S1x1x1024 .f32) (harg9 : arg9.IsWhole) (arg10 : Memref sig .tc .vmem S8192x128 .f32) (harg10 : arg10.IsWhole)
    (x0 : Vec F S8192x128 .f32) (x1 : Vec F S1x1024x1024 .bf16) (x2 : Vec F S1x1024x1024 .bf16) (x3 : Vec F S1x1x1024 .f32) (x4 : Vec F S1x1x1024 .f32) (x5 : Vec F S1x1024x1024 .bf16) (x6 : Vec F S1x1x1024 .f32) (xt0 : TbBuf0 (F := F) c tbM0_0) (xt1 : TbBuf0 (F := F) c tbM0_1)
    (hc1 : k0_cond1 i (tbM0_1.view.readAt (Elt F) (Rect.unit (s := S1) ![0] S1.size inb_S1_S1_0).toLoadRect xt1 (Shape.Idx.first (numel1_S1.symm ▸ Nat.one_pos))) = 1#1) (hc2 : ¬ k0_cond2 i (tbM0_1.view.readAt (Elt F) (Rect.unit (s := S1) ![0] S1.size inb_S1_S1_0).toLoadRect xt1 (Shape.Idx.first (numel1_S1.symm ▸ Nat.one_pos))) = 1#1)
    (K : PUnit → sProp (MT nD τ sig Unit (Elt F) ℕ (UR sig nD τ) ℕ)) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (outA x0 x1 x2 x3 x4 x5 x6) ∗ tbPt0 c tbM0_0 xt0 ∗ tbPt0 c tbM0_1 xt1) -∗ K ⟨⟩))
      ⊢ wp frame (wpE (defs₀ (F := F)) Variants.none c none) E (cc0_experts i tbM0_0 htbM0_0 tbM0_1 htbM0_1 arg3 harg3 arg4 harg4 arg5 harg5 arg6 harg6 arg7 harg7 arg8 harg8 arg9 harg9 arg10 harg10) K := by
  simp only [cc0_experts_eq_skeleton]; unfold cc0_experts_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, HT0, HT1, Hk⟩
  subst hf0 hf1 hf2 hf3 hf4 hf5 hf6
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (coverA _ _ _ _ _ _ _ _)).trans ?_
    rfl
  isplitl [HT0]; · iexact HT0
  iexact HT1

set_option maxHeartbeats 2000000 in
theorem soundB (c : Dev nD) (E : Set ℕ) (i : grid0.Coords) (arg3 : Memref sig .tc .vmem S8192x128 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024x1024 .bf16) (harg8 : arg8.IsWhole) (arg9 : Memref sig .tc .vmem S1x1x1024 .f32) (harg9 : arg9.IsWhole) (arg10 : Memref sig .tc .vmem S8192x128 .f32) (harg10 : arg10.IsWhole)
    (x0 : Vec F S8192x128 .f32) (x1 : Vec F S1x1024x1024 .bf16) (x2 : Vec F S1x1024x1024 .bf16) (x3 : Vec F S1x1x1024 .f32) (x4 : Vec F S1x1x1024 .f32) (x5 : Vec F S1x1024x1024 .bf16) (x6 : Vec F S1x1x1024 .f32) (xt0 : TbBuf0 (F := F) c tbM0_0) (xt1 : TbBuf0 (F := F) c tbM0_1)
    (hc1 : ¬ k0_cond1 i (tbM0_1.view.readAt (Elt F) (Rect.unit (s := S1) ![0] S1.size inb_S1_S1_0).toLoadRect xt1 (Shape.Idx.first (numel1_S1.symm ▸ Nat.one_pos))) = 1#1) (hc2 : k0_cond2 i (tbM0_1.view.readAt (Elt F) (Rect.unit (s := S1) ![0] S1.size inb_S1_S1_0).toLoadRect xt1 (Shape.Idx.first (numel1_S1.symm ▸ Nat.one_pos))) = 1#1)
    (K : PUnit → sProp (MT nD τ sig Unit (Elt F) ℕ (UR sig nD τ) ℕ)) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (outB (F := F)) ∗ tbPt0 c tbM0_0 xt0 ∗ tbPt0 c tbM0_1 xt1) -∗ K ⟨⟩))
      ⊢ wp frame (wpE (defs₀ (F := F)) Variants.none c none) E (cc0_experts i tbM0_0 htbM0_0 tbM0_1 htbM0_1 arg3 harg3 arg4 harg4 arg5 harg5 arg6 harg6 arg7 harg7 arg8 harg8 arg9 harg9 arg10 harg10) K := by
  simp only [cc0_experts_eq_skeleton]; unfold cc0_experts_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, HT0, HT1, Hk⟩
  subst hf0 hf1 hf2 hf3 hf4 hf5 hf6
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (coverB _)).trans ?_
    rfl
  isplitl [HT0]; · iexact HT0
  iexact HT1

end Cert.ExpertsIdeal.Hand

end
-- ==== Proof.Experts.Alg.lean ====
/- The mathematics of an expert: two projections of a row, the gated activation of the two, and a projection of that. -/
module

public import Idealize.ShloMosaic.PureOps.Ideal
public import Idealize.ShloMosaic.Lib.Pointwise

@[expose] public section

noncomputable section

namespace Cert.ExpertsAlg

open Idealize.ShloMosaic

/-- A row times a column, plus a bias. -/
def aff (x w : Fin 1024 → EReal) (b : EReal) : EReal := (∑ j, x j * w j) + b

/-- The gate of the first projection, cut off at 7. -/
def gate (g : EReal) : EReal := FloatOps.minimumf (F := Ideal) (φ := .f32) g (Ideal.ofBits .f32 0x40E00000#32)

/-- The second projection, cut off at -7 and 7. -/
def clip (l : EReal) : EReal :=
  FloatOps.minimumf (F := Ideal) (φ := .f32) (Ideal.ofBits .f32 0x40E00000#32)
    (FloatOps.maximumf (F := Ideal) (φ := .f32) (Ideal.ofBits .f32 0xC0E00000#32) l)

/-- The gated activation of the two projections. -/
def act (g l : EReal) : EReal :=
  gate g * Ideal.logistic (Ideal.ofBits .f32 0x3FD9DB23#32 * gate g) * (clip l + 1)

/-- Entry `q` of the expert's result for the row `x`. -/
def out (x : Fin 1024 → EReal) (wg wl wo : Fin 1024 → Fin 1024 → EReal) (bg bl bo : Fin 1024 → EReal) (q : Fin 1024) : EReal :=
  aff (fun e => act (aff x (fun j => wg j e) (bg e)) (aff x (fun j => wl j e) (bl e))) (fun e => wo e q) (bo q)

end Cert.ExpertsAlg

end
-- ==== Proof.Experts.Block.lean ====
/- What a filled step of the experts leaves: each row's result of the expert, laid out over 8 rows of 128 columns. -/
module

public import proofs.«01_k».proof.Proof.Experts.BodyExpertsIdeal
public import proofs.«01_k».proof.Proof.Experts.Alg
public import Idealize.ShloMosaic.Lib.Pipeline.Value
public import Idealize.ShloMosaic.Lib.Pipeline.ValueKit.Geometry

@[expose] public section

set_option maxRecDepth 16384

noncomputable section

namespace Cert.ExpertsIdeal.Blk

open Cert.ExpertsIdeal Cert.ExpertsIdeal.Gen Cert.ExpertsIdeal.Hand Idealize.ShloMosaic Idealize.SL.Sem Cert.ExpertsAlg

theorem h03 : ∀ a : Fin 3, (![0, 0, 0] : Fin 3 → ℕ) a = 0 := by decide

section Layout

variable (x0 : Vec Ideal S8192x128 .f32)

/-- Entry `j` of row `p`: the block holds a row as 8 rows of 128 columns. -/
abbrev row (p : Fin 1024) : Fin 1024 → EReal := fun j => x0 (ix2 ⟨8 * p.val + j.val / 128, by omega⟩ ⟨j.val % 128, by omega⟩)

/-- A strided load of column tile `k` of the rows. -/
theorem ld_rS (k : ℕ) (hk : k < 8) (inb : ∀ a : Fin 2, S1024x128.size a = 0 ∨ (![k, 0] : Fin 2 → ℕ) a + (![8, 1] : Fin 2 → ℕ) a * (S1024x128.size a - 1) < S8192x128.size a)
    (p : Fin 1024) (q : Fin 128) :
    View.ld x0 (⟨(⟨![k, 0], S1024x128.size, ![8, 1], inb⟩ : LoadRect S8192x128), spos_8_1⟩ : Rect S8192x128) (ix2 p q)
      = x0 (ix2 ⟨8 * p.val + k, by omega⟩ q) := by
  refine congrArg x0 (funext fun a => Fin.ext ?_)
  match a with
  | ⟨0, _⟩ => show k + 8 * p.val = 8 * p.val + k; omega
  | ⟨1, _⟩ => show 0 + 1 * q.val = q.val; omega

end Layout

variable (x0 : Vec Ideal S8192x128 .f32) (x1 x2 x5 : Vec Ideal S1x1024x1024 .bf16) (x3 x4 x6 : Vec Ideal S1x1x1024 .f32)

theorem ldW (x : Vec Ideal S1x1024x1024 .bf16) : View.ld x rW = x := View.ld_unit_zero (funext h03) _ x
theorem ldB (x : Vec Ideal S1x1x1024 .f32) : View.ld x rB = x := View.ld_unit_zero (funext h03) _ x

/-- Rounding is nothing at the exact numbers. -/
theorem round (v : FVec Ideal S1024x1024 .f32) (i : S1024x1024.Idx) : truncf .bf16 v bitsLt_bf16_f32 i = v i := rfl

/-- The column tiles of the rows. -/
abbrev tiles : List ((s : Shape) × (s.Idx → EReal)) := [⟨S1024x128, View.ld x0 rS0⟩, ⟨S1024x128, View.ld x0 rS1⟩, ⟨S1024x128, View.ld x0 rS2⟩, ⟨S1024x128, View.ld x0 rS3⟩, ⟨S1024x128, View.ld x0 rS4⟩, ⟨S1024x128, View.ld x0 rS5⟩, ⟨S1024x128, View.ld x0 rS6⟩, ⟨S1024x128, View.ld x0 rS7⟩]

/-- The rows, put together from their column tiles. -/
theorem rows_apply (p j : Fin 1024) : k0_pay3 (F := Ideal) (View.ld x0 rS0) (View.ld x0 rS1) (View.ld x0 rS2) (View.ld x0 rS3) (View.ld x0 rS4)
    (View.ld x0 rS5) (View.ld x0 rS6) (View.ld x0 rS7) (ix2 p j) = row x0 p j := by
  unfold k0_pay3
  refine (round _ _).trans ?_
  have hk : j.val / 128 = 0 ∨ j.val / 128 = 1 ∨ j.val / 128 = 2 ∨ j.val / 128 = 3 ∨ j.val / 128 = 4 ∨ j.val / 128 = 5 ∨ j.val / 128 = 6 ∨ j.val / 128 = 7 := by omega
  rcases hk with h | h | h | h | h | h | h | h
  · refine (concatenate_apply_piece (t := S1024x1024) 1 (tiles x0) _ (ix2 p j) 0 (show 0 < 8 by decide) S1024x128 (View.ld x0 rS0) rfl rfl 0 rfl
      (ix2 p ⟨j.val % 128, by omega⟩) (fun b hb => ?_) ?_).trans ?_
    · match b with
      | ⟨0, _⟩ => rfl
      | ⟨1, _⟩ => exact absurd rfl hb
    · show 0 + j.val % 128 = j.val
      omega
    · refine (ld_rS x0 0 (by decide) _ p ⟨j.val % 128, by omega⟩).trans (congrArg x0 (funext fun a => Fin.ext ?_))
      match a with
      | ⟨0, _⟩ => show 8 * p.val + 0 = 8 * p.val + j.val / 128; omega
      | ⟨1, _⟩ => rfl
  · refine (concatenate_apply_piece (t := S1024x1024) 1 (tiles x0) _ (ix2 p j) 1 (show 1 < 8 by decide) S1024x128 (View.ld x0 rS1) rfl rfl 128 rfl
      (ix2 p ⟨j.val % 128, by omega⟩) (fun b hb => ?_) ?_).trans ?_
    · match b with
      | ⟨0, _⟩ => rfl
      | ⟨1, _⟩ => exact absurd rfl hb
    · show 128 + j.val % 128 = j.val
      omega
    · refine (ld_rS x0 1 (by decide) _ p ⟨j.val % 128, by omega⟩).trans (congrArg x0 (funext fun a => Fin.ext ?_))
      match a with
      | ⟨0, _⟩ => show 8 * p.val + 1 = 8 * p.val + j.val / 128; omega
      | ⟨1, _⟩ => rfl
  · refine (concatenate_apply_piece (t := S1024x1024) 1 (tiles x0) _ (ix2 p j) 2 (show 2 < 8 by decide) S1024x128 (View.ld x0 rS2) rfl rfl 256 rfl
      (ix2 p ⟨j.val % 128, by omega⟩) (fun b hb => ?_) ?_).trans ?_
    · match b with
      | ⟨0, _⟩ => rfl
      | ⟨1, _⟩ => exact absurd rfl hb
    · show 256 + j.val % 128 = j.val
      omega
    · refine (ld_rS x0 2 (by decide) _ p ⟨j.val % 128, by omega⟩).trans (congrArg x0 (funext fun a => Fin.ext ?_))
      match a with
      | ⟨0, _⟩ => show 8 * p.val + 2 = 8 * p.val + j.val / 128; omega
      | ⟨1, _⟩ => rfl
  · refine (concatenate_apply_piece (t := S1024x1024) 1 (tiles x0) _ (ix2 p j) 3 (show 3 < 8 by decide) S1024x128 (View.ld x0 rS3) rfl rfl 384 rfl
      (ix2 p ⟨j.val % 128, by omega⟩) (fun b hb => ?_) ?_).trans ?_
    · match b with
      | ⟨0, _⟩ => rfl
      | ⟨1, _⟩ => exact absurd rfl hb
    · show 384 + j.val % 128 = j.val
      omega
    · refine (ld_rS x0 3 (by decide) _ p ⟨j.val % 128, by omega⟩).trans (congrArg x0 (funext fun a => Fin.ext ?_))
      match a with
      | ⟨0, _⟩ => show 8 * p.val + 3 = 8 * p.val + j.val / 128; omega
      | ⟨1, _⟩ => rfl
  · refine (concatenate_apply_piece (t := S1024x1024) 1 (tiles x0) _ (ix2 p j) 4 (show 4 < 8 by decide) S1024x128 (View.ld x0 rS4) rfl rfl 512 rfl
      (ix2 p ⟨j.val % 128, by omega⟩) (fun b hb => ?_) ?_).trans ?_
    · match b with
      | ⟨0, _⟩ => rfl
      | ⟨1, _⟩ => exact absurd rfl hb
    · show 512 + j.val % 128 = j.val
      omega
    · refine (ld_rS x0 4 (by decide) _ p ⟨j.val % 128, by omega⟩).trans (congrArg x0 (funext fun a => Fin.ext ?_))
      match a with
      | ⟨0, _⟩ => show 8 * p.val + 4 = 8 * p.val + j.val / 128; omega
      | ⟨1, _⟩ => rfl
  · refine (concatenate_apply_piece (t := S1024x1024) 1 (tiles x0) _ (ix2 p j) 5 (show 5 < 8 by decide) S1024x128 (View.ld x0 rS5) rfl rfl 640 rfl
      (ix2 p ⟨j.val % 128, by omega⟩) (fun b hb => ?_) ?_).trans ?_
    · match b with
      | ⟨0, _⟩ => rfl
      | ⟨1, _⟩ => exact absurd rfl hb
    · show 640 + j.val % 128 = j.val
      omega
    · refine (ld_rS x0 5 (by decide) _ p ⟨j.val % 128, by omega⟩).trans (congrArg x0 (funext fun a => Fin.ext ?_))
      match a with
      | ⟨0, _⟩ => show 8 * p.val + 5 = 8 * p.val + j.val / 128; omega
      | ⟨1, _⟩ => rfl
  · refine (concatenate_apply_piece (t := S1024x1024) 1 (tiles x0) _ (ix2 p j) 6 (show 6 < 8 by decide) S1024x128 (View.ld x0 rS6) rfl rfl 768 rfl
      (ix2 p ⟨j.val % 128, by omega⟩) (fun b hb => ?_) ?_).trans ?_
    · match b with
      | ⟨0, _⟩ => rfl
      | ⟨1, _⟩ => exact absurd rfl hb
    · show 768 + j.val % 128 = j.val
      omega
    · refine (ld_rS x0 6 (by decide) _ p ⟨j.val % 128, by omega⟩).trans (congrArg x0 (funext fun a => Fin.ext ?_))
      match a with
      | ⟨0, _⟩ => show 8 * p.val + 6 = 8 * p.val + j.val / 128; omega
      | ⟨1, _⟩ => rfl
  · refine (concatenate_apply_piece (t := S1024x1024) 1 (tiles x0) _ (ix2 p j) 7 (show 7 < 8 by decide) S1024x128 (View.ld x0 rS7) rfl rfl 896 rfl
      (ix2 p ⟨j.val % 128, by omega⟩) (fun b hb => ?_) ?_).trans ?_
    · match b with
      | ⟨0, _⟩ => rfl
      | ⟨1, _⟩ => exact absurd rfl hb
    · show 896 + j.val % 128 = j.val
      omega
    · refine (ld_rS x0 7 (by decide) _ p ⟨j.val % 128, by omega⟩).trans (congrArg x0 (funext fun a => Fin.ext ?_))
      match a with
      | ⟨0, _⟩ => show 8 * p.val + 7 = 8 * p.val + j.val / 128; omega
      | ⟨1, _⟩ => rfl

/-- The first projection. -/
theorem first_apply (p e : Fin 1024) : pB x0 x1 x3 (ix2 p e) = gate (aff (row x0 p) (fun j => x1 (ix3 0 j e)) (x3 (ix3 0 0 e))) := by
  unfold pB
  rw [ldW, ldB]
  pointwise [k0_pay5]
  refine congrArg gate (congrArg₂ (fun a b : EReal => a + b) (Finset.sum_congr rfl fun j _ => congrArg₂ (fun a b : EReal => a * b) (rows_apply x0 p j) ?_) ?_)
  · rfl
  · rfl

/-- The second projection. -/
theorem second_apply (p e : Fin 1024) : pA x0 x2 x4 (ix2 p e) = aff (row x0 p) (fun j => x2 (ix3 0 j e)) (x4 (ix3 0 0 e)) := by
  unfold pA
  rw [ldW, ldB]
  pointwise [k0_pay4]
  refine congrArg₂ (fun a b : EReal => a + b) (Finset.sum_congr rfl fun j _ => congrArg₂ (fun a b : EReal => a * b) (rows_apply x0 p j) ?_) ?_
  · rfl
  · rfl

/-- The expert's result of the rows, before it is laid out. -/
abbrev res : FVec Ideal S1024x1024 .f32 := k0_pay7 (F := Ideal) (pA x0 x2 x4) (pB x0 x1 x3) (Scalar.ofBits .f32 0x40E00000#32) (k0_pay6 (F := Ideal)) (View.ld x5 rW) (View.ld x6 rB)

theorem res_apply (p q : Fin 1024) : res x0 x1 x2 x5 x3 x4 x6 (ix2 p q)
    = out (row x0 p) (fun j e => x1 (ix3 0 j e)) (fun j e => x2 (ix3 0 j e)) (fun j e => x5 (ix3 0 j e))
        (fun e => x3 (ix3 0 0 e)) (fun e => x4 (ix3 0 0 e)) (fun e => x6 (ix3 0 0 e)) q := by
  unfold res
  rw [ldW, ldB]
  have hB := first_apply x0 x1 x3 p
  have hA := second_apply x0 x2 x4 p
  generalize pA x0 x2 x4 = A at hA
  generalize pB x0 x1 x3 = B at hB
  pointwise [k0_pay7, k0_pay6]
  refine congrArg₂ (fun a b : EReal => a + b) (Finset.sum_congr rfl fun e _ => congrArg₂ (fun a b : EReal => a * b) ?_ ?_) ?_
  · rw [hA, hB]
    rfl
  · rfl
  · rfl

/-- The result laid out: row `8 p + k` holds columns `128 k` on of the result's row `p`. -/
def lay (R : FVec Ideal S1024x1024 .f32) : Vec Ideal S8192x128 .f32 := fun y =>
  R (ix2 ⟨(y 0).val / 8, by have h : (y 0).val < 8192 := (y 0).isLt; omega⟩
    ⟨128 * ((y 0).val % 8) + (y 1).val, by have h : (y 1).val < 128 := (y 1).isLt; omega⟩)

/-- A stored column tile is the laid-out result at its rows. -/
theorem piece (R : FVec Ideal S1024x1024 .f32) (k : ℕ) (hk : k < 8) (hs : S1024x1024.Slices ![0, 128 * k] S1024x128)
    (inb : ∀ a : Fin 2, S1024x128.size a = 0 ∨ (![k, 0] : Fin 2 → ℕ) a + (![8, 1] : Fin 2 → ℕ) a * (S1024x128.size a - 1) < S8192x128.size a)
    (x : S1024x128.Idx) :
    extractStridedSlice S1024x128 ![0, 128 * k] R hs x
      = lay R ((⟨(⟨![k, 0], S1024x128.size, ![8, 1], inb⟩ : LoadRect S8192x128), spos_8_1⟩ : Rect S8192x128).emb x) := by
  have h0 : (x 0).val < 1024 := (x 0).isLt
  have h1 : (x 1).val < 128 := (x 1).isLt
  unfold lay
  refine extractStridedSlice_apply _ R hs x _ fun a => ?_
  match a with
  | ⟨0, _⟩ => show (k + 8 * (x 0).val) / 8 = 0 + (x 0).val; omega
  | ⟨1, _⟩ => show 128 * ((k + 8 * (x 0).val) % 8) + (0 + 1 * (x 1).val) = 128 * k + (x 1).val; omega

theorem outA_apply (y : S8192x128.Idx) : outA x0 x1 x2 x3 x4 x5 x6 y = lay (res x0 x1 x2 x5 x3 x4 x6) y := by
  unfold outA
  refine View.canon_apply_of_pieces (lay (res x0 x1 x2 x5 x3 x4 x6)) _ (fun pc hp => ?_) y (coverA _ _ _ _ _ _ _ _ y)
  simp only [List.mem_cons, List.not_mem_nil, or_false] at hp
  rcases hp with rfl | rfl | rfl | rfl | rfl | rfl | rfl | rfl
  · exact fun x => piece (res x0 x1 x2 x5 x3 x4 x6) 7 (by decide) slices_S1024x1024_o0_896_S1024x128 _ x
  · exact fun x => piece (res x0 x1 x2 x5 x3 x4 x6) 6 (by decide) slices_S1024x1024_o0_768_S1024x128 _ x
  · exact fun x => piece (res x0 x1 x2 x5 x3 x4 x6) 5 (by decide) slices_S1024x1024_o0_640_S1024x128 _ x
  · exact fun x => piece (res x0 x1 x2 x5 x3 x4 x6) 4 (by decide) slices_S1024x1024_o0_512_S1024x128 _ x
  · exact fun x => piece (res x0 x1 x2 x5 x3 x4 x6) 3 (by decide) slices_S1024x1024_o0_384_S1024x128 _ x
  · exact fun x => piece (res x0 x1 x2 x5 x3 x4 x6) 2 (by decide) slices_S1024x1024_o0_256_S1024x128 _ x
  · exact fun x => piece (res x0 x1 x2 x5 x3 x4 x6) 1 (by decide) slices_S1024x1024_o0_128_S1024x128 _ x
  · exact fun x => piece (res x0 x1 x2 x5 x3 x4 x6) 0 (by decide) slices_S1024x1024_o0_0_S1024x128 _ x

theorem h02 : ∀ a : Fin 2, (![0, 0] : Fin 2 → ℕ) a = 0 := by decide

theorem outB_apply (y : S8192x128.Idx) : outB (F := Ideal) y = (Ideal.ofBits .f32 0x00000000#32 : EReal) := by
  unfold outB
  refine (congrFun (View.canon_unit_zero (Val := Elt Ideal) (S := S8192x128) (e := .f32) (funext h02) _ (k0_pay2 (F := Ideal))) y).trans ?_
  rfl

end Cert.ExpertsIdeal.Blk

end
-- ==== Proof.Experts.Ref.lean ====
/- What the plain experts compute at each place. -/
module

public import proofs.«01_k».proof.Proof.Gen.ExpertsRefIdeal.Read
public import proofs.«01_k».proof.Proof.Experts.Alg

@[expose] public section

set_option maxRecDepth 16384

noncomputable section

namespace Cert.ExpertsRefIdeal.Out

open Cert.ExpertsRefIdeal.Facts₀ Cert.ExpertsRefIdeal.Facts Cert.ExpertsRefIdeal Cert.ExpertsRefIdeal.Read Idealize.ShloMosaic Idealize.SL.Sem Cert.ExpertsAlg

/-- The number of an expert, read signed and clamped, is the number. -/
theorem clamp (w : BitVec 32) (h : w.toNat < 32) : min w.toInt.toNat (32 - 1) = w.toNat := by
  have t := BitVec.toInt_eq_toNat_cond w
  rw [if_pos (by omega)] at t
  rw [t]
  omega

section Gather
variable {α : Type}

abbrev g3 := gather_S32x1024x1024_S288x1_S288x1024x1024_12_0_n_n_0_1_110241024
abbrev g1 := gather_S32x1x1024_S288x1_S288x1x1024_12_0_n_n_0_1_111024

/-- The matrices taken by expert, at an index. -/
theorem take3 (x : S32x1024x1024.Idx → α) (idx : IVec S288x1 32) (b : Fin 288) (j e : Fin 1024) (w : BitVec 32) (hw : idx (ix2 b 0) = w) (h : w.toNat < 32) :
    Host.gather g3 x idx (ix3 b j e) = x (ix3 ⟨w.toNat, h⟩ j e) := by
  unfold Host.gather
  congr 1
  funext a
  refine Fin.ext ?_
  show g3.start (ix3 b j e) idx a + g3.batchCoord (ix3 b j e) a + g3.offCoord (ix3 b j e) a = _
  rw [GatherDims.batchCoord_eq_zero _ _ _ List.not_mem_nil]
  have h012 : a = 0 ∨ a = 1 ∨ a = 2 := by
    match a with
    | ⟨0, _⟩ => exact .inl rfl
    | ⟨1, _⟩ => exact .inr (.inl rfl)
    | ⟨2, _⟩ => exact .inr (.inr rfl)
  rcases h012 with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ g3.startIndexMap from List.mem_singleton.mpr rfl)]
    have hsi : g3.siIdx (ix3 b j e) ⟨List.idxOf (0 : Fin 3) g3.startIndexMap,
        List.idxOf_lt_length_iff.2 (List.mem_singleton.mpr rfl)⟩ = ix2 b 0 := by
      funext c; refine Fin.ext ?_
      match c with
      | ⟨0, _⟩ => rfl
      | ⟨1, _⟩ => rfl
    rw [hsi, hw]
    exact clamp _ h
  · unfold GatherDims.start
    rw [dif_neg (by decide)]
    show 0 + 0 + j.val = j.val
    omega
  · unfold GatherDims.start
    rw [dif_neg (by decide)]
    show 0 + 0 + e.val = e.val
    omega

/-- The biases taken by expert, at an index. -/
theorem take1 (x : S32x1x1024.Idx → α) (idx : IVec S288x1 32) (b : Fin 288) (e : Fin 1024) (w : BitVec 32) (hw : idx (ix2 b 0) = w) (h : w.toNat < 32) :
    Host.gather g1 x idx (ix3 b 0 e) = x (ix3 ⟨w.toNat, h⟩ 0 e) := by
  unfold Host.gather
  congr 1
  funext a
  refine Fin.ext ?_
  show g1.start (ix3 b 0 e) idx a + g1.batchCoord (ix3 b 0 e) a + g1.offCoord (ix3 b 0 e) a = _
  rw [GatherDims.batchCoord_eq_zero _ _ _ List.not_mem_nil]
  have h012 : a = 0 ∨ a = 1 ∨ a = 2 := by
    match a with
    | ⟨0, _⟩ => exact .inl rfl
    | ⟨1, _⟩ => exact .inr (.inl rfl)
    | ⟨2, _⟩ => exact .inr (.inr rfl)
  rcases h012 with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ g1.startIndexMap from List.mem_singleton.mpr rfl)]
    have hsi : g1.siIdx (ix3 b 0 e) ⟨List.idxOf (0 : Fin 3) g1.startIndexMap,
        List.idxOf_lt_length_iff.2 (List.mem_singleton.mpr rfl)⟩ = ix2 b 0 := by
      funext c; refine Fin.ext ?_
      match c with
      | ⟨0, _⟩ => rfl
      | ⟨1, _⟩ => rfl
    rw [hsi, hw]
    exact clamp _ h
  · unfold GatherDims.start
    rw [dif_neg (by decide)]
    rfl
  · unfold GatherDims.start
    rw [dif_neg (by decide)]
    show 0 + 0 + e.val = e.val
    omega

end Gather

variable (x0 : IVec S288 32) (x1 : IVec S1 32) (x2 : Vec Ideal S2359296x128 .f32) (x3 x4 x7 : Vec Ideal S32x1024x1024 .bf16)
  (x5 x6 x8 : Vec Ideal S32x1x1024 .f32) (hx : ∀ j, (x0 (ix1 j)).toNat < 32)

include hx

/-- The expert of block `b`. -/
abbrev ex (b : Fin 288) : Fin 32 := ⟨(x0 (ix1 b)).toNat, hx b⟩
omit hx in
/-- Row `p` of block `b`: the array holds it as 8 rows of 128 columns. -/
abbrev row (b : Fin 288) (p : Fin 1024) : Fin 1024 → EReal := fun j =>
  x2 (ix2 ⟨8192 * b.val + 8 * p.val + j.val / 128, by omega⟩ ⟨j.val % 128, by omega⟩)

omit hx in
theorem row_apply (b : Fin 288) (p j : Fin 1024) : val_main_v0 (F := Ideal) x2 (ix3 b p j) = row x2 b p j := by
  rw [val_main_v0_apply]
  refine congrArg x2 (funext fun a => Fin.ext ?_)
  match a with
  | ⟨0, _⟩ => show ((b.val * 1024 + p.val) * 1024 + j.val) / 128 = 8192 * b.val + 8 * p.val + j.val / 128; omega
  | ⟨1, _⟩ => show ((b.val * 1024 + p.val) * 1024 + j.val) % 128 = j.val % 128; omega

omit hx in
/-- Each table of block numbers holds the experts. -/
theorem col0 (b : Fin 288) : val_main_call0_v0 (F := Ideal) x0 (ix2 b 0) = x0 (ix1 b) :=
  (val_main_call0_v0_apply x0 _).trans (congrArg x0 (funext fun a => Fin.ext (by match a with | ⟨0, _⟩ => rfl)))
omit hx in
theorem col1 (b : Fin 288) : val_main_call1_v0 (F := Ideal) x0 (ix2 b 0) = x0 (ix1 b) :=
  (val_main_call1_v0_apply x0 _).trans (congrArg x0 (funext fun a => Fin.ext (by match a with | ⟨0, _⟩ => rfl)))
omit hx in
theorem col2 (b : Fin 288) : val_main_call2_v0 (F := Ideal) x0 (ix2 b 0) = x0 (ix1 b) :=
  (val_main_call2_v0_apply x0 _).trans (congrArg x0 (funext fun a => Fin.ext (by match a with | ⟨0, _⟩ => rfl)))
omit hx in
theorem col3 (b : Fin 288) : val_main_call3_v0 (F := Ideal) x0 (ix2 b 0) = x0 (ix1 b) :=
  (val_main_call3_v0_apply x0 _).trans (congrArg x0 (funext fun a => Fin.ext (by match a with | ⟨0, _⟩ => rfl)))
omit hx in
theorem col5 (b : Fin 288) : val_main_call5_v0 (F := Ideal) x0 (ix2 b 0) = x0 (ix1 b) :=
  (val_main_call5_v0_apply x0 _).trans (congrArg x0 (funext fun a => Fin.ext (by match a with | ⟨0, _⟩ => rfl)))
omit hx in
theorem col6 (b : Fin 288) : val_main_call6_v0 (F := Ideal) x0 (ix2 b 0) = x0 (ix1 b) :=
  (val_main_call6_v0_apply x0 _).trans (congrArg x0 (funext fun a => Fin.ext (by match a with | ⟨0, _⟩ => rfl)))

theorem v8_apply (b : Fin 288) (p e : Fin 1024) : val_main_v8 (F := Ideal) x0 x2 x3 x5 (ix3 b p e)
    = aff (row x2 b p) (fun j => x3 (ix3 (ex x0 hx b) j e)) (x5 (ix3 (ex x0 hx b) 0 e)) := by
  rw [val_main_v8_apply, val_main_v5_apply, val_main_v7_apply]
  refine congrArg₂ (fun a b : EReal => a + b) (Finset.sum_congr rfl fun j _ => congrArg₂ (fun a b : EReal => a * b) ?_ ?_) ?_
  · exact (congrArg _ (funext fun a => Fin.ext (by match a with | ⟨0, _⟩ => rfl | ⟨1, _⟩ => rfl | ⟨2, _⟩ => rfl))).trans (row_apply x2 b p j)
  · exact (congrArg _ (funext fun a => Fin.ext (by match a with | ⟨0, _⟩ => rfl | ⟨1, _⟩ => rfl | ⟨2, _⟩ => rfl))).trans
      (take3 (val_main_v1 (F := Ideal) x3) (val_main_call0_v0 (F := Ideal) x0) b j e (x0 (ix1 b)) (col0 x0 b) (hx b))
  · exact (congrArg _ (funext fun a => Fin.ext (by match a with | ⟨0, _⟩ => rfl | ⟨1, _⟩ => rfl | ⟨2, _⟩ => rfl))).trans
      (take1 x5 (val_main_call1_v0 (F := Ideal) x0) b e (x0 (ix1 b)) (col1 x0 b) (hx b))

theorem v13_apply (b : Fin 288) (p e : Fin 1024) : val_main_v13 (F := Ideal) x0 x2 x4 x6 (ix3 b p e)
    = aff (row x2 b p) (fun j => x4 (ix3 (ex x0 hx b) j e)) (x6 (ix3 (ex x0 hx b) 0 e)) := by
  rw [val_main_v13_apply, val_main_v10_apply, val_main_v12_apply]
  refine congrArg₂ (fun a b : EReal => a + b) (Finset.sum_congr rfl fun j _ => congrArg₂ (fun a b : EReal => a * b) ?_ ?_) ?_
  · exact (congrArg _ (funext fun a => Fin.ext (by match a with | ⟨0, _⟩ => rfl | ⟨1, _⟩ => rfl | ⟨2, _⟩ => rfl))).trans (row_apply x2 b p j)
  · exact (congrArg _ (funext fun a => Fin.ext (by match a with | ⟨0, _⟩ => rfl | ⟨1, _⟩ => rfl | ⟨2, _⟩ => rfl))).trans
      (take3 (val_main_v2 (F := Ideal) x4) (val_main_call2_v0 (F := Ideal) x0) b j e (x0 (ix1 b)) (col2 x0 b) (hx b))
  · exact (congrArg _ (funext fun a => Fin.ext (by match a with | ⟨0, _⟩ => rfl | ⟨1, _⟩ => rfl | ⟨2, _⟩ => rfl))).trans
      (take1 x6 (val_main_call3_v0 (F := Ideal) x0) b e (x0 (ix1 b)) (col3 x0 b) (hx b))

omit hx in
/-- The activation, of the two projections. -/
theorem v28_apply (i : S288x1024x1024.Idx) : val_main_v28 (F := Ideal) x0 x2 x3 x4 x5 x6 i
    = act (val_main_v8 (F := Ideal) x0 x2 x3 x5 i) (val_main_v13 (F := Ideal) x0 x2 x4 x6 i) := by
  rw [val_main_v28_apply, val_main_v25_apply, val_main_v27_apply, val_main_v24_apply, val_main_v22_apply, val_main_v20_apply,
    val_main_v19_apply, val_main_v18_apply, val_main_v16_apply, val_main_v15_apply, val_main_call4_v2_apply, val_main_v14_apply,
    val_main_v17_apply, val_main_v21_apply, val_main_v23_apply, val_main_v26_apply, val_main_call4_v1_apply, val_main_call4_v4_apply,
    val_main_call4_v0_apply, val_main_call4_v3_apply]
  simp only [val_main_cst_apply, val_main_cst_0_apply, val_main_cst_1_apply, val_main_cst_2_apply, val_main_cst_3_apply,
    val_main_cst_4_apply, val_main_cst_5_apply]
  generalize val_main_v8 (F := Ideal) x0 x2 x3 x5 i = g
  generalize val_main_v13 (F := Ideal) x0 x2 x4 x6 i = l
  have o : Ideal.ofBits .f32 0x3F800000#32 = (1 : EReal) := by
    simp [Ideal.ofBits, Ideal.ieee]
    rw [← EReal.coe_mul, ← EReal.coe_one]
    norm_num
  unfold act Ideal.logistic
  rw [← o]
  rfl

theorem v33_apply (b : Fin 288) (p q : Fin 1024) : val_main_v33 (F := Ideal) x0 x2 x3 x4 x5 x6 x7 x8 (ix3 b p q)
    = out (row x2 b p) (fun j e => x3 (ix3 (ex x0 hx b) j e)) (fun j e => x4 (ix3 (ex x0 hx b) j e)) (fun j e => x7 (ix3 (ex x0 hx b) j e))
        (fun e => x5 (ix3 (ex x0 hx b) 0 e)) (fun e => x6 (ix3 (ex x0 hx b) 0 e)) (fun e => x8 (ix3 (ex x0 hx b) 0 e)) q := by
  rw [val_main_v33_apply, val_main_v30_apply, val_main_v32_apply]
  refine congrArg₂ (fun a b : EReal => a + b) (Finset.sum_congr rfl fun e _ => congrArg₂ (fun a b : EReal => a * b) ?_ ?_) ?_
  · refine (congrArg _ (funext fun a => Fin.ext (by match a with | ⟨0, _⟩ => rfl | ⟨1, _⟩ => rfl | ⟨2, _⟩ => rfl) : lidx_main_v30 (ix3 b p q) e = ix3 b p e)).trans ?_
    rw [v28_apply, v8_apply x0 x2 x3 x5 hx, v13_apply x0 x2 x4 x6 hx]
  · exact (congrArg _ (funext fun a => Fin.ext (by match a with | ⟨0, _⟩ => rfl | ⟨1, _⟩ => rfl | ⟨2, _⟩ => rfl))).trans
      (take3 (val_main_v3 (F := Ideal) x7) (val_main_call5_v0 (F := Ideal) x0) b e q (x0 (ix1 b)) (col5 x0 b) (hx b))
  · exact (congrArg _ (funext fun a => Fin.ext (by match a with | ⟨0, _⟩ => rfl | ⟨1, _⟩ => rfl | ⟨2, _⟩ => rfl))).trans
      (take1 x8 (val_main_call6_v0 (F := Ideal) x0) b q (x0 (ix1 b)) (col6 x0 b) (hx b))

omit hx in
/-- Whether a block is filled. -/
theorem filled_apply (b : Fin 288) (p q : Fin 1024) : val_main_call7_v1 (F := Ideal) x1 (ix3 b p q) = IntOp.cmpi .slt (BitVec.ofNat 32 b.val) (x1 (ix1 0)) := by
  rw [val_main_call7_v1_apply, val_main_v38_apply, val_main_v37_apply, val_main_v34_apply, val_main_v36_apply]
  refine congrArg (IntOp.cmpi .slt (BitVec.ofNat 32 b.val)) ?_
  unfold val_main_v35
  refine shapeCast_apply x1 shapeCasts_S1_S_ _ (ix1 0) ?_
  rfl

/-- The result: the expert's at the rows of a filled block, zero at the others. -/
theorem v39_apply (b : Fin 288) (p q : Fin 1024) : val_main_v39 (F := Ideal) x0 x1 x2 x3 x4 x5 x6 x7 x8 (ix3 b p q)
    = Scalar.select (IntOp.cmpi .slt (BitVec.ofNat 32 b.val) (x1 (ix1 0)))
       (out (row x2 b p) (fun j e => x3 (ix3 (ex x0 hx b) j e)) (fun j e => x4 (ix3 (ex x0 hx b) j e)) (fun j e => x7 (ix3 (ex x0 hx b) j e))
        (fun e => x5 (ix3 (ex x0 hx b) 0 e)) (fun e => x6 (ix3 (ex x0 hx b) 0 e)) (fun e => x8 (ix3 (ex x0 hx b) 0 e)) q)
       (Ideal.ofBits .f32 0x00000000#32 : EReal) := by
  rw [val_main_v39_apply, filled_apply, v33_apply x0 x2 x3 x4 x7 x5 x6 x8 hx, val_main_call7_v2_apply, val_main_call7_v0_apply, val_main_cst_6_apply]
  rfl

omit hx in
/-- Row `8192 b + 8 p + k` of the result's array holds columns `128 k` on of the expert's row `p` of block `b`. -/
theorem v40_apply (b : Fin 288) (r : Fin 8192) (n : Fin 128) :
    val_main_v40 (F := Ideal) x0 x1 x2 x3 x4 x5 x6 x7 x8 (ix2 ⟨8192 * b.val + r.val, by omega⟩ n)
    = val_main_v39 (F := Ideal) x0 x1 x2 x3 x4 x5 x6 x7 x8 (ix3 b ⟨r.val / 8, by omega⟩ ⟨128 * (r.val % 8) + n.val, by omega⟩) := by
  rw [val_main_v40_apply]
  refine congrArg _ (funext fun a => Fin.ext ?_)
  match a with
  | ⟨0, _⟩ => show ((8192 * b.val + r.val) * 128 + n.val) / 1048576 = b.val; omega
  | ⟨1, _⟩ => show ((8192 * b.val + r.val) * 128 + n.val) / 1024 % 1024 = r.val / 8; omega
  | ⟨2, _⟩ => show ((8192 * b.val + r.val) * 128 + n.val) % 1024 = 128 * (r.val % 8) + n.val; omega

end Cert.ExpertsRefIdeal.Out

end
-- ==== Proof.Experts.FrameExpertsIdeal.lean ====
/-
The run of the experts call and its frame: what each output block holds point by point, the body at every
point, the launch, and the arguments unchanged.
-/
module

public import proofs.«01_k».proof.Proof.Experts.BodyExpertsIdeal
public import Idealize.ShloMosaic.Lib.Claim

@[expose] public section

set_option maxRecDepth 16384

noncomputable section

namespace Cert.ExpertsIdeal.Hand

open Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The count of active steps, as the body reads it off its table. -/
abbrev word : BitVec 32 := (tbM0_1.view.readAt (Elt F) (Rect.unit (s := S1) ![0] S1.size inb_S1_S1_0).toLoadRect (tbl m 1) (Shape.Idx.first (numel1_S1.symm ▸ Nat.one_pos)))

/-- What the output's staging buffer holds after the body at point `t`. -/
def outsAt0 (hO : Ok m) (c : Dev nD) (t : Fin (cfgM m hO).N) : Vec F S8192x128 .f32 :=
  if k0_cond1 (grid0.coords t) (word m) = 1#1 then
    outA (iblk m hO c 0 t) (iblk m hO c 1 t) (iblk m hO c 2 t) (iblk m hO c 3 t) (iblk m hO c 4 t) (iblk m hO c 5 t) (iblk m hO c 6 t)
  else outB

/-- The proof data of the pipeline on core `c`: the arrays as launched, each input left at its block, the output at
    `outsAt0`; full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => (outsAt0 m hO c t)
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d

/-! ## The body obligation, at a generic point -/

/-- What the body is called with at point `t` (Lib/Pipeline.lean `BodyObligation`'s precondition, the windows one by one), -/
def bodyPre (hO : Ok m) (c : Dev nD) (t : Fin (cfgM m hO).N) : sProp (MT nD τ sig Unit (Elt F) ℕ (UR sig nD τ) ℕ) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d)))

/-- and what it returns. -/
def bodyPost (hO : Ok m) (c : Dev nD) (t : Fin (cfgM m hO).N) : sProp (MT nD τ sig Unit (Elt F) ℕ (UR sig nD τ) ℕ) :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t))

set_option maxHeartbeats 800000 in
/-- The body at any point: the inputs' memrefs hold their blocks, the step is active or not. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7]
  rw [show (dats m hO 0 c).Φ t.castSucc = iprop(Pipeline.ΦA spec0 c ∗ Pipeline.ΦT pre0 (tbl m) c) from rfl, PhiT0_eq]
  by_cases h : k0_cond1 (grid0.coords t) (word m) = 1#1
  · rw [show outsAt0 m hO c t = _ from if_pos h]
    iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (soundA c Set.univ (grid0.coords t) _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (tbl m 1) h (fun h2 => (conds _ _).1 h2 h) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HT0]; · iexact HT0
    isplitl [HT1]; · iexact HT1
    iintro ⟨H0, H1, H2, H3, H4, H5, H6, H7, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [show outsAt0 m hO c t = _ from if_neg h]
    iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (soundB c Set.univ (grid0.coords t) _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (tbl m 1) h ((conds _ _).2 h) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HT0]; · iexact HT0
    isplitl [HT1]; · iexact HT1
    iintro ⟨H0, H1, H2, H3, H4, H5, H6, H7, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- What a point not idle leaves. -/
theorem leave_mono {M : Type} [URA M] (b : Bool) (X P : sProp M) : b = false → (P ⊢ (match b with | true => X | false => P)) := by
  intro h; subst h; exact .rfl

/-- The output is stored at every point. -/
theorem not_idle (hO : Ok m) (t : Fin (cfgM m hO).N) : (cfgM m hO).idle 7 ((cfgM m hO).grid.coords t) = false := by
  show (!(k0_cond1 (grid0.coords t) ((tbl m).atD 1 ![0]) == 1#1) && !(k0_cond2 (grid0.coords t) ((tbl m).atD 1 ![0]) == 1#1)) = false
  by_cases h : k0_cond1 (grid0.coords t) ((tbl m).atD 1 ![0]) = 1#1
  · rw [h]; rfl
  · rw [(conds _ _).2 h]; simp

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  unfold bodyPost
  refine sep_mono .rfl (sep_mono .rfl (sep_mono .rfl (sep_mono .rfl (sep_mono .rfl (sep_mono .rfl (sep_mono .rfl (sep_mono .rfl (sep_mono .rfl ?_))))))))
  dsimp only
  exact leave_mono (M := MT nD τ sig Unit (Elt F) ℕ (UR sig nD τ) ℕ) ((cfgM m hO).idle 7 ((cfgM m hO).grid.coords t)) _ _ (not_idle m hO t)

/-! ## The run and the frame -/

-- `θ_run_frameP`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ hO (dats m hO) (A_eq m hO) (run_main m ρ hO)

/-- THE FRAME: every argument array ends as launched and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ hO) ((θ_run defs _ _).mono (fun _ h => h.2) (run_main_quiescent m ρ hO))

end Cert.ExpertsIdeal.Hand

end
-- ==== Proof.Experts.PreExpertsIdeal.lean ====
/- The experts' tables are admissible under the precondition: every block a window names lies inside its array. -/
module

public import proofs.«01_k».proof.Defs
public import proofs.«01_k».proof.Proof.Experts.Range
public import proofs.«01_k».proof.Proof.Experts.FrameExpertsIdeal
public import Idealize.ShloMosaic.Lib.Pointwise

@[expose] public section

set_option maxRecDepth 16384

noncomputable section

namespace Cert.ExpertsIdeal.Hand

open Cert.ExpertsIdeal.Gen
open Idealize.ShloMosaic Idealize.ShloMosaic.TcCoe Idealize.SL.Sem

variable {F : FTy → Type} [FloatOps F]

variable (m : (ℓ : Loc nD τ sig) → Buf (Elt F) ℓ)

/-- The two tables, as the arguments hold them. -/
abbrev beT : IVec S288 32 := m (((0 : Dev nD) : Thread nD τ).loc main_arg0)
abbrev naT : IVec S1 32 := m (((0 : Dev nD) : Thread nD τ).loc main_arg1)

/-- The expert of block `j`, as the table holds it. -/
abbrev ex (j : Fin 288) : BitVec 32 := beT m (ix1 j)
/-- How many blocks are filled, as its table holds it. -/
abbrev na : BitVec 32 := naT m (ix1 0)

/-- The tables are in range. -/
abbrev InRange : Prop := (∀ j, (ex m j).toNat < 32) ∧ 1 ≤ (na m).toNat ∧ (na m).toNat < 2147483648

/-- The grid's coordinate, as a block's number. -/
abbrev co (i : grid0.Coords) : Fin 288 := ⟨(i 0).val, (i 0).isLt⟩

theorem co_word (i : grid0.Coords) : (BitVec.ofNat 32 (i 0).val).toNat = (i 0).val := by
  have h : (i 0).val < 288 := (i 0).isLt
  rw [BitVec.toNat_ofNat]; omega

/-- The word the expert's table is read at. -/
theorem at0 (i : grid0.Coords) :
    (tbl m).at 0 (Rect.unit (s := S288) (k0_off1 i) S1.size (k0_off1_inb i)) numel1_S1 = ex m (co i) := by
  have h : ((Rect.unit (s := S288) (k0_off1 i) S1.size (k0_off1_inb i)).emb (Shape.Idx.first (numel1_S1.symm ▸ Nat.one_pos)) : S288.Idx) = ix1 (co i) := by
    funext a
    apply Fin.ext
    match a with
    | ⟨0, _⟩ =>
      show (k0_off1 i) 0 + 1 * 0 = (i 0).val
      show (BitVec.ofNat 32 (i 0).val).toNat + 1 * 0 = (i 0).val
      rw [co_word]; omega
  exact congrArg (beT m) h

/-- The word the count's table is read at. -/
theorem at1 : (tbl m).at 1 (Rect.unit (s := S1) ![0] S1.size inb_S1_S1_0) numel1_S1 = na m := by
  have h : ((Rect.unit (s := S1) ![0] S1.size inb_S1_S1_0).emb (Shape.Idx.first (numel1_S1.symm ▸ Nat.one_pos)) : S1.Idx) = ix1 0 := by
    funext a
    apply Fin.ext
    match a with
    | ⟨0, _⟩ => rfl
  exact congrArg (naT m) h

/-- The rows' block: the point's own while blocks are filled, the last filled one after. -/
theorem map0 (i : grid0.Coords) : cc0_transform_0 (F := F) inb_S1_S1_0 numel1_S1 (tbl m) i
    = ![(IntOp.minsi (BitVec.ofNat 32 (i 0).val) (na m - 1#32)).toNat, 0] := by
  rw [← at1 m]; rfl

theorem map1 (i : grid0.Coords) : cc0_transform_1 (F := F) k0_off1_inb numel1_S1 (tbl m) i = ![(ex m (co i)).toNat, 0, 0] := by
  rw [← at0 m i]; rfl
theorem map2 (i : grid0.Coords) : cc0_transform_2 (F := F) k0_off1_inb numel1_S1 (tbl m) i = ![(ex m (co i)).toNat, 0, 0] := by
  rw [← at0 m i]; rfl
theorem map3 (i : grid0.Coords) : cc0_transform_3 (F := F) k0_off1_inb numel1_S1 (tbl m) i = ![(ex m (co i)).toNat, 0, 0] := by
  rw [← at0 m i]; rfl
theorem map4 (i : grid0.Coords) : cc0_transform_4 (F := F) k0_off1_inb numel1_S1 (tbl m) i = ![(ex m (co i)).toNat, 0, 0] := by
  rw [← at0 m i]; rfl
theorem map5 (i : grid0.Coords) : cc0_transform_5 (F := F) k0_off1_inb numel1_S1 (tbl m) i = ![(ex m (co i)).toNat, 0, 0] := by
  rw [← at0 m i]; rfl
theorem map6 (i : grid0.Coords) : cc0_transform_6 (F := F) k0_off1_inb numel1_S1 (tbl m) i = ![(ex m (co i)).toNat, 0, 0] := by
  rw [← at0 m i]; rfl

/-- The lesser of a block's number and the last filled block's. -/
theorem min_word (n : Nat) (hn : n < 288) (w : BitVec 32) (h1 : 1 ≤ w.toNat) (h2 : w.toNat < 2147483648) :
    (IntOp.minsi (BitVec.ofNat 32 n) (w - 1#32)).toNat = min n (w.toNat - 1) := by
  have a : (BitVec.ofNat 32 n).toNat = n := by rw [BitVec.toNat_ofNat]; omega
  have b : (w - 1#32).toNat = w.toNat - 1 := by
    rw [BitVec.toNat_sub]
    have z : (1#32 : BitVec 32).toNat = 1 := by decide
    rw [z]; omega
  have ta := BitVec.toInt_eq_toNat_cond (BitVec.ofNat 32 n)
  have tb := BitVec.toInt_eq_toNat_cond (w - 1#32)
  rw [a] at ta
  rw [b] at tb
  rw [if_pos (by omega)] at ta tb
  unfold IntOp.minsi
  by_cases h : (BitVec.ofNat 32 n).slt (w - 1#32) = true
  · rw [if_pos h, a]
    simp only [BitVec.slt, decide_eq_true_eq] at h
    omega
  · rw [if_neg h, b]
    simp only [BitVec.slt, decide_eq_true_eq] at h
    omega

/-- A window over the experts names a block inside its array. -/
theorem in_bf (n : Nat) (h : n < 32) : ∀ a, ((![n, 0, 0] : Fin 3 → Nat) a + 1) * S1x1024x1024.size a ≤ S32x1024x1024.size a := by
  intro a
  match a with
  | ⟨0, _⟩ => show (n + 1) * 1 ≤ 32; omega
  | ⟨1, _⟩ => exact (by decide : (0 + 1) * 1024 ≤ 1024)
  | ⟨2, _⟩ => exact (by decide : (0 + 1) * 1024 ≤ 1024)
theorem in_f (n : Nat) (h : n < 32) : ∀ a, ((![n, 0, 0] : Fin 3 → Nat) a + 1) * S1x1x1024.size a ≤ S32x1x1024.size a := by
  intro a
  match a with
  | ⟨0, _⟩ => show (n + 1) * 1 ≤ 32; omega
  | ⟨1, _⟩ => exact (by decide : (0 + 1) * 1 ≤ 1)
  | ⟨2, _⟩ => exact (by decide : (0 + 1) * 1024 ≤ 1024)
theorem in_x (n : Nat) (h : n < 288) : ∀ a, ((![n, 0] : Fin 2 → Nat) a + 1) * S8192x128.size a ≤ S2359296x128.size a := by
  intro a
  match a with
  | ⟨0, _⟩ => show (n + 1) * 8192 ≤ 2359296; omega
  | ⟨1, _⟩ => exact (by decide : (0 + 1) * 128 ≤ 128)

/-- The tables in range are admissible. -/
theorem ok_of_range (h : InRange m) : Ok m := by
  obtain ⟨he, h1, h2⟩ := h
  refine ⟨fun i => ?_, fun i => ?_, fun i => ?_, fun i => ?_, fun i => ?_, fun i => ?_, fun i => ?_⟩
  · refine ⟨?_, .inl rfl⟩
    rw [map0]
    refine in_x _ ?_
    have hi : (i 0).val < 288 := (i 0).isLt
    rw [min_word _ (i 0).isLt _ h1 h2]
    omega
  · exact ⟨(map1 m i).symm ▸ in_bf _ (he _), .inr (Affine.block_words_dvd (of_decide_eq_true rfl) (by decide))⟩
  · exact ⟨(map2 m i).symm ▸ in_bf _ (he _), .inr (Affine.block_words_dvd (of_decide_eq_true rfl) (by decide))⟩
  · exact ⟨(map3 m i).symm ▸ in_f _ (he _), .inl rfl⟩
  · exact ⟨(map4 m i).symm ▸ in_f _ (he _), .inl rfl⟩
  · exact ⟨(map5 m i).symm ▸ in_bf _ (he _), .inr (Affine.block_words_dvd (of_decide_eq_true rfl) (by decide))⟩
  · exact ⟨(map6 m i).symm ▸ in_f _ (he _), .inl rfl⟩

variable (m' : (ℓ : Loc nD τ sig) → Buf (Elt Ideal) ℓ)

/-- The precondition puts the tables in range. -/
theorem range_of_pre (h : Pre_ExpertsIdeal m') : InRange m' :=
  ⟨fun j => ExpertsRange.experts _ _ _ _ _ _ _ _ _ (h 0).1 (ix1 j), ExpertsRange.filled _ _ _ _ _ _ _ _ _ (h 0).2 (ix1 0)⟩

theorem ok_of_pre (h : Pre_ExpertsIdeal m') : Ok m' := ok_of_range m' (range_of_pre m' h)

end Cert.ExpertsIdeal.Hand

end
-- ==== Proof.Experts.Array.lean ====
/- The result array of the experts: every block, at its place, holds the plain experts' rows. -/
module

public import proofs.«01_k».proof.Proof.Experts.Block
public import proofs.«01_k».proof.Proof.Experts.Ref
public import proofs.«01_k».proof.Proof.Experts.PreExpertsIdeal
public import Idealize.ShloMosaic.Lib.Pipeline.ValueKit.Geometry

@[expose] public section

set_option maxRecDepth 16384

noncomputable section

namespace Cert.ExpertsIdeal.Arr

open Cert.ExpertsIdeal Cert.ExpertsIdeal.Gen Cert.ExpertsIdeal.Hand Idealize.ShloMosaic Idealize.ShloMosaic.TcCoe Idealize.SL.Sem Cert.ExpertsAlg
open Idealize.ShloMosaic.Pipeline (Window Dat)

/-- A computed block's entry, by its row and column. -/
theorem outA_at (x0 : Vec Ideal S8192x128 .f32) (x1 x2 x5 : Vec Ideal S1x1024x1024 .bf16) (x3 x4 x6 : Vec Ideal S1x1x1024 .f32) (r : Fin 8192) (n : Fin 128)
    (R : Fin 1024 → EReal) (W1 W2 W3 : Fin 1024 → Fin 1024 → EReal) (B1 B2 B3 : Fin 1024 → EReal)
    (hx : Blk.row x0 ⟨r.val / 8, by omega⟩ = R) (h1 : (fun j e => x1 (ix3 0 j e)) = W1) (h2 : (fun j e => x2 (ix3 0 j e)) = W2) (h5 : (fun j e => x5 (ix3 0 j e)) = W3)
    (h3 : (fun e => x3 (ix3 0 0 e)) = B1) (h4 : (fun e => x4 (ix3 0 0 e)) = B2) (h6 : (fun e => x6 (ix3 0 0 e)) = B3) :
    outA (F := Ideal) x0 x1 x2 x3 x4 x5 x6 (ix2 r n) = out R W1 W2 W3 B1 B2 B3 ⟨128 * (r.val % 8) + n.val, by omega⟩ := by
  subst hx h1 h2 h5 h3 h4 h6
  rw [Blk.outA_apply]
  exact Blk.res_apply x0 x1 x2 x5 x3 x4 x6 ⟨r.val / 8, by omega⟩ ⟨128 * (r.val % 8) + n.val, by omega⟩

variable (m : (ℓ : Loc nD τ sig) → Buf (Elt Ideal) ℓ) (hO : Ok m) (hR : InRange m)

/-- The block of a grid point. -/
abbrev bt (t : Fin (cfgM m hO).N) : Fin 288 := co (grid0.coords t)
theorem coord : ∀ t : Fin grid0.N, (grid0.coords t 0).val = t.val := by decide +kernel
theorem bt_val (t : Fin (cfgM m hO).N) : (bt m hO t).val = t.val := coord t

abbrev c0 : Dev nD := 0
abbrev A0 : IVec S288 32 := m ((c0 : Thread nD τ).loc main_arg0)
abbrev A1 : IVec S1 32 := m ((c0 : Thread nD τ).loc main_arg1)
abbrev A2 : Vec Ideal S2359296x128 .f32 := m ((c0 : Thread nD τ).loc main_arg2)
abbrev A3 : Vec Ideal S32x1024x1024 .bf16 := m ((c0 : Thread nD τ).loc main_arg3)
abbrev A4 : Vec Ideal S32x1024x1024 .bf16 := m ((c0 : Thread nD τ).loc main_arg4)
abbrev A5 : Vec Ideal S32x1x1024 .f32 := m ((c0 : Thread nD τ).loc main_arg5)
abbrev A6 : Vec Ideal S32x1x1024 .f32 := m ((c0 : Thread nD τ).loc main_arg6)
abbrev A7 : Vec Ideal S32x1024x1024 .bf16 := m ((c0 : Thread nD τ).loc main_arg7)
abbrev A8 : Vec Ideal S32x1x1024 .f32 := m ((c0 : Thread nD τ).loc main_arg8)

/-- The expert of a block. -/
abbrev eb (hR : InRange m) (b : Fin 288) : Fin 32 := Cert.ExpertsRefIdeal.Out.ex (A0 m) hR.1 b

/-- The windows' blocks, as the tables name them. -/
theorem at0 (t : Fin (cfgM m hO).N) : ((cfgM m hO).win 0).index t = ![(IntOp.minsi (BitVec.ofNat 32 (grid0.coords t 0).val) (na m - 1#32)).toNat, 0] := map0 m (grid0.coords t)
theorem at1 (t : Fin (cfgM m hO).N) : ((cfgM m hO).win 1).index t = ![(ex m (bt m hO t)).toNat, 0, 0] := map1 m (grid0.coords t)
theorem at2 (t : Fin (cfgM m hO).N) : ((cfgM m hO).win 2).index t = ![(ex m (bt m hO t)).toNat, 0, 0] := map2 m (grid0.coords t)
theorem at3 (t : Fin (cfgM m hO).N) : ((cfgM m hO).win 3).index t = ![(ex m (bt m hO t)).toNat, 0, 0] := map3 m (grid0.coords t)
theorem at4 (t : Fin (cfgM m hO).N) : ((cfgM m hO).win 4).index t = ![(ex m (bt m hO t)).toNat, 0, 0] := map4 m (grid0.coords t)
theorem at5 (t : Fin (cfgM m hO).N) : ((cfgM m hO).win 5).index t = ![(ex m (bt m hO t)).toNat, 0, 0] := map5 m (grid0.coords t)
theorem at6 (t : Fin (cfgM m hO).N) : ((cfgM m hO).win 6).index t = ![(ex m (bt m hO t)).toNat, 0, 0] := map6 m (grid0.coords t)
theorem at7 (t : Fin (cfgM m hO).N) : ((cfgM m hO).win 7).index t = ![(bt m hO t).val, 0] := by
  show ![(BitVec.ofNat 32 (grid0.coords t 0).val).toNat, 0] = _
  rw [co_word]

/-- The weights of a block are its expert's. -/
theorem mat1 (t : Fin (cfgM m hO).N) (j e : Fin 1024) : (iblk m hO c0 1 t : Vec Ideal S1x1024x1024 .bf16) (ix3 0 j e) = A3 m (ix3 (eb m hR (bt m hO t)) j e) := by
  show V m c0 main_arg3 ((((cfgM m hO).win 1).rect t).emb (ix3 0 j e)) = _
  refine congrArg (A3 m) (funext fun a => Fin.ext ?_)
  refine (Window.rect_emb_val ((cfgM m hO).win 1) t _ a).trans ?_
  rw [at1]
  match a with
  | ⟨0, _⟩ => show (ex m (bt m hO t)).toNat * 1 + 0 = (ex m (bt m hO t)).toNat; omega
  | ⟨1, _⟩ => show 0 * 1024 + j.val = j.val; omega
  | ⟨2, _⟩ => show 0 * 1024 + e.val = e.val; omega

theorem mat2 (t : Fin (cfgM m hO).N) (j e : Fin 1024) : (iblk m hO c0 2 t : Vec Ideal S1x1024x1024 .bf16) (ix3 0 j e) = A4 m (ix3 (eb m hR (bt m hO t)) j e) := by
  show V m c0 main_arg4 ((((cfgM m hO).win 2).rect t).emb (ix3 0 j e)) = _
  refine congrArg (A4 m) (funext fun a => Fin.ext ?_)
  refine (Window.rect_emb_val ((cfgM m hO).win 2) t _ a).trans ?_
  rw [at2]
  match a with
  | ⟨0, _⟩ => show (ex m (bt m hO t)).toNat * 1 + 0 = (ex m (bt m hO t)).toNat; omega
  | ⟨1, _⟩ => show 0 * 1024 + j.val = j.val; omega
  | ⟨2, _⟩ => show 0 * 1024 + e.val = e.val; omega

theorem mat5 (t : Fin (cfgM m hO).N) (j e : Fin 1024) : (iblk m hO c0 5 t : Vec Ideal S1x1024x1024 .bf16) (ix3 0 j e) = A7 m (ix3 (eb m hR (bt m hO t)) j e) := by
  show V m c0 main_arg7 ((((cfgM m hO).win 5).rect t).emb (ix3 0 j e)) = _
  refine congrArg (A7 m) (funext fun a => Fin.ext ?_)
  refine (Window.rect_emb_val ((cfgM m hO).win 5) t _ a).trans ?_
  rw [at5]
  match a with
  | ⟨0, _⟩ => show (ex m (bt m hO t)).toNat * 1 + 0 = (ex m (bt m hO t)).toNat; omega
  | ⟨1, _⟩ => show 0 * 1024 + j.val = j.val; omega
  | ⟨2, _⟩ => show 0 * 1024 + e.val = e.val; omega

theorem bias3 (t : Fin (cfgM m hO).N) (e : Fin 1024) : (iblk m hO c0 3 t : Vec Ideal S1x1x1024 .f32) (ix3 0 0 e) = A5 m (ix3 (eb m hR (bt m hO t)) 0 e) := by
  show V m c0 main_arg5 ((((cfgM m hO).win 3).rect t).emb (ix3 0 0 e)) = _
  refine congrArg (A5 m) (funext fun a => Fin.ext ?_)
  refine (Window.rect_emb_val ((cfgM m hO).win 3) t _ a).trans ?_
  rw [at3]
  match a with
  | ⟨0, _⟩ => show (ex m (bt m hO t)).toNat * 1 + 0 = (ex m (bt m hO t)).toNat; omega
  | ⟨1, _⟩ => show 0 * 1 + 0 = 0; omega
  | ⟨2, _⟩ => show 0 * 1024 + e.val = e.val; omega

theorem bias4 (t : Fin (cfgM m hO).N) (e : Fin 1024) : (iblk m hO c0 4 t : Vec Ideal S1x1x1024 .f32) (ix3 0 0 e) = A6 m (ix3 (eb m hR (bt m hO t)) 0 e) := by
  show V m c0 main_arg6 ((((cfgM m hO).win 4).rect t).emb (ix3 0 0 e)) = _
  refine congrArg (A6 m) (funext fun a => Fin.ext ?_)
  refine (Window.rect_emb_val ((cfgM m hO).win 4) t _ a).trans ?_
  rw [at4]
  match a with
  | ⟨0, _⟩ => show (ex m (bt m hO t)).toNat * 1 + 0 = (ex m (bt m hO t)).toNat; omega
  | ⟨1, _⟩ => show 0 * 1 + 0 = 0; omega
  | ⟨2, _⟩ => show 0 * 1024 + e.val = e.val; omega

theorem bias6 (t : Fin (cfgM m hO).N) (e : Fin 1024) : (iblk m hO c0 6 t : Vec Ideal S1x1x1024 .f32) (ix3 0 0 e) = A8 m (ix3 (eb m hR (bt m hO t)) 0 e) := by
  show V m c0 main_arg8 ((((cfgM m hO).win 6).rect t).emb (ix3 0 0 e)) = _
  refine congrArg (A8 m) (funext fun a => Fin.ext ?_)
  refine (Window.rect_emb_val ((cfgM m hO).win 6) t _ a).trans ?_
  rw [at6]
  match a with
  | ⟨0, _⟩ => show (ex m (bt m hO t)).toNat * 1 + 0 = (ex m (bt m hO t)).toNat; omega
  | ⟨1, _⟩ => show 0 * 1 + 0 = 0; omega
  | ⟨2, _⟩ => show 0 * 1024 + e.val = e.val; omega

/-- The word the body compares with. -/
theorem word_eq : word m = na m := by
  refine congrArg (naT m) (funext fun a => Fin.ext ?_)
  match a with
  | ⟨0, _⟩ => rfl

theorem cond_eq (i : grid0.Coords) (v : BitVec 32) : k0_cond1 i v = IntOp.cmpi .slt (BitVec.ofNat 32 (i 0).val) v := by
  unfold k0_cond1
  simp only [Scalar.cmpi, Scalar.extui, IntOp.cmpi]
  generalize BitVec.slt _ _ = b
  cases b <;> decide

/-- A block below the count is a natural number below it. -/
theorem lt_of_slt (n : Nat) (hn : n < 288) (w : BitVec 32) (h1 : 1 ≤ w.toNat) (h2 : w.toNat < 2147483648)
    (h : IntOp.cmpi .slt (BitVec.ofNat 32 n) w = 1#1) : n < w.toNat := by
  have h' : (BitVec.ofNat 32 n).slt w = true := by
    simp only [IntOp.cmpi] at h
    revert h
    generalize BitVec.slt _ _ = b
    cases b <;> decide
  rw [BitVec.slt_iff_toInt_lt] at h'
  have e1 : (BitVec.ofNat 32 n).toInt = n := by
    rw [BitVec.toInt_eq_toNat_of_lt] <;> simp only [BitVec.toNat_ofNat] <;> omega
  have e2 : w.toInt = w.toNat := by
    rw [BitVec.toInt_eq_toNat_of_lt]; omega
  rw [e1, e2] at h'
  exact_mod_cast h'

include hR in
/-- The rows of a block that is worked on are the slab's at its own place. -/
theorem rows0 (t : Fin (cfgM m hO).N) (ht : (bt m hO t).val < (na m).toNat) (r : Fin 8192) (n : Fin 128) :
    (iblk m hO c0 0 t : Vec Ideal S8192x128 .f32) (ix2 r n) = A2 m (ix2 ⟨8192 * (bt m hO t).val + r.val, by have := (bt m hO t).isLt; have := r.isLt; omega⟩ n) := by
  show V m c0 main_arg2 ((((cfgM m hO).win 0).rect t).emb (ix2 r n)) = _
  refine congrArg (A2 m) (funext fun a => Fin.ext ?_)
  refine (Window.rect_emb_val ((cfgM m hO).win 0) t _ a).trans ?_
  rw [at0]
  match a with
  | ⟨0, _⟩ =>
    show (IntOp.minsi (BitVec.ofNat 32 (bt m hO t).val) (na m - 1#32)).toNat * 8192 + r.val = 8192 * (bt m hO t).val + r.val
    rw [min_word _ (bt m hO t).isLt _ hR.2.1 hR.2.2, Nat.min_eq_left (by omega)]
    omega
  | ⟨1, _⟩ => show 0 * 128 + n.val = n.val; omega

/-- The plain experts' result. -/
def G (c : Dev nD) : Vec Ideal S2359296x128 .f32 :=
  Cert.ExpertsRefIdeal.Read.val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

include hR in
/-- A block's entry is the plain experts' at its place. -/
theorem block (t : Fin (cfgM m hO).N) (r : Fin 8192) (n : Fin 128) :
    (outsAt0 m hO c0 t : Vec Ideal S8192x128 .f32) (ix2 r n) = G m c0 (ix2 ⟨8192 * (bt m hO t).val + r.val, by have := (bt m hO t).isLt; have := r.isLt; omega⟩ n) := by
  unfold G
  rw [Cert.ExpertsRefIdeal.Out.v40_apply _ _ _ _ _ _ _ _ _ (bt m hO t) r n, Cert.ExpertsRefIdeal.Out.v39_apply (A0 m) (A1 m) (A2 m) (A3 m) (A4 m) (A7 m) (A5 m) (A6 m) (A8 m) hR.1]
  unfold outsAt0
  rw [word_eq, cond_eq]
  show _ = Scalar.select (IntOp.cmpi .slt (BitVec.ofNat 32 (bt m hO t).val) (na m)) _ _
  by_cases h : IntOp.cmpi .slt (BitVec.ofNat 32 (bt m hO t).val) (na m) = 1#1
  · have hlt := lt_of_slt _ (bt m hO t).isLt _ hR.2.1 hR.2.2 h
    rw [if_pos h]
    refine Eq.trans ?_ (if_pos h).symm
    refine outA_at (iblk m hO c0 0 t) (iblk m hO c0 1 t) (iblk m hO c0 2 t) (iblk m hO c0 5 t) (iblk m hO c0 3 t) (iblk m hO c0 4 t) (iblk m hO c0 6 t) r n _ _ _ _ _ _ _ ?_
      (funext fun j => funext fun e => mat1 m hO hR t j e) (funext fun j => funext fun e => mat2 m hO hR t j e) (funext fun j => funext fun e => mat5 m hO hR t j e)
      (funext fun e => bias3 m hO hR t e) (funext fun e => bias4 m hO hR t e) (funext fun e => bias6 m hO hR t e)
    funext j
    refine (rows0 m hO hR t hlt _ _).trans (congrArg (A2 m) (funext fun a => Fin.ext ?_))
    match a with
    | ⟨0, _⟩ => show 8192 * (bt m hO t).val + (8 * (r.val / 8) + j.val / 128) = 8192 * (bt m hO t).val + 8 * (r.val / 8) + j.val / 128; omega
    | ⟨1, _⟩ => rfl
  · rw [if_neg h, Blk.outB_apply]
    exact (if_neg h).symm

/-- The blocks of the result cover it, each written once. -/
theorem flushes (t : Fin (cfgM m hO).N) : ((cfgM m hO).win 7).flush t = true := by
  unfold Window.flush
  rw [show ((cfgM m hO).win 7).isOut = true from rfl, Bool.true_and, Bool.or_eq_true, decide_eq_true_eq, decide_eq_true_eq]
  by_cases h : t.val + 1 = grid0.N
  · exact Or.inl h
  · have hlt : t.val + 1 < grid0.N := by have : t.val < grid0.N := t.isLt; omega
    refine Or.inr ⟨hlt, fun e => ?_⟩
    rw [at7, at7] at e
    have e0 : (bt m hO ⟨t.val + 1, hlt⟩).val = (bt m hO t).val := congrFun e 0
    rw [bt_val, bt_val] at e0
    exact absurd e0 (Nat.succ_ne_self _)

theorem nb0 : ((cfgM m hO).win 7).nblk (0 : Fin 2) = grid0.N :=
  (show (2359296 + 8192 - 1) / 8192 = grid0.N by decide +kernel)
theorem nb1 : ((cfgM m hO).win 7).nblk (1 : Fin 2) = 1 :=
  (show (128 + 128 - 1) / 128 = 1 by decide +kernel)

theorem covers : ((cfgM m hO).win 7).Covers := by
  refine ⟨fun a => ?_, fun β => ?_⟩
  · match a with
    | ⟨0, _⟩ => exact (by decide : 0 < 8192)
    | ⟨1, _⟩ => exact (by decide : 0 < 128)
  · refine ⟨⟨(β (0 : Fin 2)).val, Nat.lt_of_lt_of_eq (β (0 : Fin 2)).isLt (nb0 m hO)⟩, flushes m hO _, fun a => ⟨?_, Or.inl rfl⟩⟩
    rw [at7]
    match a with
    | ⟨0, _⟩ => exact bt_val m hO _
    | ⟨1, _⟩ => exact (Nat.lt_one_iff.1 (Nat.lt_of_lt_of_eq (β (1 : Fin 2)).isLt (nb1 m hO))).symm

include hR in
/-- The result array, after every block. -/
theorem final (c : Dev nD) : (dats m hO 0 c).arrAt 7 (cfgM m hO).N = G m c := by
  obtain rfl : c = c0 := Subsingleton.elim _ _
  refine Dat.arrAt_eq_of_covers (dats m hO 0 c0) 7 (G m c0) (covers m hO) fun t hf y => ?_
  have e : ((((cfgM m hO).win 7).blk t).view.emb y : S2359296x128.Idx) = ix2 ⟨8192 * (bt m hO t).val + (y (0 : Fin 2)).val, by have := (bt m hO t).isLt; have : (y (0 : Fin 2)).val < 8192 := (y (0 : Fin 2)).isLt; omega⟩ (y (1 : Fin 2)) := by
    funext a
    apply Fin.ext
    refine (Window.rect_emb_val ((cfgM m hO).win 7) t y a).trans ?_
    rw [at7]
    match a with
    | ⟨0, _⟩ => show (bt m hO t).val * 8192 + (y (0 : Fin 2)).val = 8192 * (bt m hO t).val + (y (0 : Fin 2)).val; omega
    | ⟨1, _⟩ => show 0 * 128 + (y (1 : Fin 2)).val = (y (1 : Fin 2)).val; omega
  have ey : y = (ix2 (y (0 : Fin 2)) (y (1 : Fin 2)) : S8192x128.Idx) := eq_ix2 (n0 := 8192) (n1 := 128) y
  refine (congrFun (after0_7 m hO c0 t) y).trans ?_
  refine Eq.trans ?_ (congrArg (G m c0) e).symm
  exact (congrArg (outsAt0 m hO c0 t : Vec Ideal S8192x128 .f32) ey).trans (block m hO hR t (y (0 : Fin 2)) (y (1 : Fin 2)))

end Cert.ExpertsIdeal.Arr

end
-- ==== Proof.Experts.Claims.lean ====
/- The experts' claims. -/
module

public import proofs.«01_k».proof.Defs
public import proofs.«01_k».proof.Proof.Gen.ExpertsRefIdeal.Run
public import proofs.«01_k».proof.Proof.Experts.FrameExperts
public import proofs.«01_k».proof.Proof.Experts.PreExperts
public import proofs.«01_k».proof.Proof.Experts.Array
public import Idealize.ShloMosaic.Lib.Quiescent

@[expose] public section

noncomputable section

namespace Cert.Proof.ExpertsClaims

open Idealize.ShloMosaic Idealize.ShloMosaic.TcCoe Idealize.SL.Sem

/-- The experts run and leave their arguments. -/
theorem frame_p : Cert.quiescent_Experts := fun m ρ h => Cert.Experts.Hand.frame m ρ (Cert.Experts.Hand.ok_of_pre m h)
/-- The experts at exact arithmetic run and leave their arguments. -/
theorem frame_pi : Cert.quiescent_ExpertsIdeal := fun m ρ h => Cert.ExpertsIdeal.Hand.frame m ρ (Cert.ExpertsIdeal.Hand.ok_of_pre m h)
/-- The plain experts run and leave their arguments. -/
theorem frame_ri : Cert.quiescent_ExpertsRefIdeal := fun m ρ _ =>
  (θ_run Cert.ExpertsRefIdeal.defs _ _).mono (fun r h => ⟨fun c => (h c).2, sem_eq_zero_of_no_sems (by decide) r.2⟩)
    (Cert.ExpertsRefIdeal.Value.run (F := Ideal) m ρ)
/-- No operation was rewritten between the kernel and its exact form. -/
theorem preserves : Cert.preserves_Experts_ExpertsIdeal := trivial

/-- At exact arithmetic the kernel's result is the reference's. -/
theorem algebraic : Cert.algebraic_ExpertsIdeal_ExpertsRefIdeal := by
  intro m ρ m' ρ' hp hagree
  have hR := Cert.ExpertsIdeal.Hand.range_of_pre m hp
  have hO := Cert.ExpertsIdeal.Hand.ok_of_pre m hp
  refine ⟨fun c => Cert.ExpertsIdeal.Arr.G m c, ?_, ?_⟩
  · exact (θ_run Cert.ExpertsIdeal.defs _ _).mono
      (fun _ h c => ⟨((h.1 c).1 7).trans (Cert.ExpertsIdeal.Arr.final m hO hR c), h.2 c⟩)
      (θ_run_and (Cert.ExpertsIdeal.Hand.run_main (F := Ideal) m ρ hO) (Cert.ExpertsIdeal.Hand.unchanged m ρ hO))
  · refine (θ_run Cert.ExpertsRefIdeal.defs _ _).mono (fun _ h c => ⟨?_, (h c).2⟩) (Cert.ExpertsRefIdeal.Value.run (F := Ideal) m' ρ')
    obtain ⟨e0, e1, e2, e3, e4, e5, e6, e7, e8⟩ := hagree c
    rw [(h c).1, Cert.ExpertsRefIdeal.Read.val_main_v40_eq]
    unfold Cert.ExpertsIdeal.Arr.G
    rw [e0, e1, e2, e3, e4, e5, e6, e7, e8]

end Cert.Proof.ExpertsClaims

end
-- ==== Proof.Proj.Alg.lean ====
/- The mathematics of a normalised projection: a row scaled by its root mean square and a gain, times a matrix. -/
module

public import Idealize.ShloMosaic.PureOps.Ideal
public import Idealize.ShloMosaic.Lib.Pointwise

@[expose] public section

noncomputable section

namespace Cert.ProjAlg

open Idealize.ShloMosaic

/-- Entry `d` of the row `x` after its normalisation with the gain `g`. -/
def nrm (x g : Fin 1024 → EReal) (d : Fin 1024) : EReal :=
  x d * Ideal.rsqrt (Ideal.div (∑ k, x k * x k) (Ideal.ofBits .f32 0x44800000#32) + Ideal.ofBits .f32 0x3727C5AC#32) * g d

/-- The normalised row times the column `w`. -/
def proj (x g w : Fin 1024 → EReal) : EReal := ∑ d, nrm x g d * w d

end Cert.ProjAlg

end
-- ==== Proof.InProj.Block.lean ====
/- What each store of the input projection writes: a normalised row times a column. -/
module

public import proofs.«01_k».proof.Proof.Gen.InProjIdeal.Value
public import proofs.«01_k».proof.Proof.Proj.Alg
public import Idealize.ShloMosaic.Lib.Pipeline.ValueKit.Geometry

@[expose] public section

noncomputable section

namespace Cert.InProjIdeal.Blk

open Cert.InProjIdeal Cert.InProjIdeal.Gen Idealize.ShloMosaic Idealize.SL.Sem Cert.ProjAlg

variable (x0 : Vec Ideal S1024x1024 .f32) (x1 : Vec Ideal S1x1024 .f32) (x2 : Vec Ideal S1024x3072 .bf16)
  (x3 x4 : Vec Ideal S1024x128 .bf16)

theorem h0 : ∀ a : Fin 2, (![0, 0] : Fin 2 → ℕ) a = 0 := by decide

/-- Row `r` of the block of inputs. -/
abbrev xr (r : Fin 1024) : Fin 1024 → EReal := fun k => x0 (ix2 r k)
/-- The gains. -/
abbrev gr : Fin 1024 → EReal := fun k => x1 (ix2 0 k)

theorem ldx : View.ld x0 r0_0 = x0 := View.ld_unit_zero (funext h0) _ x0
theorem ldg : View.ld x1 r0_1 = x1 := View.ld_unit_zero (funext h0) _ x1
theorem ldw (w : Vec Ideal S1024x128 .bf16) : View.ld w r0_9 = w := View.ld_unit_zero (funext h0) _ w

/-- The normalised rows. -/
theorem norm_apply (r d : Fin 1024) : k0_pay5 (F := Ideal) x0 x1 (ix2 r d) = nrm (xr x0 r) (gr x1) d := by
  pointwise [k0_pay5]
  rfl

/-- The normalised rows, as the later stores name them. -/
theorem norm_eq : k0_pay10 (F := Ideal) x0 x1 x2 x3 x4 = k0_pay5 (F := Ideal) x0 x1 := by
  unfold k0_pay10
  rw [ldx, ldg]

/-- Output 5 at row `r` and column `n`: that row times column `0 + n` of the weights. -/
theorem out5_apply (r : Fin 1024) (n : Fin 512) : out0_5 (F := Ideal) x0 x1 x2 x3 x4 (ix2 r n)
    = proj (xr x0 r) (gr x1) (fun d => x2 (ix2 d ⟨0 + n.val, by omega⟩)) := by
  unfold out0_5
  rw [View.canon_unit_zero (funext h0), ldx, ldg]
  pointwise [k0_pay6]
  refine Finset.sum_congr rfl fun d _ => congrArg₂ (fun a b : EReal => a * b) (norm_apply x0 x1 r d) ?_
  exact congrArg x2 (funext fun a => Fin.ext (by match a with | ⟨0, _⟩ => simp | ⟨1, _⟩ => simp))

/-- Output 6 at row `r` and column `n`: that row times column `512 + n` of the weights. -/
theorem out6_apply (r : Fin 1024) (n : Fin 512) : out0_6 (F := Ideal) x0 x1 x2 x3 x4 (ix2 r n)
    = proj (xr x0 r) (gr x1) (fun d => x2 (ix2 d ⟨512 + n.val, by omega⟩)) := by
  unfold out0_6
  rw [View.canon_unit_zero (funext h0), ldx, ldg]
  pointwise [k0_pay7]
  refine Finset.sum_congr rfl fun d _ => congrArg₂ (fun a b : EReal => a * b) (norm_apply x0 x1 r d) ?_
  exact congrArg x2 (funext fun a => Fin.ext (by match a with | ⟨0, _⟩ => simp | ⟨1, _⟩ => simp))

/-- Output 7 at row `r` and column `n`: that row times column `1024 + n` of the weights. -/
theorem out7_apply (r : Fin 1024) (n : Fin 512) : out0_7 (F := Ideal) x0 x1 x2 x3 x4 (ix2 r n)
    = proj (xr x0 r) (gr x1) (fun d => x2 (ix2 d ⟨1024 + n.val, by omega⟩)) := by
  unfold out0_7
  rw [View.canon_unit_zero (funext h0), ldx, ldg]
  pointwise [k0_pay8]
  refine Finset.sum_congr rfl fun d _ => congrArg₂ (fun a b : EReal => a * b) (norm_apply x0 x1 r d) ?_
  exact congrArg x2 (funext fun a => Fin.ext (by match a with | ⟨0, _⟩ => simp | ⟨1, _⟩ => simp))

/-- Output 8 at row `r` and column `n`: that row times column `1536 + n` of the weights. -/
theorem out8_apply (r : Fin 1024) (n : Fin 512) : out0_8 (F := Ideal) x0 x1 x2 x3 x4 (ix2 r n)
    = proj (xr x0 r) (gr x1) (fun d => x2 (ix2 d ⟨1536 + n.val, by omega⟩)) := by
  unfold out0_8
  rw [View.canon_unit_zero (funext h0), ldx, ldg]
  pointwise [k0_pay9]
  refine Finset.sum_congr rfl fun d _ => congrArg₂ (fun a b : EReal => a * b) (norm_apply x0 x1 r d) ?_
  exact congrArg x2 (funext fun a => Fin.ext (by match a with | ⟨0, _⟩ => simp | ⟨1, _⟩ => simp))

/-- Output 9 at row `r` and column `n`: that row times column `2048 + n` of the weights. -/
theorem out9_apply (r : Fin 1024) (n : Fin 512) : out0_9 (F := Ideal) x0 x1 x2 x3 x4 (ix2 r n)
    = proj (xr x0 r) (gr x1) (fun d => x2 (ix2 d ⟨2048 + n.val, by omega⟩)) := by
  unfold out0_9
  rw [View.canon_unit_zero (funext h0), norm_eq]
  pointwise [k0_pay1]
  refine Finset.sum_congr rfl fun d _ => congrArg₂ (fun a b : EReal => a * b) (norm_apply x0 x1 r d) ?_
  exact congrArg x2 (funext fun a => Fin.ext (by match a with | ⟨0, _⟩ => simp | ⟨1, _⟩ => simp))

/-- Output 10 at row `r` and column `n`: that row times column `2560 + n` of the weights. -/
theorem out10_apply (r : Fin 1024) (n : Fin 512) : out0_10 (F := Ideal) x0 x1 x2 x3 x4 (ix2 r n)
    = proj (xr x0 r) (gr x1) (fun d => x2 (ix2 d ⟨2560 + n.val, by omega⟩)) := by
  unfold out0_10
  rw [View.canon_unit_zero (funext h0), norm_eq]
  pointwise [k0_pay2]
  refine Finset.sum_congr rfl fun d _ => congrArg₂ (fun a b : EReal => a * b) (norm_apply x0 x1 r d) ?_
  exact congrArg x2 (funext fun a => Fin.ext (by match a with | ⟨0, _⟩ => simp | ⟨1, _⟩ => simp))

/-- Output 11 at row `r` and column `n`: that row times column `n` of the gate's weights. -/
theorem out11_apply (r : Fin 1024) (n : Fin 128) : out0_11 (F := Ideal) x0 x1 x2 x3 x4 (ix2 r n)
    = proj (xr x0 r) (gr x1) (fun d => x3 (ix2 d n)) := by
  unfold out0_11
  rw [View.canon_unit_zero (funext h0), norm_eq, ldw]
  pointwise [k0_pay3]
  exact Finset.sum_congr rfl fun d _ => congrArg₂ (fun a b : EReal => a * b) (norm_apply x0 x1 r d) rfl

/-- Output 12 at row `r` and column `n`: that row times column `n` of the gate's weights. -/
theorem out12_apply (r : Fin 1024) (n : Fin 128) : out0_12 (F := Ideal) x0 x1 x2 x3 x4 (ix2 r n)
    = proj (xr x0 r) (gr x1) (fun d => x4 (ix2 d n)) := by
  unfold out0_12
  rw [View.canon_unit_zero (funext h0), norm_eq, ldw]
  pointwise [k0_pay4]
  exact Finset.sum_congr rfl fun d _ => congrArg₂ (fun a b : EReal => a * b) (norm_apply x0 x1 r d) rfl

end Cert.InProjIdeal.Blk

end
-- ==== Proof.InProj.Ref.lean ====
/- What the plain input projection computes at each place. -/
module

public import proofs.«01_k».proof.Proof.Gen.InProjRefIdeal.Read
public import proofs.«01_k».proof.Proof.Proj.Alg

@[expose] public section

noncomputable section

namespace Cert.InProjRefIdeal.Out

open Cert.InProjRefIdeal Cert.InProjRefIdeal.Read Idealize.ShloMosaic Idealize.SL.Sem Cert.ProjAlg

variable (x : Vec Ideal S65536x1024 .f32) (g : Vec Ideal S1x1024 .f32) (w : Vec Ideal S1024x3072 .bf16)
  (wi wf : Vec Ideal S1024x128 .bf16)

/-- Row `r` of the inputs. -/
abbrev row (r : Fin 65536) : Fin 1024 → EReal := fun k => x (ix2 r k)
/-- The gains. -/
abbrev gain : Fin 1024 → EReal := fun k => g (ix2 0 k)

/-- The normalised rows. -/
theorem norm_apply (i : S65536x1024.Idx) : val_main_v11 (F := Ideal) x g i = nrm (row x (i 0)) (gain g) (i 1) := by
  rw [val_main_v11_apply, val_main_v9_apply, val_main_v8_apply, val_main_v7_apply, val_main_v6_apply, val_main_v4_apply,
    val_main_v2_apply, val_main_v1_apply, val_main_v3_apply, val_main_v5_apply, val_main_v10_apply]
  simp only [val_main_v0_apply, val_main_cst_apply, val_main_cst_0_apply, val_main_cst_1_apply]
  have z : FloatOps.ofBits (F := Ideal) .f32 0#32 = (0 : EReal) := by simp [Ideal.ofBits, Ideal.ieee]
  rw [z, zero_add]
  have ei : i = ix2 (i 0) (i 1) := eq_ix2 i
  have e0 : ∀ k : Fin 1024, idx_main_v1 (idx_main_v2 (idx_main_v8 i)) k = ix2 (i 0) k := fun k =>
    funext fun a => Fin.ext (by match a with | ⟨0, _⟩ => rfl | ⟨1, _⟩ => rfl)
  have e1 : idx_main_v10 i = ix2 0 (i 1) := funext fun a => Fin.ext (by match a with | ⟨0, _⟩ => rfl | ⟨1, _⟩ => rfl)
  simp only [e0, e1]
  rw [show x i = x (ix2 (i 0) (i 1)) from congrArg x ei]
  rfl

/-- Columns from 0 on: a normalised row times a column of the weights. -/
theorem v20_apply (r : Fin 65536) (n : Fin 512) : val_main_v20 (F := Ideal) x g w (ix2 r n)
    = proj (row x r) (gain g) (fun d => w (ix2 d ⟨0 + n.val, by omega⟩)) := by
  rw [val_main_v20_apply, val_main_v14_apply, val_main_v13_apply]
  refine Finset.sum_congr rfl fun d _ => congrArg₂ (fun a b : EReal => a * b) (norm_apply x g _) ?_
  exact congrArg w (funext fun a => Fin.ext (by match a with | ⟨0, _⟩ => rfl | ⟨1, _⟩ => simp))

/-- Columns from 512 on: a normalised row times a column of the weights. -/
theorem v21_apply (r : Fin 65536) (n : Fin 512) : val_main_v21 (F := Ideal) x g w (ix2 r n)
    = proj (row x r) (gain g) (fun d => w (ix2 d ⟨512 + n.val, by omega⟩)) := by
  rw [val_main_v21_apply, val_main_v15_apply, val_main_v13_apply]
  refine Finset.sum_congr rfl fun d _ => congrArg₂ (fun a b : EReal => a * b) (norm_apply x g _) ?_
  exact congrArg w (funext fun a => Fin.ext (by match a with | ⟨0, _⟩ => rfl | ⟨1, _⟩ => simp))

/-- Columns from 1024 on: a normalised row times a column of the weights. -/
theorem v22_apply (r : Fin 65536) (n : Fin 512) : val_main_v22 (F := Ideal) x g w (ix2 r n)
    = proj (row x r) (gain g) (fun d => w (ix2 d ⟨1024 + n.val, by omega⟩)) := by
  rw [val_main_v22_apply, val_main_v16_apply, val_main_v13_apply]
  refine Finset.sum_congr rfl fun d _ => congrArg₂ (fun a b : EReal => a * b) (norm_apply x g _) ?_
  exact congrArg w (funext fun a => Fin.ext (by match a with | ⟨0, _⟩ => rfl | ⟨1, _⟩ => simp))

/-- Columns from 1536 on: a normalised row times a column of the weights. -/
theorem v17_apply (r : Fin 65536) (n : Fin 512) : val_main_v17 (F := Ideal) x g w (ix2 r n)
    = proj (row x r) (gain g) (fun d => w (ix2 d ⟨1536 + n.val, by omega⟩)) := by
  rw [val_main_v17_apply, val_main_v13_apply]
  refine Finset.sum_congr rfl fun d _ => congrArg₂ (fun a b : EReal => a * b) (norm_apply x g _) ?_
  exact congrArg w (funext fun a => Fin.ext (by match a with | ⟨0, _⟩ => rfl | ⟨1, _⟩ => simp))

/-- Columns from 2048 on: a normalised row times a column of the weights. -/
theorem v23_apply (r : Fin 65536) (n : Fin 512) : val_main_v23 (F := Ideal) x g w (ix2 r n)
    = proj (row x r) (gain g) (fun d => w (ix2 d ⟨2048 + n.val, by omega⟩)) := by
  rw [val_main_v23_apply, val_main_v18_apply, val_main_v13_apply]
  refine Finset.sum_congr rfl fun d _ => congrArg₂ (fun a b : EReal => a * b) (norm_apply x g _) ?_
  exact congrArg w (funext fun a => Fin.ext (by match a with | ⟨0, _⟩ => rfl | ⟨1, _⟩ => simp))

/-- Columns from 2560 on: a normalised row times a column of the weights. -/
theorem v19_apply (r : Fin 65536) (n : Fin 512) : val_main_v19 (F := Ideal) x g w (ix2 r n)
    = proj (row x r) (gain g) (fun d => w (ix2 d ⟨2560 + n.val, by omega⟩)) := by
  rw [val_main_v19_apply, val_main_v13_apply]
  refine Finset.sum_congr rfl fun d _ => congrArg₂ (fun a b : EReal => a * b) (norm_apply x g _) ?_
  exact congrArg w (funext fun a => Fin.ext (by match a with | ⟨0, _⟩ => rfl | ⟨1, _⟩ => simp))

/-- A gate: a normalised row times a column of the gate's weights. -/
theorem v25_apply (r : Fin 65536) (n : Fin 128) : val_main_v25 (F := Ideal) x g wi (ix2 r n)
    = proj (row x r) (gain g) (fun d => wi (ix2 d n)) := by
  rw [val_main_v25_apply]
  refine Finset.sum_congr rfl fun d _ => congrArg₂ (fun a b : EReal => a * b) (norm_apply x g _) ?_
  exact congrArg wi (funext fun a => Fin.ext (by match a with | ⟨0, _⟩ => rfl | ⟨1, _⟩ => rfl))

/-- A gate: a normalised row times a column of the gate's weights. -/
theorem v27_apply (r : Fin 65536) (n : Fin 128) : val_main_v27 (F := Ideal) x g wf (ix2 r n)
    = proj (row x r) (gain g) (fun d => wf (ix2 d n)) := by
  rw [val_main_v27_apply]
  refine Finset.sum_congr rfl fun d _ => congrArg₂ (fun a b : EReal => a * b) (norm_apply x g _) ?_
  exact congrArg wf (funext fun a => Fin.ext (by match a with | ⟨0, _⟩ => rfl | ⟨1, _⟩ => rfl))

end Cert.InProjRefIdeal.Out

end
-- ==== Proof.InProj.Array.lean ====
/- The result arrays of the input projection: every block, at its place, holds the plain projection. -/
module

public import proofs.«01_k».proof.Proof.InProj.Block
public import proofs.«01_k».proof.Proof.InProj.Ref
public import proofs.«01_k».proof.Proof.Gen.InProjIdeal.Value
public import Idealize.ShloMosaic.Lib.Pipeline.ValueKit.Geometry

@[expose] public section

noncomputable section

namespace Cert.InProjIdeal.Arr

open Cert.InProjIdeal Cert.InProjIdeal.Gen Idealize.ShloMosaic Idealize.ShloMosaic.TcCoe Idealize.SL.Sem Cert.ProjAlg
open Cert.InProjRefIdeal.Out (row gain)

/-- Where each window's block starts at a grid point: the weights whole, the rows from `1024 * t` on. -/
theorem at0 : ∀ t : Fin cfg0.N, win0_0.index t = ![t.val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![t.val, 0] := (by decide +kernel : ∀ t : Fin grid0.N, _)
theorem at6 : ∀ t : Fin cfg0.N, win0_6.index t = ![t.val, 0] := (by decide +kernel : ∀ t : Fin grid0.N, _)
theorem at7 : ∀ t : Fin cfg0.N, win0_7.index t = ![t.val, 0] := (by decide +kernel : ∀ t : Fin grid0.N, _)
theorem at8 : ∀ t : Fin cfg0.N, win0_8.index t = ![t.val, 0] := (by decide +kernel : ∀ t : Fin grid0.N, _)
theorem at9 : ∀ t : Fin cfg0.N, win0_9.index t = ![t.val, 0] := (by decide +kernel : ∀ t : Fin grid0.N, _)
theorem at10 : ∀ t : Fin cfg0.N, win0_10.index t = ![t.val, 0] := (by decide +kernel : ∀ t : Fin grid0.N, _)
theorem at11 : ∀ t : Fin cfg0.N, win0_11.index t = ![t.val, 0] := (by decide +kernel : ∀ t : Fin grid0.N, _)
theorem at12 : ∀ t : Fin cfg0.N, win0_12.index t = ![t.val, 0] := (by decide +kernel : ∀ t : Fin grid0.N, _)

theorem lt_N (t : Fin cfg0.N) : t.val < 64 := lt_of_lt_of_eq t.isLt (by decide : grid0.N = 64)

/-- The row of the arrays that is row `r` of a grid point's blocks. -/
def rt (t : Fin cfg0.N) (r : Fin 1024) : Fin 65536 := ⟨t.val * 1024 + r.val, by have := lt_N t; omega⟩

variable (m : (ℓ : Loc nD τ sig) → Buf (Elt Ideal) ℓ) (c : Dev nD)

abbrev A0 : Vec Ideal S65536x1024 .f32 := m ((c : Thread nD τ).loc main_arg0)
abbrev A1 : Vec Ideal S1x1024 .f32 := m ((c : Thread nD τ).loc main_arg1)
abbrev A2 : Vec Ideal S1024x3072 .bf16 := m ((c : Thread nD τ).loc main_arg2)
abbrev A3 : Vec Ideal S1024x128 .bf16 := m ((c : Thread nD τ).loc main_arg3)
abbrev A4 : Vec Ideal S1024x128 .bf16 := m ((c : Thread nD τ).loc main_arg4)

/-- The blocks of inputs, as parts of the argument arrays. -/
theorem rows0 (t : Fin cfg0.N) (r : Fin 1024) : Blk.xr (iblk m c 0 t) r = row (A0 m c) (rt t r) := by
  funext k
  show V m c main_arg0 (((cfg0.win 0).blk t).view.emb (ix2 r k)) = A0 m c (ix2 (rt t r) k)
  rw [V_main_arg0]
  refine congrArg (A0 m c) ?_
  blk_ext [at0, rt]
theorem gain1 (t : Fin cfg0.N) : Blk.gr (iblk m c 1 t) = gain (A1 m c) := by
  funext k
  show V m c main_arg1 (((cfg0.win 1).blk t).view.emb (ix2 0 k)) = A1 m c (ix2 0 k)
  rw [V_main_arg1]
  refine congrArg (A1 m c) ?_
  blk_ext [at1]
theorem mat2 (t : Fin cfg0.N) (d : Fin 1024) (n : Fin 3072) : iblk m c 2 t (ix2 d n) = A2 m c (ix2 d n) := by
  show V m c main_arg2 (((cfg0.win 2).blk t).view.emb (ix2 d n)) = _
  rw [V_main_arg2]
  refine congrArg (A2 m c) ?_
  blk_ext [at2]
theorem mat3 (t : Fin cfg0.N) (d : Fin 1024) (n : Fin 128) : iblk m c 3 t (ix2 d n) = A3 m c (ix2 d n) := by
  show V m c main_arg3 (((cfg0.win 3).blk t).view.emb (ix2 d n)) = _
  rw [V_main_arg3]
  refine congrArg (A3 m c) ?_
  blk_ext [at3]
theorem mat4 (t : Fin cfg0.N) (d : Fin 1024) (n : Fin 128) : iblk m c 4 t (ix2 d n) = A4 m c (ix2 d n) := by
  show V m c main_arg4 (((cfg0.win 4).blk t).view.emb (ix2 d n)) = _
  rw [V_main_arg4]
  refine congrArg (A4 m c) ?_
  blk_ext [at4]

/-- Result 1, as the reference's result of the argument arrays. -/
def G5 : Vec Ideal S65536x512 .bf16 := Cert.InProjRefIdeal.Read.val_main_v20 (F := Ideal) (A0 m c) (A1 m c) (A2 m c)

theorem point5 (t : Fin cfg0.N) (r : Fin 1024) (n : Fin 512) :
    out0_5 (F := Ideal) (iblk m c 0 t) (iblk m c 1 t) (iblk m c 2 t) (iblk m c 3 t) (iblk m c 4 t) (ix2 r n) = G5 m c (ix2 (rt t r) n) := by
  rw [Blk.out5_apply, rows0, gain1]
  unfold G5
  rw [Cert.InProjRefIdeal.Out.v20_apply]
  exact congrArg (proj _ _) (funext fun d => mat2 m c t d _)

/-- Result 1 after the run. -/
theorem final5 : (dats m 0 c).arrAt 5 cfg0.N = G5 m c := by
  refine (dats m 0 c).arrAt_eq_of_covers 5 (G5 m c) (by decide +kernel) fun t hf y => ?_
  blk_simp
  rw [after0_5]
  have e : ((win0_5.blk t).view.emb y : S65536x512.Idx) = ix2 (rt t (y 0)) (y 1) := by
    blk_ext [at5, rt]
  have ey : y = (ix2 (y 0) (y 1) : S1024x512.Idx) := eq_ix2 y
  rw [e]
  exact (congrArg _ ey).trans (point5 m c t (y 0) (y 1))

/-- Result 2, as the reference's result of the argument arrays. -/
def G6 : Vec Ideal S65536x512 .bf16 := Cert.InProjRefIdeal.Read.val_main_v21 (F := Ideal) (A0 m c) (A1 m c) (A2 m c)

theorem point6 (t : Fin cfg0.N) (r : Fin 1024) (n : Fin 512) :
    out0_6 (F := Ideal) (iblk m c 0 t) (iblk m c 1 t) (iblk m c 2 t) (iblk m c 3 t) (iblk m c 4 t) (ix2 r n) = G6 m c (ix2 (rt t r) n) := by
  rw [Blk.out6_apply, rows0, gain1]
  unfold G6
  rw [Cert.InProjRefIdeal.Out.v21_apply]
  exact congrArg (proj _ _) (funext fun d => mat2 m c t d _)

/-- Result 2 after the run. -/
theorem final6 : (dats m 0 c).arrAt 6 cfg0.N = G6 m c := by
  refine (dats m 0 c).arrAt_eq_of_covers 6 (G6 m c) (by decide +kernel) fun t hf y => ?_
  blk_simp
  rw [after0_6]
  have e : ((win0_6.blk t).view.emb y : S65536x512.Idx) = ix2 (rt t (y 0)) (y 1) := by
    blk_ext [at6, rt]
  have ey : y = (ix2 (y 0) (y 1) : S1024x512.Idx) := eq_ix2 y
  rw [e]
  exact (congrArg _ ey).trans (point6 m c t (y 0) (y 1))

/-- Result 3, as the reference's result of the argument arrays. -/
def G7 : Vec Ideal S65536x512 .bf16 := Cert.InProjRefIdeal.Read.val_main_v22 (F := Ideal) (A0 m c) (A1 m c) (A2 m c)

theorem point7 (t : Fin cfg0.N) (r : Fin 1024) (n : Fin 512) :
    out0_7 (F := Ideal) (iblk m c 0 t) (iblk m c 1 t) (iblk m c 2 t) (iblk m c 3 t) (iblk m c 4 t) (ix2 r n) = G7 m c (ix2 (rt t r) n) := by
  rw [Blk.out7_apply, rows0, gain1]
  unfold G7
  rw [Cert.InProjRefIdeal.Out.v22_apply]
  exact congrArg (proj _ _) (funext fun d => mat2 m c t d _)

/-- Result 3 after the run. -/
theorem final7 : (dats m 0 c).arrAt 7 cfg0.N = G7 m c := by
  refine (dats m 0 c).arrAt_eq_of_covers 7 (G7 m c) (by decide +kernel) fun t hf y => ?_
  blk_simp
  rw [after0_7]
  have e : ((win0_7.blk t).view.emb y : S65536x512.Idx) = ix2 (rt t (y 0)) (y 1) := by
    blk_ext [at7, rt]
  have ey : y = (ix2 (y 0) (y 1) : S1024x512.Idx) := eq_ix2 y
  rw [e]
  exact (congrArg _ ey).trans (point7 m c t (y 0) (y 1))

/-- Result 4, as the reference's result of the argument arrays. -/
def G8 : Vec Ideal S65536x512 .f32 := Cert.InProjRefIdeal.Read.val_main_v17 (F := Ideal) (A0 m c) (A1 m c) (A2 m c)

theorem point8 (t : Fin cfg0.N) (r : Fin 1024) (n : Fin 512) :
    out0_8 (F := Ideal) (iblk m c 0 t) (iblk m c 1 t) (iblk m c 2 t) (iblk m c 3 t) (iblk m c 4 t) (ix2 r n) = G8 m c (ix2 (rt t r) n) := by
  rw [Blk.out8_apply, rows0, gain1]
  unfold G8
  rw [Cert.InProjRefIdeal.Out.v17_apply]
  exact congrArg (proj _ _) (funext fun d => mat2 m c t d _)

/-- Result 4 after the run. -/
theorem final8 : (dats m 0 c).arrAt 8 cfg0.N = G8 m c := by
  refine (dats m 0 c).arrAt_eq_of_covers 8 (G8 m c) (by decide +kernel) fun t hf y => ?_
  blk_simp
  rw [after0_8]
  have e : ((win0_8.blk t).view.emb y : S65536x512.Idx) = ix2 (rt t (y 0)) (y 1) := by
    blk_ext [at8, rt]
  have ey : y = (ix2 (y 0) (y 1) : S1024x512.Idx) := eq_ix2 y
  rw [e]
  exact (congrArg _ ey).trans (point8 m c t (y 0) (y 1))

/-- Result 5, as the reference's result of the argument arrays. -/
def G9 : Vec Ideal S65536x512 .bf16 := Cert.InProjRefIdeal.Read.val_main_v23 (F := Ideal) (A0 m c) (A1 m c) (A2 m c)

theorem point9 (t : Fin cfg0.N) (r : Fin 1024) (n : Fin 512) :
    out0_9 (F := Ideal) (iblk m c 0 t) (iblk m c 1 t) (iblk m c 2 t) (iblk m c 3 t) (iblk m c 4 t) (ix2 r n) = G9 m c (ix2 (rt t r) n) := by
  rw [Blk.out9_apply, rows0, gain1]
  unfold G9
  rw [Cert.InProjRefIdeal.Out.v23_apply]
  exact congrArg (proj _ _) (funext fun d => mat2 m c t d _)

/-- Result 5 after the run. -/
theorem final9 : (dats m 0 c).arrAt 9 cfg0.N = G9 m c := by
  refine (dats m 0 c).arrAt_eq_of_covers 9 (G9 m c) (by decide +kernel) fun t hf y => ?_
  blk_simp
  rw [after0_9]
  have e : ((win0_9.blk t).view.emb y : S65536x512.Idx) = ix2 (rt t (y 0)) (y 1) := by
    blk_ext [at9, rt]
  have ey : y = (ix2 (y 0) (y 1) : S1024x512.Idx) := eq_ix2 y
  rw [e]
  exact (congrArg _ ey).trans (point9 m c t (y 0) (y 1))

/-- Result 6, as the reference's result of the argument arrays. -/
def G10 : Vec Ideal S65536x512 .f32 := Cert.InProjRefIdeal.Read.val_main_v19 (F := Ideal) (A0 m c) (A1 m c) (A2 m c)

theorem point10 (t : Fin cfg0.N) (r : Fin 1024) (n : Fin 512) :
    out0_10 (F := Ideal) (iblk m c 0 t) (iblk m c 1 t) (iblk m c 2 t) (iblk m c 3 t) (iblk m c 4 t) (ix2 r n) = G10 m c (ix2 (rt t r) n) := by
  rw [Blk.out10_apply, rows0, gain1]
  unfold G10
  rw [Cert.InProjRefIdeal.Out.v19_apply]
  exact congrArg (proj _ _) (funext fun d => mat2 m c t d _)

/-- Result 6 after the run. -/
theorem final10 : (dats m 0 c).arrAt 10 cfg0.N = G10 m c := by
  refine (dats m 0 c).arrAt_eq_of_covers 10 (G10 m c) (by decide +kernel) fun t hf y => ?_
  blk_simp
  rw [after0_10]
  have e : ((win0_10.blk t).view.emb y : S65536x512.Idx) = ix2 (rt t (y 0)) (y 1) := by
    blk_ext [at10, rt]
  have ey : y = (ix2 (y 0) (y 1) : S1024x512.Idx) := eq_ix2 y
  rw [e]
  exact (congrArg _ ey).trans (point10 m c t (y 0) (y 1))

/-- Result 7, as the reference's result of the argument arrays. -/
def G11 : Vec Ideal S65536x128 .f32 := Cert.InProjRefIdeal.Read.val_main_v25 (F := Ideal) (A0 m c) (A1 m c) (A3 m c)

theorem point11 (t : Fin cfg0.N) (r : Fin 1024) (n : Fin 128) :
    out0_11 (F := Ideal) (iblk m c 0 t) (iblk m c 1 t) (iblk m c 2 t) (iblk m c 3 t) (iblk m c 4 t) (ix2 r n) = G11 m c (ix2 (rt t r) n) := by
  rw [Blk.out11_apply, rows0, gain1]
  unfold G11
  rw [Cert.InProjRefIdeal.Out.v25_apply]
  exact congrArg (proj _ _) (funext fun d => mat3 m c t d _)

/-- Result 7 after the run. -/
theorem final11 : (dats m 0 c).arrAt 11 cfg0.N = G11 m c := by
  refine (dats m 0 c).arrAt_eq_of_covers 11 (G11 m c) (by decide +kernel) fun t hf y => ?_
  blk_simp
  rw [after0_11]
  have e : ((win0_11.blk t).view.emb y : S65536x128.Idx) = ix2 (rt t (y 0)) (y 1) := by
    blk_ext [at11, rt]
  have ey : y = (ix2 (y 0) (y 1) : S1024x128.Idx) := eq_ix2 y
  rw [e]
  exact (congrArg _ ey).trans (point11 m c t (y 0) (y 1))

/-- Result 8, as the reference's result of the argument arrays. -/
def G12 : Vec Ideal S65536x128 .f32 := Cert.InProjRefIdeal.Read.val_main_v27 (F := Ideal) (A0 m c) (A1 m c) (A4 m c)

theorem point12 (t : Fin cfg0.N) (r : Fin 1024) (n : Fin 128) :
    out0_12 (F := Ideal) (iblk m c 0 t) (iblk m c 1 t) (iblk m c 2 t) (iblk m c 3 t) (iblk m c 4 t) (ix2 r n) = G12 m c (ix2 (rt t r) n) := by
  rw [Blk.out12_apply, rows0, gain1]
  unfold G12
  rw [Cert.InProjRefIdeal.Out.v27_apply]
  exact congrArg (proj _ _) (funext fun d => mat4 m c t d _)

/-- Result 8 after the run. -/
theorem final12 : (dats m 0 c).arrAt 12 cfg0.N = G12 m c := by
  refine (dats m 0 c).arrAt_eq_of_covers 12 (G12 m c) (by decide +kernel) fun t hf y => ?_
  blk_simp
  rw [after0_12]
  have e : ((win0_12.blk t).view.emb y : S65536x128.Idx) = ix2 (rt t (y 0)) (y 1) := by
    blk_ext [at12, rt]
  have ey : y = (ix2 (y 0) (y 1) : S1024x128.Idx) := eq_ix2 y
  rw [e]
  exact (congrArg _ ey).trans (point12 m c t (y 0) (y 1))

end Cert.InProjIdeal.Arr

end
-- ==== Proof.InProj.Claims.lean ====
/- The input projection's claims. -/
module

public import proofs.«01_k».proof.Defs
public import proofs.«01_k».proof.Proof.Gen.InProj.Frame
public import proofs.«01_k».proof.Proof.Gen.InProjRefIdeal.Run
public import proofs.«01_k».proof.Proof.InProj.Array
public import Idealize.ShloMosaic.Lib.Quiescent

@[expose] public section

noncomputable section

namespace Cert.Proof.InProjClaims

open Idealize.ShloMosaic Idealize.ShloMosaic.TcCoe Idealize.SL.Sem

/-- The input projection runs and leaves its arguments. -/
theorem frame_p : Cert.quiescent_InProj := fun m ρ _ => Cert.InProj.Gen.frame m ρ
/-- The input projection at exact arithmetic runs and leaves its arguments. -/
theorem frame_pi : Cert.quiescent_InProjIdeal := fun m ρ _ => Cert.InProjIdeal.Gen.frame m ρ
/-- The plain input projection runs and leaves its arguments. -/
theorem frame_ri : Cert.quiescent_InProjRefIdeal := fun m ρ _ =>
  (θ_run Cert.InProjRefIdeal.defs _ _).mono (fun r h => ⟨fun c => (h c).2.2.2.2.2.2.2.2, sem_eq_zero_of_no_sems (by decide) r.2⟩)
    (Cert.InProjRefIdeal.Value.run (F := Ideal) m ρ)
/-- No operation was rewritten between the kernel and its exact form. -/
theorem preserves : Cert.preserves_InProj_InProjIdeal := trivial

/-- At exact arithmetic the kernel's results are the reference's. -/
theorem algebraic : Cert.algebraic_InProjIdeal_InProjRefIdeal := by
  intro m ρ m' ρ' hp hagree
  refine ⟨fun c => Cert.InProjIdeal.Arr.G5 m c, fun c => Cert.InProjIdeal.Arr.G6 m c, fun c => Cert.InProjIdeal.Arr.G7 m c, fun c => Cert.InProjIdeal.Arr.G8 m c, fun c => Cert.InProjIdeal.Arr.G9 m c, fun c => Cert.InProjIdeal.Arr.G10 m c, fun c => Cert.InProjIdeal.Arr.G11 m c, fun c => Cert.InProjIdeal.Arr.G12 m c, ?_, ?_⟩
  · exact (θ_run Cert.InProjIdeal.defs _ _).mono
      (fun _ h c => ⟨(h c).1.trans (Cert.InProjIdeal.Arr.final5 m c), (h c).2.1.trans (Cert.InProjIdeal.Arr.final6 m c), (h c).2.2.1.trans (Cert.InProjIdeal.Arr.final7 m c), (h c).2.2.2.1.trans (Cert.InProjIdeal.Arr.final8 m c), (h c).2.2.2.2.1.trans (Cert.InProjIdeal.Arr.final9 m c), (h c).2.2.2.2.2.1.trans (Cert.InProjIdeal.Arr.final10 m c), (h c).2.2.2.2.2.2.1.trans (Cert.InProjIdeal.Arr.final11 m c), (h c).2.2.2.2.2.2.2.1.trans (Cert.InProjIdeal.Arr.final12 m c), (h c).2.2.2.2.2.2.2.2⟩)
      (Cert.InProjIdeal.Value.run_blocks (F := Ideal) m ρ)
  · refine (θ_run Cert.InProjRefIdeal.defs _ _).mono (fun _ h c => ⟨?_, ?_, ?_, ?_, ?_, ?_, ?_, ?_, (h c).2.2.2.2.2.2.2.2⟩) (Cert.InProjRefIdeal.Value.run (F := Ideal) m' ρ')
    · obtain ⟨e0, e1, e2, e3, e4⟩ := hagree c
      rw [(h c).1, Cert.InProjRefIdeal.Read.val_main_v20_eq]
      unfold Cert.InProjIdeal.Arr.G5
      rw [e0, e1, e2]
    · obtain ⟨e0, e1, e2, e3, e4⟩ := hagree c
      rw [(h c).2.1, Cert.InProjRefIdeal.Read.val_main_v21_eq]
      unfold Cert.InProjIdeal.Arr.G6
      rw [e0, e1, e2]
    · obtain ⟨e0, e1, e2, e3, e4⟩ := hagree c
      rw [(h c).2.2.1, Cert.InProjRefIdeal.Read.val_main_v22_eq]
      unfold Cert.InProjIdeal.Arr.G7
      rw [e0, e1, e2]
    · obtain ⟨e0, e1, e2, e3, e4⟩ := hagree c
      rw [(h c).2.2.2.1, Cert.InProjRefIdeal.Read.val_main_v17_eq]
      unfold Cert.InProjIdeal.Arr.G8
      rw [e0, e1, e2]
    · obtain ⟨e0, e1, e2, e3, e4⟩ := hagree c
      rw [(h c).2.2.2.2.1, Cert.InProjRefIdeal.Read.val_main_v23_eq]
      unfold Cert.InProjIdeal.Arr.G9
      rw [e0, e1, e2]
    · obtain ⟨e0, e1, e2, e3, e4⟩ := hagree c
      rw [(h c).2.2.2.2.2.1, Cert.InProjRefIdeal.Read.val_main_v19_eq]
      unfold Cert.InProjIdeal.Arr.G10
      rw [e0, e1, e2]
    · obtain ⟨e0, e1, e2, e3, e4⟩ := hagree c
      rw [(h c).2.2.2.2.2.2.1, Cert.InProjRefIdeal.Read.val_main_v25_eq]
      unfold Cert.InProjIdeal.Arr.G11
      rw [e0, e1, e3]
    · obtain ⟨e0, e1, e2, e3, e4⟩ := hagree c
      rw [(h c).2.2.2.2.2.2.2.1, Cert.InProjRefIdeal.Read.val_main_v27_eq]
      unfold Cert.InProjIdeal.Arr.G12
      rw [e0, e1, e4]

end Cert.Proof.InProjClaims

end
-- ==== Proof.KvProj.Block.lean ====
/- What each store of the memory projection writes: a normalised row times a column. -/
module

public import proofs.«01_k».proof.Proof.Gen.KvProjIdeal.Value
public import proofs.«01_k».proof.Proof.Proj.Alg
public import Idealize.ShloMosaic.Lib.Pipeline.ValueKit.Geometry

@[expose] public section

noncomputable section

namespace Cert.KvProjIdeal.Blk

open Cert.KvProjIdeal Cert.KvProjIdeal.Gen Idealize.ShloMosaic Idealize.SL.Sem Cert.ProjAlg

variable (x0 : Vec Ideal S1x256x1024 .f32) (x1 : Vec Ideal S1x1024 .f32) (x2 : Vec Ideal S1024x2048 .bf16)

theorem h0 : ∀ a : Fin 2, (![0, 0] : Fin 2 → ℕ) a = 0 := by decide
theorem h03 : ∀ a : Fin 3, (![0, 0, 0] : Fin 3 → ℕ) a = 0 := by decide

/-- Row `r` of the block of memories. -/
abbrev xr (r : Fin 256) : Fin 1024 → EReal := fun k => x0 (ix3 0 r k)
/-- The gains. -/
abbrev gr : Fin 1024 → EReal := fun k => x1 (ix2 0 k)

theorem ldx : View.ld x0 r0_0 = x0 := View.ld_unit_zero (funext h03) _ x0
theorem ldg : View.ld x1 r0_1 = x1 := View.ld_unit_zero (funext h0) _ x1

/-- The normalised rows. -/
theorem norm_apply (r : Fin 256) (d : Fin 1024) : k0_pay1 (F := Ideal) x0 x1 (ix2 r d) = nrm (xr x0 r) (gr x1) d := by
  pointwise [k0_pay1]
  rfl

/-- Output 3 at row `r` and column `n`: that row times column `0 + n` of the weights. -/
theorem out3_apply (r : Fin 256) (n : Fin 1024) : out0_3 (F := Ideal) x0 x1 x2 (ix3 0 r n)
    = proj (xr x0 r) (gr x1) (fun d => x2 (ix2 d ⟨0 + n.val, by omega⟩)) := by
  unfold out0_3
  rw [View.canon_unit_zero (funext h03), ldx, ldg]
  pointwise [k0_pay2]
  refine Finset.sum_congr rfl fun d _ => congrArg₂ (fun a b : EReal => a * b) (norm_apply x0 x1 r d) ?_
  exact congrArg x2 (funext fun a => Fin.ext (by match a with | ⟨0, _⟩ => simp | ⟨1, _⟩ => simp))

/-- Output 4 at row `r` and column `n`: that row times column `1024 + n` of the weights. -/
theorem out4_apply (r : Fin 256) (n : Fin 1024) : out0_4 (F := Ideal) x0 x1 x2 (ix3 0 r n)
    = proj (xr x0 r) (gr x1) (fun d => x2 (ix2 d ⟨1024 + n.val, by omega⟩)) := by
  unfold out0_4
  rw [View.canon_unit_zero (funext h03), ldx, ldg]
  pointwise [k0_pay3]
  refine Finset.sum_congr rfl fun d _ => congrArg₂ (fun a b : EReal => a * b) (norm_apply x0 x1 r d) ?_
  exact congrArg x2 (funext fun a => Fin.ext (by match a with | ⟨0, _⟩ => simp | ⟨1, _⟩ => simp))

end Cert.KvProjIdeal.Blk

end
-- ==== Proof.KvProj.Ref.lean ====
/- What the plain memory projection computes at each place. -/
module

public import proofs.«01_k».proof.Proof.Gen.KvProjRefIdeal.Read
public import proofs.«01_k».proof.Proof.Proj.Alg

@[expose] public section

noncomputable section

namespace Cert.KvProjRefIdeal.Out

open Cert.KvProjRefIdeal Cert.KvProjRefIdeal.Read Idealize.ShloMosaic Idealize.SL.Sem Cert.ProjAlg

variable (x : Vec Ideal S32x256x1024 .f32) (g : Vec Ideal S1x1024 .f32) (w : Vec Ideal S1024x2048 .bf16)

/-- Row `r` of the memories of batch `b`. -/
abbrev row (b : Fin 32) (r : Fin 256) : Fin 1024 → EReal := fun k => x (ix3 b r k)
/-- The gains. -/
abbrev gain : Fin 1024 → EReal := fun k => g (ix2 0 k)

/-- The normalised rows. -/
theorem norm_apply (i : S32x256x1024.Idx) : val_main_v12 (F := Ideal) x g i = nrm (row x (i 0) (i 1)) (gain g) (i 2) := by
  rw [val_main_v12_apply, val_main_v9_apply, val_main_v8_apply, val_main_v7_apply, val_main_v6_apply, val_main_v4_apply,
    val_main_v2_apply, val_main_v1_apply, val_main_v3_apply, val_main_v5_apply, val_main_v11_apply, val_main_v10_apply]
  simp only [val_main_v0_apply, val_main_cst_apply, val_main_cst_0_apply, val_main_cst_1_apply]
  have z : FloatOps.ofBits (F := Ideal) .f32 0#32 = (0 : EReal) := by simp [Ideal.ofBits, Ideal.ieee]
  rw [z, zero_add]
  have ei : i = ix3 (i 0) (i 1) (i 2) := eq_ix3 i
  have e0 : ∀ k : Fin 1024, idx_main_v1 (idx_main_v2 (idx_main_v8 i)) k = ix3 (i 0) (i 1) k := fun k =>
    funext fun a => Fin.ext (by match a with | ⟨0, _⟩ => rfl | ⟨1, _⟩ => rfl | ⟨2, _⟩ => rfl)
  have e1 : idx_main_v10 (idx_main_v11 i) = ix2 0 (i 2) := funext fun a => Fin.ext (by match a with | ⟨0, _⟩ => rfl | ⟨1, _⟩ => rfl)
  simp only [e0, e1]
  rw [show x i = x (ix3 (i 0) (i 1) (i 2)) from congrArg x ei]
  rfl

/-- Columns from 0 on: a normalised row times a column of the weights. -/
theorem v17_apply (b : Fin 32) (r : Fin 256) (n : Fin 1024) : val_main_v17 (F := Ideal) x g w (ix3 b r n)
    = proj (row x b r) (gain g) (fun d => w (ix2 d ⟨0 + n.val, by omega⟩)) := by
  rw [val_main_v17_apply, val_main_v15_apply, val_main_v14_apply]
  refine Finset.sum_congr rfl fun d _ => congrArg₂ (fun a b : EReal => a * b) (norm_apply x g _) ?_
  exact congrArg w (funext fun a => Fin.ext (by match a with | ⟨0, _⟩ => rfl | ⟨1, _⟩ => simp))

/-- Columns from 1024 on: a normalised row times a column of the weights. -/
theorem v18_apply (b : Fin 32) (r : Fin 256) (n : Fin 1024) : val_main_v18 (F := Ideal) x g w (ix3 b r n)
    = proj (row x b r) (gain g) (fun d => w (ix2 d ⟨1024 + n.val, by omega⟩)) := by
  rw [val_main_v18_apply, val_main_v16_apply, val_main_v14_apply]
  refine Finset.sum_congr rfl fun d _ => congrArg₂ (fun a b : EReal => a * b) (norm_apply x g _) ?_
  exact congrArg w (funext fun a => Fin.ext (by match a with | ⟨0, _⟩ => rfl | ⟨1, _⟩ => simp))

end Cert.KvProjRefIdeal.Out

end
-- ==== Proof.KvProj.Array.lean ====
/- The result arrays of the memory projection: every block, at its place, holds the plain projection. -/
module

public import proofs.«01_k».proof.Proof.KvProj.Block
public import proofs.«01_k».proof.Proof.KvProj.Ref
public import proofs.«01_k».proof.Proof.Gen.KvProjIdeal.Value
public import Idealize.ShloMosaic.Lib.Pipeline.ValueKit.Geometry

@[expose] public section

noncomputable section

namespace Cert.KvProjIdeal.Arr

open Cert.KvProjIdeal Cert.KvProjIdeal.Gen Idealize.ShloMosaic Idealize.ShloMosaic.TcCoe Idealize.SL.Sem Cert.ProjAlg
open Cert.KvProjRefIdeal.Out (row gain)

/-- Where each window's block starts at a grid point: the weights whole, the rows of batch `t`. -/
theorem at0 : ∀ t : Fin cfg0.N, win0_0.index t = ![t.val, 0, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![t.val, 0, 0] := (by decide +kernel : ∀ t : Fin grid0.N, _)
theorem at4 : ∀ t : Fin cfg0.N, win0_4.index t = ![t.val, 0, 0] := (by decide +kernel : ∀ t : Fin grid0.N, _)

/-- The batch of a grid point. -/
def bt (t : Fin cfg0.N) : Fin 32 := ⟨t.val, lt_of_lt_of_eq t.isLt (by decide : grid0.N = 32)⟩

variable (m : (ℓ : Loc nD τ sig) → Buf (Elt Ideal) ℓ) (c : Dev nD)

abbrev A0 : Vec Ideal S32x256x1024 .f32 := m ((c : Thread nD τ).loc main_arg0)
abbrev A1 : Vec Ideal S1x1024 .f32 := m ((c : Thread nD τ).loc main_arg1)
abbrev A2 : Vec Ideal S1024x2048 .bf16 := m ((c : Thread nD τ).loc main_arg2)

/-- The blocks of inputs, as parts of the argument arrays. -/
theorem rows0 (t : Fin cfg0.N) (r : Fin 256) : Blk.xr (iblk m c 0 t) r = row (A0 m c) (bt t) r := by
  funext k
  show V m c main_arg0 (((cfg0.win 0).blk t).view.emb (ix3 0 r k)) = A0 m c (ix3 (bt t) r k)
  rw [V_main_arg0]
  refine congrArg (A0 m c) ?_
  blk_ext [at0, bt]
theorem gain1 (t : Fin cfg0.N) : Blk.gr (iblk m c 1 t) = gain (A1 m c) := by
  funext k
  show V m c main_arg1 (((cfg0.win 1).blk t).view.emb (ix2 0 k)) = A1 m c (ix2 0 k)
  rw [V_main_arg1]
  refine congrArg (A1 m c) ?_
  blk_ext [at1]
theorem mat2 (t : Fin cfg0.N) (d : Fin 1024) (n : Fin 2048) : iblk m c 2 t (ix2 d n) = A2 m c (ix2 d n) := by
  show V m c main_arg2 (((cfg0.win 2).blk t).view.emb (ix2 d n)) = _
  rw [V_main_arg2]
  refine congrArg (A2 m c) ?_
  blk_ext [at2]

/-- Result 1, as the reference's result of the argument arrays. -/
def G3 : Vec Ideal S32x256x1024 .bf16 := Cert.KvProjRefIdeal.Read.val_main_v17 (F := Ideal) (A0 m c) (A1 m c) (A2 m c)

theorem point3 (t : Fin cfg0.N) (r : Fin 256) (n : Fin 1024) :
    out0_3 (F := Ideal) (iblk m c 0 t) (iblk m c 1 t) (iblk m c 2 t) (ix3 0 r n) = G3 m c (ix3 (bt t) r n) := by
  rw [Blk.out3_apply, rows0, gain1]
  unfold G3
  rw [Cert.KvProjRefIdeal.Out.v17_apply]
  exact congrArg (proj _ _) (funext fun d => mat2 m c t d _)

/-- Result 1 after the run. -/
theorem final3 : (dats m 0 c).arrAt 3 cfg0.N = G3 m c := by
  refine (dats m 0 c).arrAt_eq_of_covers 3 (G3 m c) (by decide +kernel) fun t hf y => ?_
  blk_simp
  rw [after0_3]
  have e : ((win0_3.blk t).view.emb y : S32x256x1024.Idx) = ix3 (bt t) (y 1) (y 2) := by
    blk_ext [at3, bt]
  have e0 : y 0 = (0 : Fin 1) := Subsingleton.elim (α := Fin 1) _ _
  have ey : y = (ix3 0 (y 1) (y 2) : S1x256x1024.Idx) := (eq_ix3 y).trans (congrArg (fun a => ix3 a (y 1) (y 2)) e0)
  rw [e]
  exact (congrArg _ ey).trans (point3 m c t (y 1) (y 2))

/-- Result 2, as the reference's result of the argument arrays. -/
def G4 : Vec Ideal S32x256x1024 .bf16 := Cert.KvProjRefIdeal.Read.val_main_v18 (F := Ideal) (A0 m c) (A1 m c) (A2 m c)

theorem point4 (t : Fin cfg0.N) (r : Fin 256) (n : Fin 1024) :
    out0_4 (F := Ideal) (iblk m c 0 t) (iblk m c 1 t) (iblk m c 2 t) (ix3 0 r n) = G4 m c (ix3 (bt t) r n) := by
  rw [Blk.out4_apply, rows0, gain1]
  unfold G4
  rw [Cert.KvProjRefIdeal.Out.v18_apply]
  exact congrArg (proj _ _) (funext fun d => mat2 m c t d _)

/-- Result 2 after the run. -/
theorem final4 : (dats m 0 c).arrAt 4 cfg0.N = G4 m c := by
  refine (dats m 0 c).arrAt_eq_of_covers 4 (G4 m c) (by decide +kernel) fun t hf y => ?_
  blk_simp
  rw [after0_4]
  have e : ((win0_4.blk t).view.emb y : S32x256x1024.Idx) = ix3 (bt t) (y 1) (y 2) := by
    blk_ext [at4, bt]
  have e0 : y 0 = (0 : Fin 1) := Subsingleton.elim (α := Fin 1) _ _
  have ey : y = (ix3 0 (y 1) (y 2) : S1x256x1024.Idx) := (eq_ix3 y).trans (congrArg (fun a => ix3 a (y 1) (y 2)) e0)
  rw [e]
  exact (congrArg _ ey).trans (point4 m c t (y 1) (y 2))

end Cert.KvProjIdeal.Arr

end
-- ==== Proof.KvProj.Claims.lean ====
/- The memory projection's claims. -/
module

public import proofs.«01_k».proof.Defs
public import proofs.«01_k».proof.Proof.Gen.KvProj.Frame
public import proofs.«01_k».proof.Proof.Gen.KvProjRefIdeal.Run
public import proofs.«01_k».proof.Proof.KvProj.Array
public import Idealize.ShloMosaic.Lib.Quiescent

@[expose] public section

noncomputable section

namespace Cert.Proof.KvProjClaims

open Idealize.ShloMosaic Idealize.ShloMosaic.TcCoe Idealize.SL.Sem

/-- The memory projection runs and leaves its arguments. -/
theorem frame_p : Cert.quiescent_KvProj := fun m ρ _ => Cert.KvProj.Gen.frame m ρ
/-- The memory projection at exact arithmetic runs and leaves its arguments. -/
theorem frame_pi : Cert.quiescent_KvProjIdeal := fun m ρ _ => Cert.KvProjIdeal.Gen.frame m ρ
/-- The plain memory projection runs and leaves its arguments. -/
theorem frame_ri : Cert.quiescent_KvProjRefIdeal := fun m ρ _ =>
  (θ_run Cert.KvProjRefIdeal.defs _ _).mono (fun r h => ⟨fun c => (h c).2.2, sem_eq_zero_of_no_sems (by decide) r.2⟩)
    (Cert.KvProjRefIdeal.Value.run (F := Ideal) m ρ)
/-- No operation was rewritten between the kernel and its exact form. -/
theorem preserves : Cert.preserves_KvProj_KvProjIdeal := trivial

/-- At exact arithmetic the kernel's results are the reference's. -/
theorem algebraic : Cert.algebraic_KvProjIdeal_KvProjRefIdeal := by
  intro m ρ m' ρ' hp hagree
  refine ⟨fun c => Cert.KvProjIdeal.Arr.G3 m c, fun c => Cert.KvProjIdeal.Arr.G4 m c, ?_, ?_⟩
  · exact (θ_run Cert.KvProjIdeal.defs _ _).mono
      (fun _ h c => ⟨(h c).1.trans (Cert.KvProjIdeal.Arr.final3 m c), (h c).2.1.trans (Cert.KvProjIdeal.Arr.final4 m c), (h c).2.2⟩)
      (Cert.KvProjIdeal.Value.run_blocks (F := Ideal) m ρ)
  · refine (θ_run Cert.KvProjRefIdeal.defs _ _).mono (fun _ h c => ⟨?_, ?_, (h c).2.2⟩) (Cert.KvProjRefIdeal.Value.run (F := Ideal) m' ρ')
    · obtain ⟨e0, e1, e2⟩ := hagree c
      rw [(h c).1, Cert.KvProjRefIdeal.Read.val_main_v17_eq]
      unfold Cert.KvProjIdeal.Arr.G3
      rw [e0, e1, e2]
    · obtain ⟨e0, e1, e2⟩ := hagree c
      rw [(h c).2.1, Cert.KvProjRefIdeal.Read.val_main_v18_eq]
      unfold Cert.KvProjIdeal.Arr.G4
      rw [e0, e1, e2]

end Cert.Proof.KvProjClaims

end
-- ==== Proof.Post.Runs.lean ====
/- What the runs of the last mixer step share: its branch in closed form over the grid, its blocks and buffers. -/
module

public import proofs.«01_k».proof.Proof.Gen.PostIdeal.Launch
public import proofs.«01_k».proof.Proof.Gen.PostIdeal.Skeleton
public import proofs.«01_k».proof.Proof.Gen.PostIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.PostIdeal.Hand

open Cert.PostIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) := m ((c : Thread nD τ).loc b)

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl
theorem V_main_arg9 (c : Dev nD) : V m c main_arg9 = m ((c : Thread nD τ).loc main_arg9) := rfl
theorem V_main_arg10 (c : Dev nD) : V m c main_arg10 = m ((c : Thread nD τ).loc main_arg10) := rfl
theorem V_main_arg11 (c : Dev nD) : V m c main_arg11 = m ((c : Thread nD τ).loc main_arg11) := rfl
theorem V_main_arg12 (c : Dev nD) : V m c main_arg12 = m ((c : Thread nD τ).loc main_arg12) := rfl

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

set_option maxHeartbeats 1140000 in
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).1 8).trans (((dats 0 c).arrAt_in 8 rfl _).trans ((hA c 8).trans (V_main_arg8 m c))),
      ((h c).1 9).trans (((dats 0 c).arrAt_in 9 rfl _).trans ((hA c 9).trans (V_main_arg9 m c))),
      ((h c).1 10).trans (((dats 0 c).arrAt_in 10 rfl _).trans ((hA c 10).trans (V_main_arg10 m c))),
      ((h c).1 11).trans (((dats 0 c).arrAt_in 11 rfl _).trans ((hA c 11).trans (V_main_arg11 m c))),
      ((h c).1 12).trans (((dats 0 c).arrAt_in 12 rfl _).trans ((hA c 12).trans (V_main_arg12 m c)))⟩) h

abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond0_0 : ∀ t : Fin cfg0.N, cond0_0 (grid0.coords t) ↔ t.val % 128 = 0 :=
  (fun t => by
    have ht : t.val < 128 := Nat.lt_of_lt_of_eq t.isLt N_0
    have e0 : (grid0.coords t 0).val = t.val / 4 % 32 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 128 = 0)

abbrev VO0_13 : View sig .tc .vmem S1x512x1024 .f32 := (Memref.whole cc0_stg13_0 : Memref sig .tc .vmem S1x512x1024 .f32).view
abbrev VO0_14 : View sig .tc .vmem S1x4096x128 .f32 := (Memref.whole cc0_stg14_0 : Memref sig .tc .vmem S1x4096x128 .f32).view
abbrev VO0_15 : View sig .tc .vmem S1x512x128 .i32 := (Memref.whole cc0_stg15_0 : Memref sig .tc .vmem S1x512x128 .i32).view
abbrev VO0_16 : View sig .tc .vmem S1x512x128 .f32 := (Memref.whole cc0_stg16_0 : Memref sig .tc .vmem S1x512x128 .f32).view
abbrev VO0_17 : View sig .tc .vmem S1x128 .f32 := (Memref.whole cc0_stg17_0 : Memref sig .tc .vmem S1x128 .f32).view
abbrev VO0_18 : View sig .tc .vmem S1x8x128 .f32 := (Memref.whole cc0_stg18_0 : Memref sig .tc .vmem S1x8x128 .f32).view
abbrev ms0_0 (t : Fin cfg0.N) : Memref sig .tc .vmem S1x512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x1024 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1024x256 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x512x1024 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x4096x128 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x512x128 .i32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x512x128 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x128 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x8x128 .f32 := win0_18.stage (cfg0.slots t 18)
abbrev hs0_18 (t : Fin cfg0.N) : (ms0_18 t).IsWhole := hstage0_18 ((cfg0.slots t 18).cast nbuf0_18)
abbrev scM0_0 : Memref sig .tc .vmem S1x128 .f32 := Memref.whole cc0_scratch0
abbrev VS0_0 : View sig .tc .vmem S1x128 .f32 := scM0_0.view

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.PostIdeal.Hand

end
-- ==== Proof.Post.RunA.lean ====
/- The body run at the first grid point, where the counters are cleared. -/
module

public import proofs.«01_k».proof.Proof.Post.Runs

@[expose] public section

set_option maxRecDepth 16384

noncomputable section

namespace Cert.PostIdeal.Hand

open Cert.PostIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in set_option sl_exec.squeezeSlice true in
noncomputable def kernelRun0_A (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x1024 .f32) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S1x512x1024 .f32) (harg15 : arg15.IsWhole) (arg16 : Memref sig .tc .vmem S1x4096x128 .f32) (harg16 : arg16.IsWhole) (arg17 : Memref sig .tc .vmem S1x512x128 .i32) (harg17 : arg17.IsWhole) (arg18 : Memref sig .tc .vmem S1x512x128 .f32) (harg18 : arg18.IsWhole) (arg19 : Memref sig .tc .vmem S1x128 .f32) (harg19 : arg19.IsWhole) (arg20 : Memref sig .tc .vmem S1x8x128 .f32) (harg20 : arg20.IsWhole) (arg21 : Memref sig .tc .vmem S1x128 .f32) (harg21 : arg21.IsWhole) (hc0 : cond0_0 i)
    (x0 : Vec F S1x512x512 .bf16) (x1 : Vec F S1x512x512 .bf16) (x2 : Vec F S1x512x1024 .f32) (x3 : Vec F S1x256x1024 .bf16) (x4 : Vec F S1x256x1024 .bf16) (x5 : Vec F S512x1024 .bf16) (x6 : Vec F S512x1024 .bf16) (x7 : Vec F S1x1024 .f32) (x8 : Vec F S1024x1024 .bf16) (x9 : Vec F S1024x1024 .bf16) (x10 : Vec F S1x1024 .f32) (x11 : Vec F S1024x256 .bf16) (x12 : Vec F S1x128 .f32) :
    Σ' (L13 : List (View.Piece (Elt F) S1x512x1024 .f32)), Σ' (L14 : List (View.Piece (Elt F) S1x4096x128 .f32)), Σ' (L15 : List (View.Piece (Elt F) S1x512x128 .i32)), Σ' (L16 : List (View.Piece (Elt F) S1x512x128 .f32)), Σ' (L17 : List (View.Piece (Elt F) S1x128 .f32)), Σ' (L18 : List (View.Piece (Elt F) S1x8x128 .f32)), { LS0 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f LS0)) -∗ K ⟨⟩))
          ⊢ wp frame (wpE (defs₀ (F := F)) Variants.none c none) E (cc0_post_mixer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, fun E K => ?run⟩
  case run =>
    simp only [cc0_post_mixer_eq_skeleton]; unfold cc0_post_mixer_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact HS0

end Cert.PostIdeal.Hand

end
-- ==== Proof.Post.RunB.lean ====
/- The body run at every later grid point, where the counters go on. -/
module

public import proofs.«01_k».proof.Proof.Post.RunA

@[expose] public section

set_option maxRecDepth 16384

noncomputable section

namespace Cert.PostIdeal.Hand

open Cert.PostIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in set_option sl_exec.squeezeSlice true in
noncomputable def kernelRun0_B (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x1024 .f32) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S1x512x1024 .f32) (harg15 : arg15.IsWhole) (arg16 : Memref sig .tc .vmem S1x4096x128 .f32) (harg16 : arg16.IsWhole) (arg17 : Memref sig .tc .vmem S1x512x128 .i32) (harg17 : arg17.IsWhole) (arg18 : Memref sig .tc .vmem S1x512x128 .f32) (harg18 : arg18.IsWhole) (arg19 : Memref sig .tc .vmem S1x128 .f32) (harg19 : arg19.IsWhole) (arg20 : Memref sig .tc .vmem S1x8x128 .f32) (harg20 : arg20.IsWhole) (arg21 : Memref sig .tc .vmem S1x128 .f32) (harg21 : arg21.IsWhole) (hc0 : ¬cond0_0 i)
    (x0 : Vec F S1x512x512 .bf16) (x1 : Vec F S1x512x512 .bf16) (x2 : Vec F S1x512x1024 .f32) (x3 : Vec F S1x256x1024 .bf16) (x4 : Vec F S1x256x1024 .bf16) (x5 : Vec F S512x1024 .bf16) (x6 : Vec F S512x1024 .bf16) (x7 : Vec F S1x1024 .f32) (x8 : Vec F S1024x1024 .bf16) (x9 : Vec F S1024x1024 .bf16) (x10 : Vec F S1x1024 .f32) (x11 : Vec F S1024x256 .bf16) (x12 : Vec F S1x128 .f32) (xs0 : Vec F S1x128 .f32) :
    Σ' (L13 : List (View.Piece (Elt F) S1x512x1024 .f32)), Σ' (L14 : List (View.Piece (Elt F) S1x4096x128 .f32)), Σ' (L15 : List (View.Piece (Elt F) S1x512x128 .i32)), Σ' (L16 : List (View.Piece (Elt F) S1x512x128 .f32)), Σ' (L17 : List (View.Piece (Elt F) S1x128 .f32)), Σ' (L18 : List (View.Piece (Elt F) S1x8x128 .f32)), { LS0 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg21 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f LS0)) -∗ K ⟨⟩))
          ⊢ wp frame (wpE (defs₀ (F := F)) Variants.none c none) E (cc0_post_mixer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, fun E K => ?run⟩
  case run =>
    simp only [cc0_post_mixer_eq_skeleton]; unfold cc0_post_mixer_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg21.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact HS0

end Cert.PostIdeal.Hand

end
-- ==== Proof.Post.Tiles.lean ====
/- The rows each strided store writes, and that together they cover the block. -/
module

public import proofs.«01_k».proof.Proof.Post.Runs
public import Idealize.ShloMosaic.Lib.Claim

@[expose] public section

set_option maxRecDepth 16384

noncomputable section

namespace Cert.PostIdeal.Hand

open Cert.PostIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Row `k` of every 8 of a block of 4096 rows. -/
abbrev rU (k : ℕ) (inb : ∀ a : Fin 2, S512x128.size a = 0 ∨ (![k, 0] : Fin 2 → ℕ) a + (![8, 1] : Fin 2 → ℕ) a * (S512x128.size a - 1) < S4096x128.size a) :
    Rect S4096x128 := ⟨(⟨![k, 0], S512x128.size, ![8, 1], inb⟩ : LoadRect S4096x128), spos_8_1⟩

/-- The same rows in the block with its leading unit axis. -/
abbrev rT (k : ℕ) (inb : ∀ a : Fin 2, S512x128.size a = 0 ∨ (![k, 0] : Fin 2 → ℕ) a + (![8, 1] : Fin 2 → ℕ) a * (S512x128.size a - 1) < S4096x128.size a) :
    Rect S1x4096x128 :=
  (Rect.unit (s := S1x4096x128) ![0, 0, 0] S1x4096x128.size inb_S1x4096x128_S1x4096x128_0_0_0).within
    ((rU k inb).consLift S1x4096x128.size (by decide) (by decide)) (by decide)

/-- Row `8 j + k` of the block lies in the rows stored for column tile `k`. -/
theorem mem_rT (k : ℕ) (inb : ∀ a : Fin 2, S512x128.size a = 0 ∨ (![k, 0] : Fin 2 → ℕ) a + (![8, 1] : Fin 2 → ℕ) a * (S512x128.size a - 1) < S4096x128.size a)
    (y : S1x4096x128.Idx) (h : (y 1).val % 8 = k) : y ∈ (rT k inb).set := by
  rw [LoadRect.mem_set]
  intro a
  match a with
  | ⟨0, _⟩ =>
    have hy : (y 0).val < 1 := (y 0).isLt
    exact ⟨0, Nat.one_pos, show (y 0).val = 0 + 0 + 1 * 0 by omega⟩
  | ⟨1, _⟩ =>
    have hy : (y 1).val < 4096 := (y 1).isLt
    exact ⟨(y 1).val / 8, show (y 1).val / 8 < 512 by omega, show (y 1).val = 0 + k + 8 * ((y 1).val / 8) by omega⟩
  | ⟨2, _⟩ =>
    have hy : (y 2).val < 128 := (y 2).isLt
    exact ⟨(y 2).val, hy, show (y 2).val = 0 + 0 + 1 * (y 2).val by omega⟩

/-- Where column tile 0 of the rows lies. -/
abbrev rT0 : Rect S1x4096x128 := rT 0 inb_S4096x128_S512x128_0_0_s_8_1
/-- Where column tile 1 of the rows lies. -/
abbrev rT1 : Rect S1x4096x128 := rT 1 inb_S4096x128_S512x128_1_0_s_8_1
/-- Where column tile 2 of the rows lies. -/
abbrev rT2 : Rect S1x4096x128 := rT 2 inb_S4096x128_S512x128_2_0_s_8_1
/-- Where column tile 3 of the rows lies. -/
abbrev rT3 : Rect S1x4096x128 := rT 3 inb_S4096x128_S512x128_3_0_s_8_1
/-- Where column tile 4 of the rows lies. -/
abbrev rT4 : Rect S1x4096x128 := rT 4 inb_S4096x128_S512x128_4_0_s_8_1
/-- Where column tile 5 of the rows lies. -/
abbrev rT5 : Rect S1x4096x128 := rT 5 inb_S4096x128_S512x128_5_0_s_8_1
/-- Where column tile 6 of the rows lies. -/
abbrev rT6 : Rect S1x4096x128 := rT 6 inb_S4096x128_S512x128_6_0_s_8_1
/-- Where column tile 7 of the rows lies. -/
abbrev rT7 : Rect S1x4096x128 := rT 7 inb_S4096x128_S512x128_7_0_s_8_1

/-- The eight column tiles' rows cover the block. -/
theorem tiled (p0 : rT0.shape.Idx → Elt F .f32) (p1 : rT1.shape.Idx → Elt F .f32) (p2 : rT2.shape.Idx → Elt F .f32) (p3 : rT3.shape.Idx → Elt F .f32) (p4 : rT4.shape.Idx → Elt F .f32) (p5 : rT5.shape.Idx → Elt F .f32) (p6 : rT6.shape.Idx → Elt F .f32) (p7 : rT7.shape.Idx → Elt F .f32) (y : S1x4096x128.Idx) :
    ∃ pc ∈ ([⟨rT7, p7⟩, ⟨rT6, p6⟩, ⟨rT5, p5⟩, ⟨rT4, p4⟩, ⟨rT3, p3⟩, ⟨rT2, p2⟩, ⟨rT1, p1⟩, ⟨rT0, p0⟩] : List (View.Piece (Elt F) S1x4096x128 .f32)), y ∈ pc.1.set := by
  have h8 : (y 1).val % 8 = 0 ∨ (y 1).val % 8 = 1 ∨ (y 1).val % 8 = 2 ∨ (y 1).val % 8 = 3 ∨ (y 1).val % 8 = 4 ∨ (y 1).val % 8 = 5 ∨ (y 1).val % 8 = 6 ∨ (y 1).val % 8 = 7 := by omega
  rcases h8 with h | h | h | h | h | h | h | h
  · exact ⟨⟨rT0, p0⟩, by simp, mem_rT 0 inb_S4096x128_S512x128_0_0_s_8_1 y h⟩
  · exact ⟨⟨rT1, p1⟩, by simp, mem_rT 1 inb_S4096x128_S512x128_1_0_s_8_1 y h⟩
  · exact ⟨⟨rT2, p2⟩, by simp, mem_rT 2 inb_S4096x128_S512x128_2_0_s_8_1 y h⟩
  · exact ⟨⟨rT3, p3⟩, by simp, mem_rT 3 inb_S4096x128_S512x128_3_0_s_8_1 y h⟩
  · exact ⟨⟨rT4, p4⟩, by simp, mem_rT 4 inb_S4096x128_S512x128_4_0_s_8_1 y h⟩
  · exact ⟨⟨rT5, p5⟩, by simp, mem_rT 5 inb_S4096x128_S512x128_5_0_s_8_1 y h⟩
  · exact ⟨⟨rT6, p6⟩, by simp, mem_rT 6 inb_S4096x128_S512x128_6_0_s_8_1 y h⟩
  · exact ⟨⟨rT7, p7⟩, by simp, mem_rT 7 inb_S4096x128_S512x128_7_0_s_8_1 y h⟩

end Cert.PostIdeal.Hand

end
-- ==== Proof.Post.Frame.lean ====
/- What the outputs and the counters hold after each grid point, and that the run leaves the arguments. -/
module

public import proofs.«01_k».proof.Proof.Post.RunB
public import proofs.«01_k».proof.Proof.Post.Tiles
public import Idealize.ShloMosaic.Lib.Claim

@[expose] public section

set_option maxRecDepth 16384

noncomputable section

namespace Cert.PostIdeal.Hand

open Cert.PostIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cover0_A_13 (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x1024 .f32) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S1x512x1024 .f32) (harg15 : arg15.IsWhole) (arg16 : Memref sig .tc .vmem S1x4096x128 .f32) (harg16 : arg16.IsWhole) (arg17 : Memref sig .tc .vmem S1x512x128 .i32) (harg17 : arg17.IsWhole) (arg18 : Memref sig .tc .vmem S1x512x128 .f32) (harg18 : arg18.IsWhole) (arg19 : Memref sig .tc .vmem S1x128 .f32) (harg19 : arg19.IsWhole) (arg20 : Memref sig .tc .vmem S1x8x128 .f32) (harg20 : arg20.IsWhole) (arg21 : Memref sig .tc .vmem S1x128 .f32) (harg21 : arg21.IsWhole) (hc0 : cond0_0 i)
    (x0 : Vec F S1x512x512 .bf16) (x1 : Vec F S1x512x512 .bf16) (x2 : Vec F S1x512x1024 .f32) (x3 : Vec F S1x256x1024 .bf16) (x4 : Vec F S1x256x1024 .bf16) (x5 : Vec F S512x1024 .bf16) (x6 : Vec F S512x1024 .bf16) (x7 : Vec F S1x1024 .f32) (x8 : Vec F S1024x1024 .bf16) (x9 : Vec F S1024x1024 .bf16) (x10 : Vec F S1x1024 .f32) (x11 : Vec F S1024x256 .bf16) (x12 : Vec F S1x128 .f32) (y : S1x512x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12).1 S1x512x1024.size (by sl_kernel_rfl) y

def out0_A_13 (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x1024 .f32) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S1x512x1024 .f32) (harg15 : arg15.IsWhole) (arg16 : Memref sig .tc .vmem S1x4096x128 .f32) (harg16 : arg16.IsWhole) (arg17 : Memref sig .tc .vmem S1x512x128 .i32) (harg17 : arg17.IsWhole) (arg18 : Memref sig .tc .vmem S1x512x128 .f32) (harg18 : arg18.IsWhole) (arg19 : Memref sig .tc .vmem S1x128 .f32) (harg19 : arg19.IsWhole) (arg20 : Memref sig .tc .vmem S1x8x128 .f32) (harg20 : arg20.IsWhole) (arg21 : Memref sig .tc .vmem S1x128 .f32) (harg21 : arg21.IsWhole) (hc0 : cond0_0 i)
    (x0 : Vec F S1x512x512 .bf16) (x1 : Vec F S1x512x512 .bf16) (x2 : Vec F S1x512x1024 .f32) (x3 : Vec F S1x256x1024 .bf16) (x4 : Vec F S1x256x1024 .bf16) (x5 : Vec F S512x1024 .bf16) (x6 : Vec F S512x1024 .bf16) (x7 : Vec F S1x1024 .f32) (x8 : Vec F S1024x1024 .bf16) (x9 : Vec F S1024x1024 .bf16) (x10 : Vec F S1x1024 .f32) (x11 : Vec F S1024x256 .bf16) (x12 : Vec F S1x128 .f32) : Vec F S1x512x1024 .f32 :=
  VO0_13.read (Elt F) (VO0_13.writes (Elt F) VO0_13.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12).1)

theorem cover0_A_14 (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x1024 .f32) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S1x512x1024 .f32) (harg15 : arg15.IsWhole) (arg16 : Memref sig .tc .vmem S1x4096x128 .f32) (harg16 : arg16.IsWhole) (arg17 : Memref sig .tc .vmem S1x512x128 .i32) (harg17 : arg17.IsWhole) (arg18 : Memref sig .tc .vmem S1x512x128 .f32) (harg18 : arg18.IsWhole) (arg19 : Memref sig .tc .vmem S1x128 .f32) (harg19 : arg19.IsWhole) (arg20 : Memref sig .tc .vmem S1x8x128 .f32) (harg20 : arg20.IsWhole) (arg21 : Memref sig .tc .vmem S1x128 .f32) (harg21 : arg21.IsWhole) (hc0 : cond0_0 i)
    (x0 : Vec F S1x512x512 .bf16) (x1 : Vec F S1x512x512 .bf16) (x2 : Vec F S1x512x1024 .f32) (x3 : Vec F S1x256x1024 .bf16) (x4 : Vec F S1x256x1024 .bf16) (x5 : Vec F S512x1024 .bf16) (x6 : Vec F S512x1024 .bf16) (x7 : Vec F S1x1024 .f32) (x8 : Vec F S1024x1024 .bf16) (x9 : Vec F S1024x1024 .bf16) (x10 : Vec F S1x1024 .f32) (x11 : Vec F S1024x256 .bf16) (x12 : Vec F S1x128 .f32) (y : S1x4096x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12).2.1, y ∈ pc.1.set :=
  tiled _ _ _ _ _ _ _ _ y

def out0_A_14 (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x1024 .f32) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S1x512x1024 .f32) (harg15 : arg15.IsWhole) (arg16 : Memref sig .tc .vmem S1x4096x128 .f32) (harg16 : arg16.IsWhole) (arg17 : Memref sig .tc .vmem S1x512x128 .i32) (harg17 : arg17.IsWhole) (arg18 : Memref sig .tc .vmem S1x512x128 .f32) (harg18 : arg18.IsWhole) (arg19 : Memref sig .tc .vmem S1x128 .f32) (harg19 : arg19.IsWhole) (arg20 : Memref sig .tc .vmem S1x8x128 .f32) (harg20 : arg20.IsWhole) (arg21 : Memref sig .tc .vmem S1x128 .f32) (harg21 : arg21.IsWhole) (hc0 : cond0_0 i)
    (x0 : Vec F S1x512x512 .bf16) (x1 : Vec F S1x512x512 .bf16) (x2 : Vec F S1x512x1024 .f32) (x3 : Vec F S1x256x1024 .bf16) (x4 : Vec F S1x256x1024 .bf16) (x5 : Vec F S512x1024 .bf16) (x6 : Vec F S512x1024 .bf16) (x7 : Vec F S1x1024 .f32) (x8 : Vec F S1024x1024 .bf16) (x9 : Vec F S1024x1024 .bf16) (x10 : Vec F S1x1024 .f32) (x11 : Vec F S1024x256 .bf16) (x12 : Vec F S1x128 .f32) : Vec F S1x4096x128 .f32 :=
  VO0_14.read (Elt F) (VO0_14.writes (Elt F) VO0_14.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12).2.1)

theorem cover0_A_15 (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x1024 .f32) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S1x512x1024 .f32) (harg15 : arg15.IsWhole) (arg16 : Memref sig .tc .vmem S1x4096x128 .f32) (harg16 : arg16.IsWhole) (arg17 : Memref sig .tc .vmem S1x512x128 .i32) (harg17 : arg17.IsWhole) (arg18 : Memref sig .tc .vmem S1x512x128 .f32) (harg18 : arg18.IsWhole) (arg19 : Memref sig .tc .vmem S1x128 .f32) (harg19 : arg19.IsWhole) (arg20 : Memref sig .tc .vmem S1x8x128 .f32) (harg20 : arg20.IsWhole) (arg21 : Memref sig .tc .vmem S1x128 .f32) (harg21 : arg21.IsWhole) (hc0 : cond0_0 i)
    (x0 : Vec F S1x512x512 .bf16) (x1 : Vec F S1x512x512 .bf16) (x2 : Vec F S1x512x1024 .f32) (x3 : Vec F S1x256x1024 .bf16) (x4 : Vec F S1x256x1024 .bf16) (x5 : Vec F S512x1024 .bf16) (x6 : Vec F S512x1024 .bf16) (x7 : Vec F S1x1024 .f32) (x8 : Vec F S1024x1024 .bf16) (x9 : Vec F S1024x1024 .bf16) (x10 : Vec F S1x1024 .f32) (x11 : Vec F S1024x256 .bf16) (x12 : Vec F S1x128 .f32) (y : S1x512x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12).2.2.1 S1x512x128.size (by sl_kernel_rfl) y

def out0_A_15 (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x1024 .f32) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S1x512x1024 .f32) (harg15 : arg15.IsWhole) (arg16 : Memref sig .tc .vmem S1x4096x128 .f32) (harg16 : arg16.IsWhole) (arg17 : Memref sig .tc .vmem S1x512x128 .i32) (harg17 : arg17.IsWhole) (arg18 : Memref sig .tc .vmem S1x512x128 .f32) (harg18 : arg18.IsWhole) (arg19 : Memref sig .tc .vmem S1x128 .f32) (harg19 : arg19.IsWhole) (arg20 : Memref sig .tc .vmem S1x8x128 .f32) (harg20 : arg20.IsWhole) (arg21 : Memref sig .tc .vmem S1x128 .f32) (harg21 : arg21.IsWhole) (hc0 : cond0_0 i)
    (x0 : Vec F S1x512x512 .bf16) (x1 : Vec F S1x512x512 .bf16) (x2 : Vec F S1x512x1024 .f32) (x3 : Vec F S1x256x1024 .bf16) (x4 : Vec F S1x256x1024 .bf16) (x5 : Vec F S512x1024 .bf16) (x6 : Vec F S512x1024 .bf16) (x7 : Vec F S1x1024 .f32) (x8 : Vec F S1024x1024 .bf16) (x9 : Vec F S1024x1024 .bf16) (x10 : Vec F S1x1024 .f32) (x11 : Vec F S1024x256 .bf16) (x12 : Vec F S1x128 .f32) : Vec F S1x512x128 .i32 :=
  VO0_15.read (Elt F) (VO0_15.writes (Elt F) VO0_15.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12).2.2.1)

theorem cover0_A_16 (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x1024 .f32) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S1x512x1024 .f32) (harg15 : arg15.IsWhole) (arg16 : Memref sig .tc .vmem S1x4096x128 .f32) (harg16 : arg16.IsWhole) (arg17 : Memref sig .tc .vmem S1x512x128 .i32) (harg17 : arg17.IsWhole) (arg18 : Memref sig .tc .vmem S1x512x128 .f32) (harg18 : arg18.IsWhole) (arg19 : Memref sig .tc .vmem S1x128 .f32) (harg19 : arg19.IsWhole) (arg20 : Memref sig .tc .vmem S1x8x128 .f32) (harg20 : arg20.IsWhole) (arg21 : Memref sig .tc .vmem S1x128 .f32) (harg21 : arg21.IsWhole) (hc0 : cond0_0 i)
    (x0 : Vec F S1x512x512 .bf16) (x1 : Vec F S1x512x512 .bf16) (x2 : Vec F S1x512x1024 .f32) (x3 : Vec F S1x256x1024 .bf16) (x4 : Vec F S1x256x1024 .bf16) (x5 : Vec F S512x1024 .bf16) (x6 : Vec F S512x1024 .bf16) (x7 : Vec F S1x1024 .f32) (x8 : Vec F S1024x1024 .bf16) (x9 : Vec F S1024x1024 .bf16) (x10 : Vec F S1x1024 .f32) (x11 : Vec F S1024x256 .bf16) (x12 : Vec F S1x128 .f32) (y : S1x512x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12).2.2.2.1 S1x512x128.size (by sl_kernel_rfl) y

def out0_A_16 (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x1024 .f32) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S1x512x1024 .f32) (harg15 : arg15.IsWhole) (arg16 : Memref sig .tc .vmem S1x4096x128 .f32) (harg16 : arg16.IsWhole) (arg17 : Memref sig .tc .vmem S1x512x128 .i32) (harg17 : arg17.IsWhole) (arg18 : Memref sig .tc .vmem S1x512x128 .f32) (harg18 : arg18.IsWhole) (arg19 : Memref sig .tc .vmem S1x128 .f32) (harg19 : arg19.IsWhole) (arg20 : Memref sig .tc .vmem S1x8x128 .f32) (harg20 : arg20.IsWhole) (arg21 : Memref sig .tc .vmem S1x128 .f32) (harg21 : arg21.IsWhole) (hc0 : cond0_0 i)
    (x0 : Vec F S1x512x512 .bf16) (x1 : Vec F S1x512x512 .bf16) (x2 : Vec F S1x512x1024 .f32) (x3 : Vec F S1x256x1024 .bf16) (x4 : Vec F S1x256x1024 .bf16) (x5 : Vec F S512x1024 .bf16) (x6 : Vec F S512x1024 .bf16) (x7 : Vec F S1x1024 .f32) (x8 : Vec F S1024x1024 .bf16) (x9 : Vec F S1024x1024 .bf16) (x10 : Vec F S1x1024 .f32) (x11 : Vec F S1024x256 .bf16) (x12 : Vec F S1x128 .f32) : Vec F S1x512x128 .f32 :=
  VO0_16.read (Elt F) (VO0_16.writes (Elt F) VO0_16.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12).2.2.2.1)

theorem cover0_A_17 (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x1024 .f32) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S1x512x1024 .f32) (harg15 : arg15.IsWhole) (arg16 : Memref sig .tc .vmem S1x4096x128 .f32) (harg16 : arg16.IsWhole) (arg17 : Memref sig .tc .vmem S1x512x128 .i32) (harg17 : arg17.IsWhole) (arg18 : Memref sig .tc .vmem S1x512x128 .f32) (harg18 : arg18.IsWhole) (arg19 : Memref sig .tc .vmem S1x128 .f32) (harg19 : arg19.IsWhole) (arg20 : Memref sig .tc .vmem S1x8x128 .f32) (harg20 : arg20.IsWhole) (arg21 : Memref sig .tc .vmem S1x128 .f32) (harg21 : arg21.IsWhole) (hc0 : cond0_0 i)
    (x0 : Vec F S1x512x512 .bf16) (x1 : Vec F S1x512x512 .bf16) (x2 : Vec F S1x512x1024 .f32) (x3 : Vec F S1x256x1024 .bf16) (x4 : Vec F S1x256x1024 .bf16) (x5 : Vec F S512x1024 .bf16) (x6 : Vec F S512x1024 .bf16) (x7 : Vec F S1x1024 .f32) (x8 : Vec F S1024x1024 .bf16) (x9 : Vec F S1024x1024 .bf16) (x10 : Vec F S1x1024 .f32) (x11 : Vec F S1024x256 .bf16) (x12 : Vec F S1x128 .f32) (y : S1x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12).2.2.2.2.1 S1x128.size (by sl_kernel_rfl) y

def out0_A_17 (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x1024 .f32) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S1x512x1024 .f32) (harg15 : arg15.IsWhole) (arg16 : Memref sig .tc .vmem S1x4096x128 .f32) (harg16 : arg16.IsWhole) (arg17 : Memref sig .tc .vmem S1x512x128 .i32) (harg17 : arg17.IsWhole) (arg18 : Memref sig .tc .vmem S1x512x128 .f32) (harg18 : arg18.IsWhole) (arg19 : Memref sig .tc .vmem S1x128 .f32) (harg19 : arg19.IsWhole) (arg20 : Memref sig .tc .vmem S1x8x128 .f32) (harg20 : arg20.IsWhole) (arg21 : Memref sig .tc .vmem S1x128 .f32) (harg21 : arg21.IsWhole) (hc0 : cond0_0 i)
    (x0 : Vec F S1x512x512 .bf16) (x1 : Vec F S1x512x512 .bf16) (x2 : Vec F S1x512x1024 .f32) (x3 : Vec F S1x256x1024 .bf16) (x4 : Vec F S1x256x1024 .bf16) (x5 : Vec F S512x1024 .bf16) (x6 : Vec F S512x1024 .bf16) (x7 : Vec F S1x1024 .f32) (x8 : Vec F S1024x1024 .bf16) (x9 : Vec F S1024x1024 .bf16) (x10 : Vec F S1x1024 .f32) (x11 : Vec F S1024x256 .bf16) (x12 : Vec F S1x128 .f32) : Vec F S1x128 .f32 :=
  VO0_17.read (Elt F) (VO0_17.writes (Elt F) VO0_17.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12).2.2.2.2.1)

theorem cover0_A_18 (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x1024 .f32) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S1x512x1024 .f32) (harg15 : arg15.IsWhole) (arg16 : Memref sig .tc .vmem S1x4096x128 .f32) (harg16 : arg16.IsWhole) (arg17 : Memref sig .tc .vmem S1x512x128 .i32) (harg17 : arg17.IsWhole) (arg18 : Memref sig .tc .vmem S1x512x128 .f32) (harg18 : arg18.IsWhole) (arg19 : Memref sig .tc .vmem S1x128 .f32) (harg19 : arg19.IsWhole) (arg20 : Memref sig .tc .vmem S1x8x128 .f32) (harg20 : arg20.IsWhole) (arg21 : Memref sig .tc .vmem S1x128 .f32) (harg21 : arg21.IsWhole) (hc0 : cond0_0 i)
    (x0 : Vec F S1x512x512 .bf16) (x1 : Vec F S1x512x512 .bf16) (x2 : Vec F S1x512x1024 .f32) (x3 : Vec F S1x256x1024 .bf16) (x4 : Vec F S1x256x1024 .bf16) (x5 : Vec F S512x1024 .bf16) (x6 : Vec F S512x1024 .bf16) (x7 : Vec F S1x1024 .f32) (x8 : Vec F S1024x1024 .bf16) (x9 : Vec F S1024x1024 .bf16) (x10 : Vec F S1x1024 .f32) (x11 : Vec F S1024x256 .bf16) (x12 : Vec F S1x128 .f32) (y : S1x8x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12).2.2.2.2.2.1 S1x8x128.size (by sl_kernel_rfl) y

def out0_A_18 (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x1024 .f32) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S1x512x1024 .f32) (harg15 : arg15.IsWhole) (arg16 : Memref sig .tc .vmem S1x4096x128 .f32) (harg16 : arg16.IsWhole) (arg17 : Memref sig .tc .vmem S1x512x128 .i32) (harg17 : arg17.IsWhole) (arg18 : Memref sig .tc .vmem S1x512x128 .f32) (harg18 : arg18.IsWhole) (arg19 : Memref sig .tc .vmem S1x128 .f32) (harg19 : arg19.IsWhole) (arg20 : Memref sig .tc .vmem S1x8x128 .f32) (harg20 : arg20.IsWhole) (arg21 : Memref sig .tc .vmem S1x128 .f32) (harg21 : arg21.IsWhole) (hc0 : cond0_0 i)
    (x0 : Vec F S1x512x512 .bf16) (x1 : Vec F S1x512x512 .bf16) (x2 : Vec F S1x512x1024 .f32) (x3 : Vec F S1x256x1024 .bf16) (x4 : Vec F S1x256x1024 .bf16) (x5 : Vec F S512x1024 .bf16) (x6 : Vec F S512x1024 .bf16) (x7 : Vec F S1x1024 .f32) (x8 : Vec F S1024x1024 .bf16) (x9 : Vec F S1024x1024 .bf16) (x10 : Vec F S1x1024 .f32) (x11 : Vec F S1024x256 .bf16) (x12 : Vec F S1x128 .f32) : Vec F S1x8x128 .f32 :=
  VO0_18.read (Elt F) (VO0_18.writes (Elt F) VO0_18.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12).2.2.2.2.2.1)

theorem scover0_A_0 (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x1024 .f32) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S1x512x1024 .f32) (harg15 : arg15.IsWhole) (arg16 : Memref sig .tc .vmem S1x4096x128 .f32) (harg16 : arg16.IsWhole) (arg17 : Memref sig .tc .vmem S1x512x128 .i32) (harg17 : arg17.IsWhole) (arg18 : Memref sig .tc .vmem S1x512x128 .f32) (harg18 : arg18.IsWhole) (arg19 : Memref sig .tc .vmem S1x128 .f32) (harg19 : arg19.IsWhole) (arg20 : Memref sig .tc .vmem S1x8x128 .f32) (harg20 : arg20.IsWhole) (arg21 : Memref sig .tc .vmem S1x128 .f32) (harg21 : arg21.IsWhole) (hc0 : cond0_0 i)
    (x0 : Vec F S1x512x512 .bf16) (x1 : Vec F S1x512x512 .bf16) (x2 : Vec F S1x512x1024 .f32) (x3 : Vec F S1x256x1024 .bf16) (x4 : Vec F S1x256x1024 .bf16) (x5 : Vec F S512x1024 .bf16) (x6 : Vec F S512x1024 .bf16) (x7 : Vec F S1x1024 .f32) (x8 : Vec F S1024x1024 .bf16) (x9 : Vec F S1024x1024 .bf16) (x10 : Vec F S1x1024 .f32) (x11 : Vec F S1024x256 .bf16) (x12 : Vec F S1x128 .f32) (y : S1x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12).2.2.2.2.2.2.1 S1x128.size (by sl_kernel_rfl) y

def sout0_A_0 (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x1024 .f32) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S1x512x1024 .f32) (harg15 : arg15.IsWhole) (arg16 : Memref sig .tc .vmem S1x4096x128 .f32) (harg16 : arg16.IsWhole) (arg17 : Memref sig .tc .vmem S1x512x128 .i32) (harg17 : arg17.IsWhole) (arg18 : Memref sig .tc .vmem S1x512x128 .f32) (harg18 : arg18.IsWhole) (arg19 : Memref sig .tc .vmem S1x128 .f32) (harg19 : arg19.IsWhole) (arg20 : Memref sig .tc .vmem S1x8x128 .f32) (harg20 : arg20.IsWhole) (arg21 : Memref sig .tc .vmem S1x128 .f32) (harg21 : arg21.IsWhole) (hc0 : cond0_0 i)
    (x0 : Vec F S1x512x512 .bf16) (x1 : Vec F S1x512x512 .bf16) (x2 : Vec F S1x512x1024 .f32) (x3 : Vec F S1x256x1024 .bf16) (x4 : Vec F S1x256x1024 .bf16) (x5 : Vec F S512x1024 .bf16) (x6 : Vec F S512x1024 .bf16) (x7 : Vec F S1x1024 .f32) (x8 : Vec F S1024x1024 .bf16) (x9 : Vec F S1024x1024 .bf16) (x10 : Vec F S1x1024 .f32) (x11 : Vec F S1024x256 .bf16) (x12 : Vec F S1x128 .f32) : Vec F S1x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12).2.2.2.2.2.2.1)

theorem cover0_B_13 (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x1024 .f32) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S1x512x1024 .f32) (harg15 : arg15.IsWhole) (arg16 : Memref sig .tc .vmem S1x4096x128 .f32) (harg16 : arg16.IsWhole) (arg17 : Memref sig .tc .vmem S1x512x128 .i32) (harg17 : arg17.IsWhole) (arg18 : Memref sig .tc .vmem S1x512x128 .f32) (harg18 : arg18.IsWhole) (arg19 : Memref sig .tc .vmem S1x128 .f32) (harg19 : arg19.IsWhole) (arg20 : Memref sig .tc .vmem S1x8x128 .f32) (harg20 : arg20.IsWhole) (arg21 : Memref sig .tc .vmem S1x128 .f32) (harg21 : arg21.IsWhole) (hc0 : ¬cond0_0 i)
    (x0 : Vec F S1x512x512 .bf16) (x1 : Vec F S1x512x512 .bf16) (x2 : Vec F S1x512x1024 .f32) (x3 : Vec F S1x256x1024 .bf16) (x4 : Vec F S1x256x1024 .bf16) (x5 : Vec F S512x1024 .bf16) (x6 : Vec F S512x1024 .bf16) (x7 : Vec F S1x1024 .f32) (x8 : Vec F S1024x1024 .bf16) (x9 : Vec F S1024x1024 .bf16) (x10 : Vec F S1x1024 .f32) (x11 : Vec F S1024x256 .bf16) (x12 : Vec F S1x128 .f32) (xs0 : Vec F S1x128 .f32) (y : S1x512x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 xs0).1 S1x512x1024.size (by sl_kernel_rfl) y

def out0_B_13 (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x1024 .f32) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S1x512x1024 .f32) (harg15 : arg15.IsWhole) (arg16 : Memref sig .tc .vmem S1x4096x128 .f32) (harg16 : arg16.IsWhole) (arg17 : Memref sig .tc .vmem S1x512x128 .i32) (harg17 : arg17.IsWhole) (arg18 : Memref sig .tc .vmem S1x512x128 .f32) (harg18 : arg18.IsWhole) (arg19 : Memref sig .tc .vmem S1x128 .f32) (harg19 : arg19.IsWhole) (arg20 : Memref sig .tc .vmem S1x8x128 .f32) (harg20 : arg20.IsWhole) (arg21 : Memref sig .tc .vmem S1x128 .f32) (harg21 : arg21.IsWhole) (hc0 : ¬cond0_0 i)
    (x0 : Vec F S1x512x512 .bf16) (x1 : Vec F S1x512x512 .bf16) (x2 : Vec F S1x512x1024 .f32) (x3 : Vec F S1x256x1024 .bf16) (x4 : Vec F S1x256x1024 .bf16) (x5 : Vec F S512x1024 .bf16) (x6 : Vec F S512x1024 .bf16) (x7 : Vec F S1x1024 .f32) (x8 : Vec F S1024x1024 .bf16) (x9 : Vec F S1024x1024 .bf16) (x10 : Vec F S1x1024 .f32) (x11 : Vec F S1024x256 .bf16) (x12 : Vec F S1x128 .f32) (xs0 : Vec F S1x128 .f32) : Vec F S1x512x1024 .f32 :=
  VO0_13.read (Elt F) (VO0_13.writes (Elt F) VO0_13.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 xs0).1)

theorem cover0_B_14 (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x1024 .f32) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S1x512x1024 .f32) (harg15 : arg15.IsWhole) (arg16 : Memref sig .tc .vmem S1x4096x128 .f32) (harg16 : arg16.IsWhole) (arg17 : Memref sig .tc .vmem S1x512x128 .i32) (harg17 : arg17.IsWhole) (arg18 : Memref sig .tc .vmem S1x512x128 .f32) (harg18 : arg18.IsWhole) (arg19 : Memref sig .tc .vmem S1x128 .f32) (harg19 : arg19.IsWhole) (arg20 : Memref sig .tc .vmem S1x8x128 .f32) (harg20 : arg20.IsWhole) (arg21 : Memref sig .tc .vmem S1x128 .f32) (harg21 : arg21.IsWhole) (hc0 : ¬cond0_0 i)
    (x0 : Vec F S1x512x512 .bf16) (x1 : Vec F S1x512x512 .bf16) (x2 : Vec F S1x512x1024 .f32) (x3 : Vec F S1x256x1024 .bf16) (x4 : Vec F S1x256x1024 .bf16) (x5 : Vec F S512x1024 .bf16) (x6 : Vec F S512x1024 .bf16) (x7 : Vec F S1x1024 .f32) (x8 : Vec F S1024x1024 .bf16) (x9 : Vec F S1024x1024 .bf16) (x10 : Vec F S1x1024 .f32) (x11 : Vec F S1024x256 .bf16) (x12 : Vec F S1x128 .f32) (xs0 : Vec F S1x128 .f32) (y : S1x4096x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 xs0).2.1, y ∈ pc.1.set :=
  tiled _ _ _ _ _ _ _ _ y

def out0_B_14 (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x1024 .f32) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S1x512x1024 .f32) (harg15 : arg15.IsWhole) (arg16 : Memref sig .tc .vmem S1x4096x128 .f32) (harg16 : arg16.IsWhole) (arg17 : Memref sig .tc .vmem S1x512x128 .i32) (harg17 : arg17.IsWhole) (arg18 : Memref sig .tc .vmem S1x512x128 .f32) (harg18 : arg18.IsWhole) (arg19 : Memref sig .tc .vmem S1x128 .f32) (harg19 : arg19.IsWhole) (arg20 : Memref sig .tc .vmem S1x8x128 .f32) (harg20 : arg20.IsWhole) (arg21 : Memref sig .tc .vmem S1x128 .f32) (harg21 : arg21.IsWhole) (hc0 : ¬cond0_0 i)
    (x0 : Vec F S1x512x512 .bf16) (x1 : Vec F S1x512x512 .bf16) (x2 : Vec F S1x512x1024 .f32) (x3 : Vec F S1x256x1024 .bf16) (x4 : Vec F S1x256x1024 .bf16) (x5 : Vec F S512x1024 .bf16) (x6 : Vec F S512x1024 .bf16) (x7 : Vec F S1x1024 .f32) (x8 : Vec F S1024x1024 .bf16) (x9 : Vec F S1024x1024 .bf16) (x10 : Vec F S1x1024 .f32) (x11 : Vec F S1024x256 .bf16) (x12 : Vec F S1x128 .f32) (xs0 : Vec F S1x128 .f32) : Vec F S1x4096x128 .f32 :=
  VO0_14.read (Elt F) (VO0_14.writes (Elt F) VO0_14.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 xs0).2.1)

theorem cover0_B_15 (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x1024 .f32) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S1x512x1024 .f32) (harg15 : arg15.IsWhole) (arg16 : Memref sig .tc .vmem S1x4096x128 .f32) (harg16 : arg16.IsWhole) (arg17 : Memref sig .tc .vmem S1x512x128 .i32) (harg17 : arg17.IsWhole) (arg18 : Memref sig .tc .vmem S1x512x128 .f32) (harg18 : arg18.IsWhole) (arg19 : Memref sig .tc .vmem S1x128 .f32) (harg19 : arg19.IsWhole) (arg20 : Memref sig .tc .vmem S1x8x128 .f32) (harg20 : arg20.IsWhole) (arg21 : Memref sig .tc .vmem S1x128 .f32) (harg21 : arg21.IsWhole) (hc0 : ¬cond0_0 i)
    (x0 : Vec F S1x512x512 .bf16) (x1 : Vec F S1x512x512 .bf16) (x2 : Vec F S1x512x1024 .f32) (x3 : Vec F S1x256x1024 .bf16) (x4 : Vec F S1x256x1024 .bf16) (x5 : Vec F S512x1024 .bf16) (x6 : Vec F S512x1024 .bf16) (x7 : Vec F S1x1024 .f32) (x8 : Vec F S1024x1024 .bf16) (x9 : Vec F S1024x1024 .bf16) (x10 : Vec F S1x1024 .f32) (x11 : Vec F S1024x256 .bf16) (x12 : Vec F S1x128 .f32) (xs0 : Vec F S1x128 .f32) (y : S1x512x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 xs0).2.2.1 S1x512x128.size (by sl_kernel_rfl) y

def out0_B_15 (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x1024 .f32) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S1x512x1024 .f32) (harg15 : arg15.IsWhole) (arg16 : Memref sig .tc .vmem S1x4096x128 .f32) (harg16 : arg16.IsWhole) (arg17 : Memref sig .tc .vmem S1x512x128 .i32) (harg17 : arg17.IsWhole) (arg18 : Memref sig .tc .vmem S1x512x128 .f32) (harg18 : arg18.IsWhole) (arg19 : Memref sig .tc .vmem S1x128 .f32) (harg19 : arg19.IsWhole) (arg20 : Memref sig .tc .vmem S1x8x128 .f32) (harg20 : arg20.IsWhole) (arg21 : Memref sig .tc .vmem S1x128 .f32) (harg21 : arg21.IsWhole) (hc0 : ¬cond0_0 i)
    (x0 : Vec F S1x512x512 .bf16) (x1 : Vec F S1x512x512 .bf16) (x2 : Vec F S1x512x1024 .f32) (x3 : Vec F S1x256x1024 .bf16) (x4 : Vec F S1x256x1024 .bf16) (x5 : Vec F S512x1024 .bf16) (x6 : Vec F S512x1024 .bf16) (x7 : Vec F S1x1024 .f32) (x8 : Vec F S1024x1024 .bf16) (x9 : Vec F S1024x1024 .bf16) (x10 : Vec F S1x1024 .f32) (x11 : Vec F S1024x256 .bf16) (x12 : Vec F S1x128 .f32) (xs0 : Vec F S1x128 .f32) : Vec F S1x512x128 .i32 :=
  VO0_15.read (Elt F) (VO0_15.writes (Elt F) VO0_15.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 xs0).2.2.1)

theorem cover0_B_16 (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x1024 .f32) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S1x512x1024 .f32) (harg15 : arg15.IsWhole) (arg16 : Memref sig .tc .vmem S1x4096x128 .f32) (harg16 : arg16.IsWhole) (arg17 : Memref sig .tc .vmem S1x512x128 .i32) (harg17 : arg17.IsWhole) (arg18 : Memref sig .tc .vmem S1x512x128 .f32) (harg18 : arg18.IsWhole) (arg19 : Memref sig .tc .vmem S1x128 .f32) (harg19 : arg19.IsWhole) (arg20 : Memref sig .tc .vmem S1x8x128 .f32) (harg20 : arg20.IsWhole) (arg21 : Memref sig .tc .vmem S1x128 .f32) (harg21 : arg21.IsWhole) (hc0 : ¬cond0_0 i)
    (x0 : Vec F S1x512x512 .bf16) (x1 : Vec F S1x512x512 .bf16) (x2 : Vec F S1x512x1024 .f32) (x3 : Vec F S1x256x1024 .bf16) (x4 : Vec F S1x256x1024 .bf16) (x5 : Vec F S512x1024 .bf16) (x6 : Vec F S512x1024 .bf16) (x7 : Vec F S1x1024 .f32) (x8 : Vec F S1024x1024 .bf16) (x9 : Vec F S1024x1024 .bf16) (x10 : Vec F S1x1024 .f32) (x11 : Vec F S1024x256 .bf16) (x12 : Vec F S1x128 .f32) (xs0 : Vec F S1x128 .f32) (y : S1x512x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 xs0).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 xs0).2.2.2.1 S1x512x128.size (by sl_kernel_rfl) y

def out0_B_16 (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x1024 .f32) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S1x512x1024 .f32) (harg15 : arg15.IsWhole) (arg16 : Memref sig .tc .vmem S1x4096x128 .f32) (harg16 : arg16.IsWhole) (arg17 : Memref sig .tc .vmem S1x512x128 .i32) (harg17 : arg17.IsWhole) (arg18 : Memref sig .tc .vmem S1x512x128 .f32) (harg18 : arg18.IsWhole) (arg19 : Memref sig .tc .vmem S1x128 .f32) (harg19 : arg19.IsWhole) (arg20 : Memref sig .tc .vmem S1x8x128 .f32) (harg20 : arg20.IsWhole) (arg21 : Memref sig .tc .vmem S1x128 .f32) (harg21 : arg21.IsWhole) (hc0 : ¬cond0_0 i)
    (x0 : Vec F S1x512x512 .bf16) (x1 : Vec F S1x512x512 .bf16) (x2 : Vec F S1x512x1024 .f32) (x3 : Vec F S1x256x1024 .bf16) (x4 : Vec F S1x256x1024 .bf16) (x5 : Vec F S512x1024 .bf16) (x6 : Vec F S512x1024 .bf16) (x7 : Vec F S1x1024 .f32) (x8 : Vec F S1024x1024 .bf16) (x9 : Vec F S1024x1024 .bf16) (x10 : Vec F S1x1024 .f32) (x11 : Vec F S1024x256 .bf16) (x12 : Vec F S1x128 .f32) (xs0 : Vec F S1x128 .f32) : Vec F S1x512x128 .f32 :=
  VO0_16.read (Elt F) (VO0_16.writes (Elt F) VO0_16.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 xs0).2.2.2.1)

theorem cover0_B_17 (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x1024 .f32) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S1x512x1024 .f32) (harg15 : arg15.IsWhole) (arg16 : Memref sig .tc .vmem S1x4096x128 .f32) (harg16 : arg16.IsWhole) (arg17 : Memref sig .tc .vmem S1x512x128 .i32) (harg17 : arg17.IsWhole) (arg18 : Memref sig .tc .vmem S1x512x128 .f32) (harg18 : arg18.IsWhole) (arg19 : Memref sig .tc .vmem S1x128 .f32) (harg19 : arg19.IsWhole) (arg20 : Memref sig .tc .vmem S1x8x128 .f32) (harg20 : arg20.IsWhole) (arg21 : Memref sig .tc .vmem S1x128 .f32) (harg21 : arg21.IsWhole) (hc0 : ¬cond0_0 i)
    (x0 : Vec F S1x512x512 .bf16) (x1 : Vec F S1x512x512 .bf16) (x2 : Vec F S1x512x1024 .f32) (x3 : Vec F S1x256x1024 .bf16) (x4 : Vec F S1x256x1024 .bf16) (x5 : Vec F S512x1024 .bf16) (x6 : Vec F S512x1024 .bf16) (x7 : Vec F S1x1024 .f32) (x8 : Vec F S1024x1024 .bf16) (x9 : Vec F S1024x1024 .bf16) (x10 : Vec F S1x1024 .f32) (x11 : Vec F S1024x256 .bf16) (x12 : Vec F S1x128 .f32) (xs0 : Vec F S1x128 .f32) (y : S1x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 xs0).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 xs0).2.2.2.2.1 S1x128.size (by sl_kernel_rfl) y

def out0_B_17 (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x1024 .f32) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S1x512x1024 .f32) (harg15 : arg15.IsWhole) (arg16 : Memref sig .tc .vmem S1x4096x128 .f32) (harg16 : arg16.IsWhole) (arg17 : Memref sig .tc .vmem S1x512x128 .i32) (harg17 : arg17.IsWhole) (arg18 : Memref sig .tc .vmem S1x512x128 .f32) (harg18 : arg18.IsWhole) (arg19 : Memref sig .tc .vmem S1x128 .f32) (harg19 : arg19.IsWhole) (arg20 : Memref sig .tc .vmem S1x8x128 .f32) (harg20 : arg20.IsWhole) (arg21 : Memref sig .tc .vmem S1x128 .f32) (harg21 : arg21.IsWhole) (hc0 : ¬cond0_0 i)
    (x0 : Vec F S1x512x512 .bf16) (x1 : Vec F S1x512x512 .bf16) (x2 : Vec F S1x512x1024 .f32) (x3 : Vec F S1x256x1024 .bf16) (x4 : Vec F S1x256x1024 .bf16) (x5 : Vec F S512x1024 .bf16) (x6 : Vec F S512x1024 .bf16) (x7 : Vec F S1x1024 .f32) (x8 : Vec F S1024x1024 .bf16) (x9 : Vec F S1024x1024 .bf16) (x10 : Vec F S1x1024 .f32) (x11 : Vec F S1024x256 .bf16) (x12 : Vec F S1x128 .f32) (xs0 : Vec F S1x128 .f32) : Vec F S1x128 .f32 :=
  VO0_17.read (Elt F) (VO0_17.writes (Elt F) VO0_17.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 xs0).2.2.2.2.1)

theorem cover0_B_18 (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x1024 .f32) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S1x512x1024 .f32) (harg15 : arg15.IsWhole) (arg16 : Memref sig .tc .vmem S1x4096x128 .f32) (harg16 : arg16.IsWhole) (arg17 : Memref sig .tc .vmem S1x512x128 .i32) (harg17 : arg17.IsWhole) (arg18 : Memref sig .tc .vmem S1x512x128 .f32) (harg18 : arg18.IsWhole) (arg19 : Memref sig .tc .vmem S1x128 .f32) (harg19 : arg19.IsWhole) (arg20 : Memref sig .tc .vmem S1x8x128 .f32) (harg20 : arg20.IsWhole) (arg21 : Memref sig .tc .vmem S1x128 .f32) (harg21 : arg21.IsWhole) (hc0 : ¬cond0_0 i)
    (x0 : Vec F S1x512x512 .bf16) (x1 : Vec F S1x512x512 .bf16) (x2 : Vec F S1x512x1024 .f32) (x3 : Vec F S1x256x1024 .bf16) (x4 : Vec F S1x256x1024 .bf16) (x5 : Vec F S512x1024 .bf16) (x6 : Vec F S512x1024 .bf16) (x7 : Vec F S1x1024 .f32) (x8 : Vec F S1024x1024 .bf16) (x9 : Vec F S1024x1024 .bf16) (x10 : Vec F S1x1024 .f32) (x11 : Vec F S1024x256 .bf16) (x12 : Vec F S1x128 .f32) (xs0 : Vec F S1x128 .f32) (y : S1x8x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 xs0).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 xs0).2.2.2.2.2.1 S1x8x128.size (by sl_kernel_rfl) y

def out0_B_18 (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x1024 .f32) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S1x512x1024 .f32) (harg15 : arg15.IsWhole) (arg16 : Memref sig .tc .vmem S1x4096x128 .f32) (harg16 : arg16.IsWhole) (arg17 : Memref sig .tc .vmem S1x512x128 .i32) (harg17 : arg17.IsWhole) (arg18 : Memref sig .tc .vmem S1x512x128 .f32) (harg18 : arg18.IsWhole) (arg19 : Memref sig .tc .vmem S1x128 .f32) (harg19 : arg19.IsWhole) (arg20 : Memref sig .tc .vmem S1x8x128 .f32) (harg20 : arg20.IsWhole) (arg21 : Memref sig .tc .vmem S1x128 .f32) (harg21 : arg21.IsWhole) (hc0 : ¬cond0_0 i)
    (x0 : Vec F S1x512x512 .bf16) (x1 : Vec F S1x512x512 .bf16) (x2 : Vec F S1x512x1024 .f32) (x3 : Vec F S1x256x1024 .bf16) (x4 : Vec F S1x256x1024 .bf16) (x5 : Vec F S512x1024 .bf16) (x6 : Vec F S512x1024 .bf16) (x7 : Vec F S1x1024 .f32) (x8 : Vec F S1024x1024 .bf16) (x9 : Vec F S1024x1024 .bf16) (x10 : Vec F S1x1024 .f32) (x11 : Vec F S1024x256 .bf16) (x12 : Vec F S1x128 .f32) (xs0 : Vec F S1x128 .f32) : Vec F S1x8x128 .f32 :=
  VO0_18.read (Elt F) (VO0_18.writes (Elt F) VO0_18.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 xs0).2.2.2.2.2.1)

theorem scover0_B_0 (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x1024 .f32) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S1x512x1024 .f32) (harg15 : arg15.IsWhole) (arg16 : Memref sig .tc .vmem S1x4096x128 .f32) (harg16 : arg16.IsWhole) (arg17 : Memref sig .tc .vmem S1x512x128 .i32) (harg17 : arg17.IsWhole) (arg18 : Memref sig .tc .vmem S1x512x128 .f32) (harg18 : arg18.IsWhole) (arg19 : Memref sig .tc .vmem S1x128 .f32) (harg19 : arg19.IsWhole) (arg20 : Memref sig .tc .vmem S1x8x128 .f32) (harg20 : arg20.IsWhole) (arg21 : Memref sig .tc .vmem S1x128 .f32) (harg21 : arg21.IsWhole) (hc0 : ¬cond0_0 i)
    (x0 : Vec F S1x512x512 .bf16) (x1 : Vec F S1x512x512 .bf16) (x2 : Vec F S1x512x1024 .f32) (x3 : Vec F S1x256x1024 .bf16) (x4 : Vec F S1x256x1024 .bf16) (x5 : Vec F S512x1024 .bf16) (x6 : Vec F S512x1024 .bf16) (x7 : Vec F S1x1024 .f32) (x8 : Vec F S1024x1024 .bf16) (x9 : Vec F S1024x1024 .bf16) (x10 : Vec F S1x1024 .f32) (x11 : Vec F S1024x256 .bf16) (x12 : Vec F S1x128 .f32) (xs0 : Vec F S1x128 .f32) (y : S1x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 xs0).2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 xs0).2.2.2.2.2.2.1 S1x128.size (by sl_kernel_rfl) y

def sout0_B_0 (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x1024 .f32) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S1x512x1024 .f32) (harg15 : arg15.IsWhole) (arg16 : Memref sig .tc .vmem S1x4096x128 .f32) (harg16 : arg16.IsWhole) (arg17 : Memref sig .tc .vmem S1x512x128 .i32) (harg17 : arg17.IsWhole) (arg18 : Memref sig .tc .vmem S1x512x128 .f32) (harg18 : arg18.IsWhole) (arg19 : Memref sig .tc .vmem S1x128 .f32) (harg19 : arg19.IsWhole) (arg20 : Memref sig .tc .vmem S1x8x128 .f32) (harg20 : arg20.IsWhole) (arg21 : Memref sig .tc .vmem S1x128 .f32) (harg21 : arg21.IsWhole) (hc0 : ¬cond0_0 i)
    (x0 : Vec F S1x512x512 .bf16) (x1 : Vec F S1x512x512 .bf16) (x2 : Vec F S1x512x1024 .f32) (x3 : Vec F S1x256x1024 .bf16) (x4 : Vec F S1x256x1024 .bf16) (x5 : Vec F S512x1024 .bf16) (x6 : Vec F S512x1024 .bf16) (x7 : Vec F S1x1024 .f32) (x8 : Vec F S1024x1024 .bf16) (x9 : Vec F S1024x1024 .bf16) (x10 : Vec F S1x1024 .f32) (x11 : Vec F S1024x256 .bf16) (x12 : Vec F S1x128 .f32) (xs0 : Vec F S1x128 .f32) : Vec F S1x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 xs0).2.2.2.2.2.2.1)

def outsAt0 (c : Dev nD) : (n : ℕ) → n < cfg0.N → Vec F S1x512x1024 .f32 × Vec F S1x4096x128 .f32 × Vec F S1x512x128 .i32 × Vec F S1x512x128 .f32 × Vec F S1x128 .f32 × Vec F S1x8x128 .f32 × Vec F S1x128 .f32
  | 0, hn => (out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩), out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩), out0_A_15 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩), out0_A_16 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩), out0_A_17 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩), out0_A_18 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩))
  | n + 1, hn =>
    if h0 : (n + 1) % 128 = 0 then
      (out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), out0_A_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), out0_A_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), out0_A_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), out0_A_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), out0_A_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩))
    else
      (out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.2.2.2.2, out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.2.2.2.2, out0_B_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.2.2.2.2, out0_B_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.2.2.2.2, out0_B_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.2.2.2.2, out0_B_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.2.2.2.2)

theorem outsAt0_A (c : Dev nD) (t : Fin cfg0.N) (h0 : t.val % 128 = 0) :
    outsAt0 m c t.val t.isLt = (out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  obtain ⟨n, hn⟩ := t
  cases n with
  | zero => exact rfl
  | succ n => exact (dif_pos h0).trans rfl

theorem outsAt0_B (c : Dev nD) (t : Fin cfg0.N) (h0 : ¬t.val % 128 = 0) :
    outsAt0 m c t.val t.isLt = (out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2.2.2.2, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2.2.2.2, out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2.2.2.2, out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2.2.2.2, out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2.2.2.2, out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2.2.2.2) := by
  obtain ⟨n, hn⟩ := t
  cases n with
  | zero => exact (by exfalso; (try dsimp only at h0); exact absurd (Nat.zero_mod _) h0)
  | succ n => exact (dif_neg h0).trans rfl

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (outsAt0 m c t.val t.isLt).1
    | ⟨14, _⟩ => (outsAt0 m c t.val t.isLt).2.1
    | ⟨15, _⟩ => (outsAt0 m c t.val t.isLt).2.2.1
    | ⟨16, _⟩ => (outsAt0 m c t.val t.isLt).2.2.2.1
    | ⟨17, _⟩ => (outsAt0 m c t.val t.isLt).2.2.2.2.1
    | ⟨18, _⟩ => (outsAt0 m c t.val t.isLt).2.2.2.2.2.1
    | ⟨_ + 19, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = (outsAt0 m c t.val t.isLt).1 := by dsimp only [dats]
theorem after0_14 (c : Dev nD) (t : Fin cfg0.N) : (dats m 0 c).after 14 t = (outsAt0 m c t.val t.isLt).2.1 := by dsimp only [dats]
theorem after0_15 (c : Dev nD) (t : Fin cfg0.N) : (dats m 0 c).after 15 t = (outsAt0 m c t.val t.isLt).2.2.1 := by dsimp only [dats]
theorem after0_16 (c : Dev nD) (t : Fin cfg0.N) : (dats m 0 c).after 16 t = (outsAt0 m c t.val t.isLt).2.2.2.1 := by dsimp only [dats]
theorem after0_17 (c : Dev nD) (t : Fin cfg0.N) : (dats m 0 c).after 17 t = (outsAt0 m c t.val t.isLt).2.2.2.2.1 := by dsimp only [dats]
theorem after0_18 (c : Dev nD) (t : Fin cfg0.N) : (dats m 0 c).after 18 t = (outsAt0 m c t.val t.isLt).2.2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t))

set_option maxHeartbeats 16000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18]
  rw [show (dats m 0 c).Φ t.succ = PhiS m c (t.val + 1) t.isLt from rfl, PhiS_succ]
  have hN : t.val < 128 := lt_of_lt_of_eq t.isLt (show cfg0.N = 128 from N_0)
  by_cases h0 : t.val % 128 = 0
  · by_cases hz : t.val = 0
    · rw [PhiS_castSucc m c t, PhiS_zero m c _ _ hz, PhiA0_eq]
      rw [outsAt0_A m c t h0]
      unfold out0_A_13 out0_A_14 out0_A_15 out0_A_16 out0_A_17 out0_A_18 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((kernelRun0_A c (grid0.coords t) _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [HS0]; · iexact HS0
      iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · unfold owns; iexists _; isplitr
        swap; · iexact H13
        ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _ _)
      isplitl [H14]
      · unfold owns; iexists _; isplitr
        swap; · iexact H14
        ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _)
      isplitl [H16]
      · unfold owns; iexists _; isplitr
        swap; · iexact H16
        ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _)
      isplitl [H17]
      · unfold owns; iexists _; isplitr
        swap; · iexact H17
        ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H18
      ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _)
    · exfalso; have hN : t.val < 128 := lt_of_lt_of_eq t.isLt (show cfg0.N = 128 from N_0); omega
  · by_cases hz : t.val = 0
    · exfalso; have hN : t.val < 128 := lt_of_lt_of_eq t.isLt (show cfg0.N = 128 from N_0); omega
    · rw [PhiS_castSucc m c t, PhiS_pos m c _ _ hz]
      rw [outsAt0_B m c t h0]
      unfold out0_B_13 out0_B_14 out0_B_15 out0_B_16 out0_B_17 out0_B_18 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((kernelRun0_B c (grid0.coords t) _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [HS0]; · iexact HS0
      iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · unfold owns; iexists _; isplitr
        swap; · iexact H13
        ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _ _ _ _)
      isplitl [H14]
      · unfold owns; iexists _; isplitr
        swap; · iexact H14
        ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _ _)
      isplitl [H16]
      · unfold owns; iexists _; isplitr
        swap; · iexact H16
        ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _)
      isplitl [H17]
      · unfold owns; iexists _; isplitr
        swap; · iexact H17
        ipureintro; exact View.read_writes_of_cover _ _ _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H18
      ipureintro; exact View.read_writes_of_cover _ _ _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 128 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.PostIdeal.Hand

end
-- ==== Proof.Post.Alg.lean ====
/- The mathematics of the layer's second half up to the router: the mixer's output projection, the attention over the
   memories and its output projection. No program is mentioned here. -/
module

public import proofs.«01_k».proof.Proof.Proj.Alg
public import proofs.«01_k».proof.Proof.Attn.Score

@[expose] public section

noncomputable section

namespace Cert.PostAlg

open Idealize.ShloMosaic Cert.ProjAlg Cert.DiffAlg

/-- Lane `l` of head `h`. -/
def lane (h : Fin 4) (l : Fin 256) : Fin 1024 := ⟨h.val * 256 + l.val, by omega⟩

/-- The word of a sixteenth. -/
theorem ofBits_sixteenth : Ideal.ofBits .f32 0x3D800000#32 = ((1 / 16 : ℝ) : EReal) := by
  simp [Ideal.ofBits, Ideal.ieee, -EReal.coe_mul]; norm_num

/-- The row after the mixer's output projection. -/
def hid (x : Fin 1024 → EReal) (a b : Fin 512 → EReal) (wa wb : Fin 512 → Fin 1024 → EReal) (j : Fin 1024) : EReal :=
  x j + ∑ k, a k * wa k j + ∑ k, b k * wb k j

/-- The row's queries. -/
def qry (x g : Fin 1024 → EReal) (w : Fin 1024 → Fin 1024 → EReal) (n : Fin 1024) : EReal := proj x g fun d => w d n

/-- A head's scaled scores against the memories. -/
def sco (q : Fin 1024 → EReal) (km : Fin 256 → Fin 1024 → EReal) (h : Fin 4) (k : Fin 256) : EReal :=
  (∑ d : Fin 256, q (lane h d) * km k (lane h d)) * Ideal.ofBits .f32 0x3D800000#32

/-- The average of the values `v` under the softmax of the scores `s`. -/
def avg (s v : Fin 256 → EReal) : EReal := ∑ k, Ideal.div (P s k) (L s) * v k

/-- A head's average of the values. -/
def att (q : Fin 1024 → EReal) (km vm : Fin 256 → Fin 1024 → EReal) (h : Fin 4) (l : Fin 256) : EReal :=
  avg (sco q km h) fun k => vm k (lane h l)

/-- The heads side by side. -/
def cat (f : Fin 4 → Fin 256 → EReal) (n : Fin 1024) : EReal := f ⟨n.val / 256, by omega⟩ ⟨n.val % 256, by omega⟩

/-- The row after the attention over the memories. -/
def res (x g : Fin 1024 → EReal) (wq wo : Fin 1024 → Fin 1024 → EReal) (km vm : Fin 256 → Fin 1024 → EReal) (j : Fin 1024) : EReal :=
  x j + ∑ n, cat (att (qry x g wq) km vm) n * wo n j

/-- The scores, from queries scaled beforehand. -/
theorem sco_eq (q : Fin 1024 → EReal) (km : Fin 256 → Fin 1024 → EReal) (h : Fin 4) (k : Fin 256) :
    ∑ d : Fin 256, q (lane h d) * Ideal.ofBits .f32 0x3D800000#32 * km k (lane h d) = sco q km h k := by
  rw [sco, ofBits_sixteenth, sum_mul_real _ _ _ (by norm_num)]
  exact Finset.sum_congr rfl fun d _ => mul_right_comm _ _ _

theorem sum_halves512 (f : Fin 1024 → EReal) :
    ∑ l, f l = ∑ d : Fin 512, f ⟨d.val, by omega⟩ + ∑ d : Fin 512, f ⟨512 + d.val, by omega⟩ := by
  rw [show (∑ l, f l) = ∑ l : Fin (512 + 512), f l from rfl, Fin.sum_univ_add]
  rfl

end Cert.PostAlg

end
-- ==== Proof.Post.Vecs.lean ====
/- What the steps of the second half's kernel compute at each place of a tile of 512 rows. -/
module

public import proofs.«01_k».proof.Proof.Gen.PostIdeal.Skeleton
public import proofs.«01_k».proof.Proof.Post.Alg
public import Idealize.ShloMosaic.Lib.Pipeline.ValueKit.Geometry

@[expose] public section

noncomputable section

namespace Cert.PostIdeal.Blk

open Cert.PostIdeal Cert.PostIdeal.Gen Idealize.ShloMosaic Idealize.SL.Sem Cert.ProjAlg Cert.DiffAlg Cert.PostAlg

/-- A head's scores. -/
def scoV (q : FVec Ideal S512x256 .bf16) (k : Vec Ideal S1x256x256 .bf16) : FVec Ideal S512x256 .f32 :=
  matmul dot_S512x256_S256x256_S512x256_1_1_0_0_n_n none q (shapeCast S256x256 k shapeCasts_S1x256x256_S256x256 : FVec Ideal S256x256 .bf16)
    (constant S512x256 .f32 0x00000000#32)

/-- The exponentials of the scores less their row's maximum. -/
def expV (s : FVec Ideal S512x256 .f32) : FVec Ideal S512x256 .f32 :=
  exp (subf s (broadcastTo S512x256
    (shapeCast S512x1 (multiReduction .maximumf [1] S512 s 0xFF800000#32 reduces_S512x256_S512 (.inl rfl) rfl) shapeCasts_S512_S512x1 : FVec Ideal S512x1 .f32)
    broadcasts_S512x1_S512x256))

/-- The softmax weights of the scores. -/
def wgtV (s : FVec Ideal S512x256 .f32) : FVec Ideal S512x256 .f32 :=
  divf (expV s) (broadcastTo S512x256
    (shapeCast S512x1 (multiReduction .add [1] S512 (expV s) 0x00000000#32 reduces_S512x256_S512 (.inl rfl) rfl) shapeCasts_S512_S512x1 : FVec Ideal S512x1 .f32)
    broadcasts_S512x1_S512x256)

/-- A head's average of the values under the softmax of the scores. -/
def avgV (s : FVec Ideal S512x256 .f32) (v : Vec Ideal S1x256x256 .bf16) : FVec Ideal S512x256 .f32 :=
  matmul dot_S512x256_S256x256_S512x256_1_0_0_1_n_n none (truncf .bf16 (wgtV s) bitsLt_bf16_f32)
    (shapeCast S256x256 v shapeCasts_S1x256x256_S256x256 : FVec Ideal S256x256 .bf16) (constant S512x256 .f32 0x00000000#32)

/-- The heads side by side. -/
def catV (a b c d : FVec Ideal S512x256 .f32) : FVec Ideal S512x1024 .f32 :=
  concatenate S512x1024 1 [⟨S512x256, a⟩, ⟨S512x256, b⟩, ⟨S512x256, c⟩, ⟨S512x256, d⟩] concatenates_S512x256_S512x256_S512x256_S512x256_S512x1024_d1

/-- The rows plus the heads through the output weights. -/
def outV (h a : FVec Ideal S512x1024 .f32) (w : Vec Ideal S1024x1024 .bf16) : FVec Ideal S512x1024 .f32 :=
  addf h (matmul (φ₂ := .bf16) dot_S512x1024_S1024x1024_S512x1024_1_0_0_1_n_n none (truncf .bf16 a bitsLt_bf16_f32) w (constant S512x1024 .f32 0x00000000#32))

theorem pay6_eq (q : FVec Ideal S512x256 .bf16) (k v : Vec Ideal S1x256x256 .bf16) : k0_pay6 (F := Ideal) q k v = avgV (scoV q k) v := rfl

theorem pay7_eq (q : FVec Ideal S512x1024 .bf16) (k v : Vec Ideal S1x256x256 .bf16) :
    k0_pay7 (F := Ideal) q k v = avgV (scoV (extractStridedSlice S512x256 ![0, 256] q slices_S512x1024_o0_256_S512x256) k) v := rfl

theorem pay8_eq (q : FVec Ideal S512x1024 .bf16) (k : Vec Ideal S1x256x256 .bf16) :
    k0_pay8 (F := Ideal) q k = scoV (extractStridedSlice S512x256 ![0, 512] q slices_S512x1024_o0_512_S512x256) k := rfl

theorem pay9_eq (h : FVec Ideal S512x1024 .f32) (q : FVec Ideal S512x1024 .bf16) (a b s : FVec Ideal S512x256 .f32) (v k v' : Vec Ideal S1x256x256 .bf16)
    (w : Vec Ideal S1024x1024 .bf16) : k0_pay9 (F := Ideal) h q a b s v k v' w
      = outV h (catV a b (avgV s v) (avgV (scoV (extractStridedSlice S512x256 ![0, 768] q slices_S512x1024_o0_768_S512x256) k) v')) w := rfl

theorem scoV_apply (q : FVec Ideal S512x256 .bf16) (k : Vec Ideal S1x256x256 .bf16) (r : Fin 512) (t : Fin 256) :
    scoV q k (ix2 r t) = ∑ d : Fin 256, q (ix2 r d) * k (ix3 0 t d) := by
  pointwise [scoV]

theorem expV_apply (s : FVec Ideal S512x256 .f32) (r : Fin 512) (t : Fin 256) : expV s (ix2 r t) = P (fun k => s (ix2 r k)) t := by
  pointwise [expV]
  rw [ofBits_bot, fold_max_bot]
  rfl

theorem wgtV_apply (s : FVec Ideal S512x256 .f32) (r : Fin 512) (t : Fin 256) :
    wgtV s (ix2 r t) = Ideal.div (P (fun k => s (ix2 r k)) t) (L fun k => s (ix2 r k)) := by
  pointwise [wgtV]
  simp only [expV_apply]
  rfl

theorem avgV_apply (s : FVec Ideal S512x256 .f32) (v : Vec Ideal S1x256x256 .bf16) (r : Fin 512) (l : Fin 256) :
    avgV s v (ix2 r l) = avg (fun k => s (ix2 r k)) fun k => v (ix3 0 k l) := by
  pointwise [avgV]
  simp only [wgtV_apply]
  rfl

theorem outV_apply (h a : FVec Ideal S512x1024 .f32) (w : Vec Ideal S1024x1024 .bf16) (r : Fin 512) (j : Fin 1024) :
    outV h a w (ix2 r j) = h (ix2 r j) + ∑ n, a (ix2 r n) * w (ix2 n j) := by
  pointwise [outV]

theorem catV_apply (a b c d : FVec Ideal S512x256 .f32) (r : Fin 512) (n : Fin 1024) (f : Fin 4 → Fin 256 → EReal)
    (h0 : ∀ l, a (ix2 r l) = f 0 l) (h1 : ∀ l, b (ix2 r l) = f 1 l) (h2 : ∀ l, c (ix2 r l) = f 2 l) (h3 : ∀ l, d (ix2 r l) = f 3 l) :
    catV a b c d (ix2 r n) = cat f n := by
  have hn := n.isLt
  have h8 : n.val / 256 = 0 ∨ n.val / 256 = 1 ∨ n.val / 256 = 2 ∨ n.val / 256 = 3 := by omega
  unfold catV cat
  rcases h8 with h | h | h | h
  · refine (concatenate_apply_piece (t := S512x1024) 1 [⟨S512x256, a⟩, ⟨S512x256, b⟩, ⟨S512x256, c⟩, ⟨S512x256, d⟩] _ (ix2 r n) 0 (show 0 < 4 by decide) S512x256 a rfl rfl 0 rfl
        (ix2 r ⟨n.val % 256, by omega⟩) (fun a ha => ?_) (show 0 + n.val % 256 = n.val by omega)).trans ((h0 _).trans ?_)
    · match a with
      | ⟨0, _⟩ => rfl
      | ⟨1, _⟩ => exact absurd rfl ha
    · exact congrArg (fun t => f t _) (Fin.ext h.symm)
  · refine (concatenate_apply_piece (t := S512x1024) 1 [⟨S512x256, a⟩, ⟨S512x256, b⟩, ⟨S512x256, c⟩, ⟨S512x256, d⟩] _ (ix2 r n) 1 (show 1 < 4 by decide) S512x256 b rfl rfl 256 rfl
        (ix2 r ⟨n.val % 256, by omega⟩) (fun a ha => ?_) (show 256 + n.val % 256 = n.val by omega)).trans ((h1 _).trans ?_)
    · match a with
      | ⟨0, _⟩ => rfl
      | ⟨1, _⟩ => exact absurd rfl ha
    · exact congrArg (fun t => f t _) (Fin.ext h.symm)
  · refine (concatenate_apply_piece (t := S512x1024) 1 [⟨S512x256, a⟩, ⟨S512x256, b⟩, ⟨S512x256, c⟩, ⟨S512x256, d⟩] _ (ix2 r n) 2 (show 2 < 4 by decide) S512x256 c rfl rfl 512 rfl
        (ix2 r ⟨n.val % 256, by omega⟩) (fun a ha => ?_) (show 512 + n.val % 256 = n.val by omega)).trans ((h2 _).trans ?_)
    · match a with
      | ⟨0, _⟩ => rfl
      | ⟨1, _⟩ => exact absurd rfl ha
    · exact congrArg (fun t => f t _) (Fin.ext h.symm)
  · refine (concatenate_apply_piece (t := S512x1024) 1 [⟨S512x256, a⟩, ⟨S512x256, b⟩, ⟨S512x256, c⟩, ⟨S512x256, d⟩] _ (ix2 r n) 3 (show 3 < 4 by decide) S512x256 d rfl rfl 768 rfl
        (ix2 r ⟨n.val % 256, by omega⟩) (fun a ha => ?_) (show 768 + n.val % 256 = n.val by omega)).trans ((h3 _).trans ?_)
    · match a with
      | ⟨0, _⟩ => rfl
      | ⟨1, _⟩ => exact absurd rfl ha
    · exact congrArg (fun t => f t _) (Fin.ext h.symm)

theorem hid_apply (x : Vec Ideal S1x512x1024 .f32) (a : Vec Ideal S1x512x512 .bf16) (wa : Vec Ideal S512x1024 .bf16) (b : Vec Ideal S1x512x512 .bf16)
    (wb : Vec Ideal S512x1024 .bf16) (r : Fin 512) (j : Fin 1024) : k0_pay3 (F := Ideal) x a wa b wb (ix2 r j)
      = hid (fun j => x (ix3 0 r j)) (fun k => a (ix3 0 r k)) (fun k => b (ix3 0 r k)) (fun k j => wa (ix2 k j)) (fun k j => wb (ix2 k j)) j := by
  pointwise [k0_pay3]
  rfl

theorem qry_apply (x : Vec Ideal S1x512x1024 .f32) (a : Vec Ideal S1x512x512 .bf16) (wa : Vec Ideal S512x1024 .bf16) (b : Vec Ideal S1x512x512 .bf16)
    (wb : Vec Ideal S512x1024 .bf16) (g : Vec Ideal S1x1024 .f32) (w : Vec Ideal S1024x1024 .bf16) (r : Fin 512) (n : Fin 1024) :
    k0_pay4 (F := Ideal) x a wa b wb g w (ix2 r n)
      = qry (hid (fun j => x (ix3 0 r j)) (fun k => a (ix3 0 r k)) (fun k => b (ix3 0 r k)) (fun k j => wa (ix2 k j)) (fun k j => wb (ix2 k j)))
          (fun j => g (ix2 0 j)) (fun d n => w (ix2 d n)) n * Ideal.ofBits .f32 0x3D800000#32 := by
  pointwise [k0_pay4]
  simp only [hid_apply]
  rfl

theorem nrm_apply (h : FVec Ideal S512x1024 .f32) (g : Vec Ideal S1x1024 .f32) (r : Fin 512) (j : Fin 1024) :
    k0_pay11 (F := Ideal) h g (ix2 r j) = nrm (fun j => h (ix2 r j)) (fun j => g (ix2 0 j)) j := by
  pointwise [k0_pay11]
  rfl

/-- A head, from the queries at its columns. -/
theorem head_apply (q : FVec Ideal S512x1024 .bf16) (o : ℕ) (ho : o + 256 ≤ 1024) (sl : S512x1024.Slices ![0, o] S512x256)
    (k v : Vec Ideal S1x256x256 .bf16) (r : Fin 512) (l : Fin 256) :
    avgV (scoV (extractStridedSlice S512x256 ![0, o] q sl) k) v (ix2 r l)
      = avg (fun t => ∑ d : Fin 256, q (ix2 r ⟨o + d.val, by omega⟩) * k (ix3 0 t d)) fun t => v (ix3 0 t l) := by
  have e : ∀ d : Fin 256, extractStridedSlice S512x256 ![0, o] q sl (ix2 r d) = q (ix2 r ⟨o + d.val, by omega⟩) := fun d => by
    refine extractStridedSlice_apply _ q sl (ix2 r d) _ fun a => ?_
    match a with
    | ⟨0, _⟩ => show r.val = 0 + r.val; omega
    | ⟨1, _⟩ => show o + d.val = o + d.val; rfl
  rw [avgV_apply]
  simp only [scoV_apply, e]

end Cert.PostIdeal.Blk

end
-- ==== Proof.Post.Block.lean ====
/- What each grid point of the second half's kernel stores: rows of the hidden state after the attention over the
   memories, and those rows normalised and laid out 128 columns at a time. -/
module

public import proofs.«01_k».proof.Proof.Post.Frame
public import proofs.«01_k».proof.Proof.Post.Vecs
public import Idealize.ShloMosaic.Lib.Pipeline.ValueKit.Geometry

@[expose] public section

set_option maxRecDepth 16384

noncomputable section

namespace Cert.PostIdeal.Blk

open Cert.PostIdeal Cert.PostIdeal.Gen Cert.PostIdeal.Hand Idealize.ShloMosaic Idealize.ShloMosaic.TcCoe Idealize.SL.Sem Cert.ProjAlg Cert.DiffAlg Cert.PostAlg

abbrev rX : Rect S1x512x1024 := Rect.unit (s := S1x512x1024) ![0, 0, 0] S1x512x1024.size inb_S1x512x1024_S1x512x1024_0_0_0
abbrev rO : Rect S1x512x512 := Rect.unit (s := S1x512x512) ![0, 0, 0] S1x512x512.size inb_S1x512x512_S1x512x512_0_0_0
abbrev rW : Rect S512x1024 := Rect.unit (s := S512x1024) ![0, 0] S512x1024.size inb_S512x1024_S512x1024_0_0
abbrev rG : Rect S1x1024 := Rect.unit (s := S1x1024) ![0, 0] S1x1024.size inb_S1x1024_S1x1024_0_0
abbrev rQ : Rect S1024x1024 := Rect.unit (s := S1024x1024) ![0, 0] S1024x1024.size inb_S1024x1024_S1024x1024_0_0
abbrev rK0 : Rect S1x256x1024 := Rect.unit (s := S1x256x1024) ![0, 0, 0] S1x256x256.size inb_S1x256x1024_S1x256x256_0_0_0
abbrev rK1 : Rect S1x256x1024 := Rect.unit (s := S1x256x1024) ![0, 0, 256] S1x256x256.size inb_S1x256x1024_S1x256x256_0_0_256
abbrev rK2 : Rect S1x256x1024 := Rect.unit (s := S1x256x1024) ![0, 0, 512] S1x256x256.size inb_S1x256x1024_S1x256x256_0_0_512
abbrev rK3 : Rect S1x256x1024 := Rect.unit (s := S1x256x1024) ![0, 0, 768] S1x256x256.size inb_S1x256x1024_S1x256x256_0_0_768

theorem h02 : ∀ a : Fin 2, (![0, 0] : Fin 2 → ℕ) a = 0 := by decide
theorem h03 : ∀ a : Fin 3, (![0, 0, 0] : Fin 3 → ℕ) a = 0 := by decide
theorem ldX (x : Vec Ideal S1x512x1024 .f32) : View.ld x rX = x := View.ld_unit_zero (funext h03) _ x
theorem ldO (x : Vec Ideal S1x512x512 .bf16) : View.ld x rO = x := View.ld_unit_zero (funext h03) _ x
theorem ldW (x : Vec Ideal S512x1024 .bf16) : View.ld x rW = x := View.ld_unit_zero (funext h02) _ x
theorem ldG (x : Vec Ideal S1x1024 .f32) : View.ld x rG = x := View.ld_unit_zero (funext h02) _ x
theorem ldQ (x : Vec Ideal S1024x1024 .bf16) : View.ld x rQ = x := View.ld_unit_zero (funext h02) _ x

/-- The columns of head `h` of the memories. -/
theorem ldK (h : Fin 4) (o : ℕ) (ho : o = h.val * 256) (inb : ∀ a : Fin 3, (![0, 0, o] : Fin 3 → ℕ) a + S1x256x256.size a ≤ S1x256x1024.size a)
    (x : Vec Ideal S1x256x1024 .bf16) (t d : Fin 256) :
    View.ld x (Rect.unit (s := S1x256x1024) ![0, 0, o] S1x256x256.size inb) (ix3 0 t d) = x (ix3 0 t (lane h d)) := by
  subst ho
  refine congrArg x (funext fun a => Fin.ext ?_)
  match a with
  | ⟨0, _⟩ => rfl
  | ⟨1, _⟩ => show 0 + 1 * t.val = t.val; omega
  | ⟨2, _⟩ => show h.val * 256 + 1 * d.val = h.val * 256 + d.val; omega

section

variable (x0 x1 : Vec Ideal S1x512x512 .bf16) (x2 : Vec Ideal S1x512x1024 .f32) (x3 x4 : Vec Ideal S1x256x1024 .bf16) (x5 x6 : Vec Ideal S512x1024 .bf16)
  (x7 : Vec Ideal S1x1024 .f32) (x8 x9 : Vec Ideal S1024x1024 .bf16) (x10 : Vec Ideal S1x1024 .f32)

/-- The rows after the mixer's output projection, as the kernel computes them. -/
abbrev hB : FVec Ideal S512x1024 .f32 := k0_pay3 (F := Ideal) (View.ld x2 rX) (View.ld x0 rO) (View.ld x5 rW) (View.ld x1 rO) (View.ld x6 rW)
/-- The rows' scaled queries. -/
abbrev qB : FVec Ideal S512x1024 .bf16 := k0_pay4 (F := Ideal) (View.ld x2 rX) (View.ld x0 rO) (View.ld x5 rW) (View.ld x1 rO) (View.ld x6 rW) (View.ld x7 rG) (View.ld x8 rQ)
/-- The first head's scaled queries. -/
abbrev q0B : FVec Ideal S512x256 .bf16 := k0_pay5 (F := Ideal) (View.ld x2 rX) (View.ld x0 rO) (View.ld x5 rW) (View.ld x1 rO) (View.ld x6 rW) (View.ld x7 rG) (View.ld x8 rQ)
/-- The rows after the attention over the memories. -/
def H2 : FVec Ideal S512x1024 .f32 := k0_pay9 (F := Ideal) (hB x0 x1 x2 x5 x6) (qB x0 x1 x2 x5 x6 x7 x8)
  (k0_pay6 (F := Ideal) (q0B x0 x1 x2 x5 x6 x7 x8) (View.ld x3 rK0) (View.ld x4 rK0))
  (k0_pay7 (F := Ideal) (qB x0 x1 x2 x5 x6 x7 x8) (View.ld x3 rK1) (View.ld x4 rK1))
  (k0_pay8 (F := Ideal) (qB x0 x1 x2 x5 x6 x7 x8) (View.ld x3 rK2)) (View.ld x4 rK2) (View.ld x3 rK3) (View.ld x4 rK3) (View.ld x9 rQ)
/-- Those rows normalised. -/
def N2 : FVec Ideal S512x1024 .f32 := k0_pay11 (F := Ideal) (H2 x0 x1 x2 x3 x4 x5 x6 x7 x8 x9) (View.ld x10 rG)

/-- A row after the mixer's output projection. -/
abbrev hR (r : Fin 512) : Fin 1024 → EReal :=
  hid (fun j => x2 (ix3 0 r j)) (fun k => x0 (ix3 0 r k)) (fun k => x1 (ix3 0 r k)) (fun k j => x5 (ix2 k j)) (fun k j => x6 (ix2 k j))

/-- A head of the kernel at a row and a lane. -/
theorem head_att (o : ℕ) (h : Fin 4) (ho : o = h.val * 256) (sl : S512x1024.Slices ![0, o] S512x256) (k v : Vec Ideal S1x256x256 .bf16)
    (hk : ∀ t d : Fin 256, k (ix3 0 t d) = x3 (ix3 0 t (lane h d))) (hv : ∀ t d : Fin 256, v (ix3 0 t d) = x4 (ix3 0 t (lane h d)))
    (r : Fin 512) (l : Fin 256) : avgV (scoV (extractStridedSlice S512x256 ![0, o] (qB x0 x1 x2 x5 x6 x7 x8) sl) k) v (ix2 r l)
      = att (qry (hR x0 x1 x2 x5 x6 r) (fun j => x7 (ix2 0 j)) (fun d n => x8 (ix2 d n))) (fun t j => x3 (ix3 0 t j)) (fun t j => x4 (ix3 0 t j)) h l := by
  subst ho
  rw [head_apply _ _ (by omega)]
  unfold att
  refine congrArg₂ avg (funext fun t => ?_) (funext fun t => hv t l)
  rw [← sco_eq]
  refine Finset.sum_congr rfl fun d _ => congrArg₂ (fun a b : EReal => a * b) ?_ (hk t d)
  rw [qB, ldX, ldO, ldO, ldW, ldW, ldG, ldQ]
  exact qry_apply x2 x0 x5 x1 x6 x7 x8 r (lane h d)

theorem H2_apply (r : Fin 512) (j : Fin 1024) : H2 x0 x1 x2 x3 x4 x5 x6 x7 x8 x9 (ix2 r j)
    = res (hR x0 x1 x2 x5 x6 r) (fun j => x7 (ix2 0 j)) (fun d n => x8 (ix2 d n)) (fun d n => x9 (ix2 d n))
        (fun t j => x3 (ix3 0 t j)) (fun t j => x4 (ix3 0 t j)) j := by
  unfold H2
  rw [pay9_eq, pay6_eq, pay7_eq, pay8_eq, outV_apply]
  unfold res
  refine congrArg₂ (fun a b : EReal => a + b) ?_ (Finset.sum_congr rfl fun n _ => congrArg₂ (fun a b : EReal => a * b) (catV_apply _ _ _ _ r n _ ?_ ?_ ?_ ?_) (by rw [ldQ]))
  · rw [hB, ldX, ldO, ldO, ldW, ldW]
    exact hid_apply x2 x0 x5 x1 x6 r j
  · exact fun l => head_att x0 x1 x2 x3 x4 x5 x6 x7 x8 0 0 (by decide) slices_S512x1024_o0_0_S512x256 (View.ld x3 rK0) (View.ld x4 rK0)
      (ldK 0 0 (by decide) _ x3) (ldK 0 0 (by decide) _ x4) r l
  · exact fun l => head_att x0 x1 x2 x3 x4 x5 x6 x7 x8 256 1 (by decide) slices_S512x1024_o0_256_S512x256 (View.ld x3 rK1) (View.ld x4 rK1)
      (ldK 1 256 (by decide) _ x3) (ldK 1 256 (by decide) _ x4) r l
  · exact fun l => head_att x0 x1 x2 x3 x4 x5 x6 x7 x8 512 2 (by decide) slices_S512x1024_o0_512_S512x256 (View.ld x3 rK2) (View.ld x4 rK2)
      (ldK 2 512 (by decide) _ x3) (ldK 2 512 (by decide) _ x4) r l
  · exact fun l => head_att x0 x1 x2 x3 x4 x5 x6 x7 x8 768 3 (by decide) slices_S512x1024_o0_768_S512x256 (View.ld x3 rK3) (View.ld x4 rK3)
      (ldK 3 768 (by decide) _ x3) (ldK 3 768 (by decide) _ x4) r l

theorem N2_apply (r : Fin 512) (j : Fin 1024) : N2 x0 x1 x2 x3 x4 x5 x6 x7 x8 x9 x10 (ix2 r j)
    = nrm (res (hR x0 x1 x2 x5 x6 r) (fun j => x7 (ix2 0 j)) (fun d n => x8 (ix2 d n)) (fun d n => x9 (ix2 d n))
        (fun t j => x3 (ix3 0 t j)) (fun t j => x4 (ix3 0 t j))) (fun j => x10 (ix2 0 j)) j := by
  unfold N2
  rw [nrm_apply, ldG]
  exact congrArg (fun f => nrm f _ j) (funext fun j => H2_apply x0 x1 x2 x3 x4 x5 x6 x7 x8 x9 r j)

end

/-- Rows laid out: row `8 r + k` holds columns `128 k` on of row `r`. -/
def lay (R : FVec Ideal S512x1024 .f32) : Vec Ideal S1x4096x128 .f32 := fun y =>
  R (ix2 ⟨(y 1).val / 8, by have h : (y 1).val < 4096 := (y 1).isLt; omega⟩
    ⟨128 * ((y 1).val % 8) + (y 2).val, by have h : (y 2).val < 128 := (y 2).isLt; omega⟩)

/-- Column tile `k` of the rows, stored at its rows of the layout. -/
abbrev put (R : FVec Ideal S512x1024 .f32) (k : ℕ) (hs : S512x1024.Slices ![0, 128 * k] S512x128)
    (inb : ∀ a : Fin 2, S512x128.size a = 0 ∨ (![k, 0] : Fin 2 → ℕ) a + (![8, 1] : Fin 2 → ℕ) a * (S512x128.size a - 1) < S4096x128.size a)
    (hR : ((rU k inb).consLift S1x4096x128.size (by decide) (by decide)).shape.numel = (rU k inb).shape.numel) : View.Piece (Elt Ideal) S1x4096x128 .f32 :=
  ⟨rT k inb, Rect.payAlong hR (extractStridedSlice S512x128 ![0, 128 * k] R hs : (rU k inb).shape.Idx → EReal)⟩

/-- A stored column tile is the laid-out rows at its place. -/
theorem piece (R : FVec Ideal S512x1024 .f32) (k : ℕ) (hk : k < 8) (hs : S512x1024.Slices ![0, 128 * k] S512x128)
    (inb : ∀ a : Fin 2, S512x128.size a = 0 ∨ (![k, 0] : Fin 2 → ℕ) a + (![8, 1] : Fin 2 → ℕ) a * (S512x128.size a - 1) < S4096x128.size a)
    (hR : ((rU k inb).consLift S1x4096x128.size (by decide) (by decide)).shape.numel = (rU k inb).shape.numel) (x : (rT k inb).shape.Idx) :
    (put R k hs inb hR).2 x = lay R ((rT k inb).emb x) := by
  have h1 : (x 1).val < 512 := (x 1).isLt
  have h2 : (x 2).val < 128 := (x 2).isLt
  refine (Rect.payAlong_consLift (rU k inb) S1x4096x128.size (by decide) (by decide) (V := EReal) (extractStridedSlice S512x128 ![0, 128 * k] R hs) hR x (ix2 ⟨(x 1).val, h1⟩ ⟨(x 2).val, h2⟩) fun a => ?_).trans ?_
  · match a with
    | ⟨0, _⟩ => rfl
    | ⟨1, _⟩ => rfl
  · unfold lay
    refine extractStridedSlice_apply _ R hs (ix2 ⟨(x 1).val, h1⟩ ⟨(x 2).val, h2⟩) _ fun a => ?_
    match a with
    | ⟨0, _⟩ => show (0 + k + 8 * (x 1).val) / 8 = 0 + (x 1).val; omega
    | ⟨1, _⟩ => show 128 * ((0 + k + 8 * (x 1).val) % 8) + (0 + 0 + 1 * (x 2).val) = 128 * k + (x 2).val; omega

/-- The eight column tiles. -/
abbrev puts (R : FVec Ideal S512x1024 .f32) : List (View.Piece (Elt Ideal) S1x4096x128 .f32) :=
  [put R 7 slices_S512x1024_o0_896_S512x128 inb_S4096x128_S512x128_7_0_s_8_1 (by decide),
   put R 6 slices_S512x1024_o0_768_S512x128 inb_S4096x128_S512x128_6_0_s_8_1 (by decide),
   put R 5 slices_S512x1024_o0_640_S512x128 inb_S4096x128_S512x128_5_0_s_8_1 (by decide),
   put R 4 slices_S512x1024_o0_512_S512x128 inb_S4096x128_S512x128_4_0_s_8_1 (by decide),
   put R 3 slices_S512x1024_o0_384_S512x128 inb_S4096x128_S512x128_3_0_s_8_1 (by decide),
   put R 2 slices_S512x1024_o0_256_S512x128 inb_S4096x128_S512x128_2_0_s_8_1 (by decide),
   put R 1 slices_S512x1024_o0_128_S512x128 inb_S4096x128_S512x128_1_0_s_8_1 (by decide),
   put R 0 slices_S512x1024_o0_0_S512x128 inb_S4096x128_S512x128_0_0_s_8_1 (by decide)]

theorem canon_puts (R : FVec Ideal S512x1024 .f32) (y : S1x4096x128.Idx) : View.canon (puts R) y = lay R y := by
  refine View.canon_apply_of_pieces (lay R) _ (fun pc hp => ?_) y (tiled _ _ _ _ _ _ _ _ y)
  simp only [List.mem_cons, List.not_mem_nil, or_false] at hp
  rcases hp with rfl | rfl | rfl | rfl | rfl | rfl | rfl | rfl
  · exact fun x => piece R 7 (by decide) slices_S512x1024_o0_896_S512x128 _ _ x
  · exact fun x => piece R 6 (by decide) slices_S512x1024_o0_768_S512x128 _ _ x
  · exact fun x => piece R 5 (by decide) slices_S512x1024_o0_640_S512x128 _ _ x
  · exact fun x => piece R 4 (by decide) slices_S512x1024_o0_512_S512x128 _ _ x
  · exact fun x => piece R 3 (by decide) slices_S512x1024_o0_384_S512x128 _ _ x
  · exact fun x => piece R 2 (by decide) slices_S512x1024_o0_256_S512x128 _ _ x
  · exact fun x => piece R 1 (by decide) slices_S512x1024_o0_128_S512x128 _ _ x
  · exact fun x => piece R 0 (by decide) slices_S512x1024_o0_0_S512x128 _ _ x

end Cert.PostIdeal.Blk

end
-- ==== Proof.Post.Stores.lean ====
/- The blocks each grid point leaves of the first two results, whichever of the two ways it runs. -/
module

public import proofs.«01_k».proof.Proof.Post.Block

@[expose] public section

set_option maxRecDepth 16384

noncomputable section

namespace Cert.PostIdeal.Blk

open Cert.PostIdeal Cert.PostIdeal.Gen Cert.PostIdeal.Hand Idealize.ShloMosaic Idealize.ShloMosaic.TcCoe Idealize.SL.Sem

theorem piecesA_13 (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x1024 .f32) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S1x512x1024 .f32) (harg15 : arg15.IsWhole) (arg16 : Memref sig .tc .vmem S1x4096x128 .f32) (harg16 : arg16.IsWhole) (arg17 : Memref sig .tc .vmem S1x512x128 .i32) (harg17 : arg17.IsWhole) (arg18 : Memref sig .tc .vmem S1x512x128 .f32) (harg18 : arg18.IsWhole) (arg19 : Memref sig .tc .vmem S1x128 .f32) (harg19 : arg19.IsWhole) (arg20 : Memref sig .tc .vmem S1x8x128 .f32) (harg20 : arg20.IsWhole) (arg21 : Memref sig .tc .vmem S1x128 .f32) (harg21 : arg21.IsWhole) (hc0 : cond0_0 i)
    (x0 : Vec Ideal S1x512x512 .bf16) (x1 : Vec Ideal S1x512x512 .bf16) (x2 : Vec Ideal S1x512x1024 .f32) (x3 : Vec Ideal S1x256x1024 .bf16) (x4 : Vec Ideal S1x256x1024 .bf16) (x5 : Vec Ideal S512x1024 .bf16) (x6 : Vec Ideal S512x1024 .bf16) (x7 : Vec Ideal S1x1024 .f32) (x8 : Vec Ideal S1024x1024 .bf16) (x9 : Vec Ideal S1024x1024 .bf16) (x10 : Vec Ideal S1x1024 .f32) (x11 : Vec Ideal S1024x256 .bf16) (x12 : Vec Ideal S1x128 .f32) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12).1 = [⟨rX, shapeCast S1x512x1024 (H2 x0 x1 x2 x3 x4 x5 x6 x7 x8 x9) shapeCasts_S512x1024_S1x512x1024⟩] := by
  unfold kernelRun0_A
  dsimp only
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, View.readAt_eq_ld, Memref.IsWhole.read_unread]
  rfl

theorem piecesA_14 (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x1024 .f32) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S1x512x1024 .f32) (harg15 : arg15.IsWhole) (arg16 : Memref sig .tc .vmem S1x4096x128 .f32) (harg16 : arg16.IsWhole) (arg17 : Memref sig .tc .vmem S1x512x128 .i32) (harg17 : arg17.IsWhole) (arg18 : Memref sig .tc .vmem S1x512x128 .f32) (harg18 : arg18.IsWhole) (arg19 : Memref sig .tc .vmem S1x128 .f32) (harg19 : arg19.IsWhole) (arg20 : Memref sig .tc .vmem S1x8x128 .f32) (harg20 : arg20.IsWhole) (arg21 : Memref sig .tc .vmem S1x128 .f32) (harg21 : arg21.IsWhole) (hc0 : cond0_0 i)
    (x0 : Vec Ideal S1x512x512 .bf16) (x1 : Vec Ideal S1x512x512 .bf16) (x2 : Vec Ideal S1x512x1024 .f32) (x3 : Vec Ideal S1x256x1024 .bf16) (x4 : Vec Ideal S1x256x1024 .bf16) (x5 : Vec Ideal S512x1024 .bf16) (x6 : Vec Ideal S512x1024 .bf16) (x7 : Vec Ideal S1x1024 .f32) (x8 : Vec Ideal S1024x1024 .bf16) (x9 : Vec Ideal S1024x1024 .bf16) (x10 : Vec Ideal S1x1024 .f32) (x11 : Vec Ideal S1024x256 .bf16) (x12 : Vec Ideal S1x128 .f32) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12).2.1 = puts (N2 x0 x1 x2 x3 x4 x5 x6 x7 x8 x9 x10) := by
  unfold kernelRun0_A
  dsimp only
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, View.readAt_eq_ld, Memref.IsWhole.read_unread]
  rfl

theorem outA_13 (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x1024 .f32) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S1x512x1024 .f32) (harg15 : arg15.IsWhole) (arg16 : Memref sig .tc .vmem S1x4096x128 .f32) (harg16 : arg16.IsWhole) (arg17 : Memref sig .tc .vmem S1x512x128 .i32) (harg17 : arg17.IsWhole) (arg18 : Memref sig .tc .vmem S1x512x128 .f32) (harg18 : arg18.IsWhole) (arg19 : Memref sig .tc .vmem S1x128 .f32) (harg19 : arg19.IsWhole) (arg20 : Memref sig .tc .vmem S1x8x128 .f32) (harg20 : arg20.IsWhole) (arg21 : Memref sig .tc .vmem S1x128 .f32) (harg21 : arg21.IsWhole) (hc0 : cond0_0 i)
    (x0 : Vec Ideal S1x512x512 .bf16) (x1 : Vec Ideal S1x512x512 .bf16) (x2 : Vec Ideal S1x512x1024 .f32) (x3 : Vec Ideal S1x256x1024 .bf16) (x4 : Vec Ideal S1x256x1024 .bf16) (x5 : Vec Ideal S512x1024 .bf16) (x6 : Vec Ideal S512x1024 .bf16) (x7 : Vec Ideal S1x1024 .f32) (x8 : Vec Ideal S1024x1024 .bf16) (x9 : Vec Ideal S1024x1024 .bf16) (x10 : Vec Ideal S1x1024 .f32) (x11 : Vec Ideal S1024x256 .bf16) (x12 : Vec Ideal S1x128 .f32) (r : Fin 512) (j : Fin 1024) :
    out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 (ix3 0 r j) = H2 x0 x1 x2 x3 x4 x5 x6 x7 x8 x9 (ix2 r j) := by
  unfold out0_A_13
  rw [View.read_writes_apply_eq_canon _ _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 _), piecesA_13, View.canon_unit_zero (funext h03)]
  pointwise []

theorem outA_14 (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x1024 .f32) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S1x512x1024 .f32) (harg15 : arg15.IsWhole) (arg16 : Memref sig .tc .vmem S1x4096x128 .f32) (harg16 : arg16.IsWhole) (arg17 : Memref sig .tc .vmem S1x512x128 .i32) (harg17 : arg17.IsWhole) (arg18 : Memref sig .tc .vmem S1x512x128 .f32) (harg18 : arg18.IsWhole) (arg19 : Memref sig .tc .vmem S1x128 .f32) (harg19 : arg19.IsWhole) (arg20 : Memref sig .tc .vmem S1x8x128 .f32) (harg20 : arg20.IsWhole) (arg21 : Memref sig .tc .vmem S1x128 .f32) (harg21 : arg21.IsWhole) (hc0 : cond0_0 i)
    (x0 : Vec Ideal S1x512x512 .bf16) (x1 : Vec Ideal S1x512x512 .bf16) (x2 : Vec Ideal S1x512x1024 .f32) (x3 : Vec Ideal S1x256x1024 .bf16) (x4 : Vec Ideal S1x256x1024 .bf16) (x5 : Vec Ideal S512x1024 .bf16) (x6 : Vec Ideal S512x1024 .bf16) (x7 : Vec Ideal S1x1024 .f32) (x8 : Vec Ideal S1024x1024 .bf16) (x9 : Vec Ideal S1024x1024 .bf16) (x10 : Vec Ideal S1x1024 .f32) (x11 : Vec Ideal S1024x256 .bf16) (x12 : Vec Ideal S1x128 .f32) (y : S1x4096x128.Idx) :
    out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 y = lay (N2 x0 x1 x2 x3 x4 x5 x6 x7 x8 x9 x10) y := by
  unfold out0_A_14
  rw [View.read_writes_apply_eq_canon _ _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 _), piecesA_14]
  exact canon_puts _ y

theorem piecesB_13 (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x1024 .f32) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S1x512x1024 .f32) (harg15 : arg15.IsWhole) (arg16 : Memref sig .tc .vmem S1x4096x128 .f32) (harg16 : arg16.IsWhole) (arg17 : Memref sig .tc .vmem S1x512x128 .i32) (harg17 : arg17.IsWhole) (arg18 : Memref sig .tc .vmem S1x512x128 .f32) (harg18 : arg18.IsWhole) (arg19 : Memref sig .tc .vmem S1x128 .f32) (harg19 : arg19.IsWhole) (arg20 : Memref sig .tc .vmem S1x8x128 .f32) (harg20 : arg20.IsWhole) (arg21 : Memref sig .tc .vmem S1x128 .f32) (harg21 : arg21.IsWhole) (hc0 : ¬cond0_0 i)
    (x0 : Vec Ideal S1x512x512 .bf16) (x1 : Vec Ideal S1x512x512 .bf16) (x2 : Vec Ideal S1x512x1024 .f32) (x3 : Vec Ideal S1x256x1024 .bf16) (x4 : Vec Ideal S1x256x1024 .bf16) (x5 : Vec Ideal S512x1024 .bf16) (x6 : Vec Ideal S512x1024 .bf16) (x7 : Vec Ideal S1x1024 .f32) (x8 : Vec Ideal S1024x1024 .bf16) (x9 : Vec Ideal S1024x1024 .bf16) (x10 : Vec Ideal S1x1024 .f32) (x11 : Vec Ideal S1024x256 .bf16) (x12 : Vec Ideal S1x128 .f32) (xs0 : Vec Ideal S1x128 .f32) :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 xs0).1 = [⟨rX, shapeCast S1x512x1024 (H2 x0 x1 x2 x3 x4 x5 x6 x7 x8 x9) shapeCasts_S512x1024_S1x512x1024⟩] := by
  unfold kernelRun0_B
  dsimp only
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, View.readAt_eq_ld, Memref.IsWhole.read_unread]
  rfl

theorem piecesB_14 (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x1024 .f32) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S1x512x1024 .f32) (harg15 : arg15.IsWhole) (arg16 : Memref sig .tc .vmem S1x4096x128 .f32) (harg16 : arg16.IsWhole) (arg17 : Memref sig .tc .vmem S1x512x128 .i32) (harg17 : arg17.IsWhole) (arg18 : Memref sig .tc .vmem S1x512x128 .f32) (harg18 : arg18.IsWhole) (arg19 : Memref sig .tc .vmem S1x128 .f32) (harg19 : arg19.IsWhole) (arg20 : Memref sig .tc .vmem S1x8x128 .f32) (harg20 : arg20.IsWhole) (arg21 : Memref sig .tc .vmem S1x128 .f32) (harg21 : arg21.IsWhole) (hc0 : ¬cond0_0 i)
    (x0 : Vec Ideal S1x512x512 .bf16) (x1 : Vec Ideal S1x512x512 .bf16) (x2 : Vec Ideal S1x512x1024 .f32) (x3 : Vec Ideal S1x256x1024 .bf16) (x4 : Vec Ideal S1x256x1024 .bf16) (x5 : Vec Ideal S512x1024 .bf16) (x6 : Vec Ideal S512x1024 .bf16) (x7 : Vec Ideal S1x1024 .f32) (x8 : Vec Ideal S1024x1024 .bf16) (x9 : Vec Ideal S1024x1024 .bf16) (x10 : Vec Ideal S1x1024 .f32) (x11 : Vec Ideal S1024x256 .bf16) (x12 : Vec Ideal S1x128 .f32) (xs0 : Vec Ideal S1x128 .f32) :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 xs0).2.1 = puts (N2 x0 x1 x2 x3 x4 x5 x6 x7 x8 x9 x10) := by
  unfold kernelRun0_B
  dsimp only
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, View.readAt_eq_ld, Memref.IsWhole.read_unread]
  rfl

theorem outB_13 (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x1024 .f32) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S1x512x1024 .f32) (harg15 : arg15.IsWhole) (arg16 : Memref sig .tc .vmem S1x4096x128 .f32) (harg16 : arg16.IsWhole) (arg17 : Memref sig .tc .vmem S1x512x128 .i32) (harg17 : arg17.IsWhole) (arg18 : Memref sig .tc .vmem S1x512x128 .f32) (harg18 : arg18.IsWhole) (arg19 : Memref sig .tc .vmem S1x128 .f32) (harg19 : arg19.IsWhole) (arg20 : Memref sig .tc .vmem S1x8x128 .f32) (harg20 : arg20.IsWhole) (arg21 : Memref sig .tc .vmem S1x128 .f32) (harg21 : arg21.IsWhole) (hc0 : ¬cond0_0 i)
    (x0 : Vec Ideal S1x512x512 .bf16) (x1 : Vec Ideal S1x512x512 .bf16) (x2 : Vec Ideal S1x512x1024 .f32) (x3 : Vec Ideal S1x256x1024 .bf16) (x4 : Vec Ideal S1x256x1024 .bf16) (x5 : Vec Ideal S512x1024 .bf16) (x6 : Vec Ideal S512x1024 .bf16) (x7 : Vec Ideal S1x1024 .f32) (x8 : Vec Ideal S1024x1024 .bf16) (x9 : Vec Ideal S1024x1024 .bf16) (x10 : Vec Ideal S1x1024 .f32) (x11 : Vec Ideal S1024x256 .bf16) (x12 : Vec Ideal S1x128 .f32) (xs0 : Vec Ideal S1x128 .f32) (r : Fin 512) (j : Fin 1024) :
    out0_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 xs0 (ix3 0 r j) = H2 x0 x1 x2 x3 x4 x5 x6 x7 x8 x9 (ix2 r j) := by
  unfold out0_B_13
  rw [View.read_writes_apply_eq_canon _ _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 xs0 _), piecesB_13, View.canon_unit_zero (funext h03)]
  pointwise []

theorem outB_14 (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x1024 .f32) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x256 .bf16) (harg13 : arg13.IsWhole) (arg14 : Memref sig .tc .vmem S1x128 .f32) (harg14 : arg14.IsWhole) (arg15 : Memref sig .tc .vmem S1x512x1024 .f32) (harg15 : arg15.IsWhole) (arg16 : Memref sig .tc .vmem S1x4096x128 .f32) (harg16 : arg16.IsWhole) (arg17 : Memref sig .tc .vmem S1x512x128 .i32) (harg17 : arg17.IsWhole) (arg18 : Memref sig .tc .vmem S1x512x128 .f32) (harg18 : arg18.IsWhole) (arg19 : Memref sig .tc .vmem S1x128 .f32) (harg19 : arg19.IsWhole) (arg20 : Memref sig .tc .vmem S1x8x128 .f32) (harg20 : arg20.IsWhole) (arg21 : Memref sig .tc .vmem S1x128 .f32) (harg21 : arg21.IsWhole) (hc0 : ¬cond0_0 i)
    (x0 : Vec Ideal S1x512x512 .bf16) (x1 : Vec Ideal S1x512x512 .bf16) (x2 : Vec Ideal S1x512x1024 .f32) (x3 : Vec Ideal S1x256x1024 .bf16) (x4 : Vec Ideal S1x256x1024 .bf16) (x5 : Vec Ideal S512x1024 .bf16) (x6 : Vec Ideal S512x1024 .bf16) (x7 : Vec Ideal S1x1024 .f32) (x8 : Vec Ideal S1024x1024 .bf16) (x9 : Vec Ideal S1024x1024 .bf16) (x10 : Vec Ideal S1x1024 .f32) (x11 : Vec Ideal S1024x256 .bf16) (x12 : Vec Ideal S1x128 .f32) (xs0 : Vec Ideal S1x128 .f32) (y : S1x4096x128.Idx) :
    out0_B_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 xs0 y = lay (N2 x0 x1 x2 x3 x4 x5 x6 x7 x8 x9 x10) y := by
  unfold out0_B_14
  rw [View.read_writes_apply_eq_canon _ _ _ _ (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 xs0 _), piecesB_14]
  exact canon_puts _ y

end Cert.PostIdeal.Blk

end
-- ==== Proof.Post.Ref.lean ====
/- What the plain second half of the layer computes at each place. -/
module

public import proofs.«01_k».proof.Proof.Gen.PostRefIdeal.Read
public import proofs.«01_k».proof.Proof.Post.Alg

@[expose] public section

noncomputable section

namespace Cert.PostRefIdeal.Rows

open Cert.PostRefIdeal Cert.PostRefIdeal.Gen Cert.PostRefIdeal.Read Idealize.ShloMosaic Idealize.SL.Sem Cert.ProjAlg Cert.DiffAlg Cert.PostAlg

variable (x0 x1 : Vec Ideal S32x2048x512 .bf16) (x2 : Vec Ideal S32x2048x1024 .f32) (x3 x4 : Vec Ideal S32x256x1024 .bf16)
  (x5 x6 : Vec Ideal S512x1024 .bf16) (x7 : Vec Ideal S1x1024 .f32) (x8 x9 : Vec Ideal S1024x1024 .bf16) (x10 : Vec Ideal S1x1024 .f32)
variable (b : Fin 32) (h : Fin 4) (r : Fin 2048) (k : Fin 256)

/-- A row of the hidden state after the mixer's output projection. -/
def hidR : Fin 1024 → EReal :=
  hid (fun j => x2 (ix3 b r j)) (fun k => x0 (ix3 b r k)) (fun k => x1 (ix3 b r k)) (fun k j => x5 (ix2 k j)) (fun k j => x6 (ix2 k j))

/-- A row of the hidden state after the attention over the memories. -/
def resR : Fin 1024 → EReal :=
  res (hidR x0 x1 x2 x5 x6 b r) (fun j => x7 (ix2 0 j)) (fun d n => x8 (ix2 d n)) (fun d n => x9 (ix2 d n))
    (fun k j => x3 (ix3 b k j)) (fun k j => x4 (ix3 b k j))

/-- The queries of a row. -/
def qR : Fin 1024 → EReal := qry (hidR x0 x1 x2 x5 x6 b r) (fun j => x7 (ix2 0 j)) (fun d n => x8 (ix2 d n))

theorem cat_lo (d : Fin 512) : val_main_v8 (F := Ideal) x0 x1 (ix3 b r ⟨d.val, by omega⟩) = x0 (ix3 b r d) := by
  unfold val_main_v8
  refine (concatenate_apply_piece (t := S32x2048x1024) 2 [⟨S32x2048x512, (val_main_v0 (F := Ideal) x0)⟩, ⟨S32x2048x512, (val_main_v1 (F := Ideal) x1)⟩] _ (ix3 b r ⟨d.val, by omega⟩) 0 (show 0 < 2 by decide) S32x2048x512 (val_main_v0 (F := Ideal) x0) rfl rfl 0 rfl
      (ix3 b r d) (fun a ha => ?_) ?_).trans rfl
  · match a with
    | ⟨0, _⟩ => rfl
    | ⟨1, _⟩ => rfl
    | ⟨2, _⟩ => exact absurd rfl ha
  · show 0 + d.val = d.val
    omega
theorem cat_hi (d : Fin 512) : val_main_v8 (F := Ideal) x0 x1 (ix3 b r ⟨512 + d.val, by omega⟩) = x1 (ix3 b r d) := by
  unfold val_main_v8
  refine (concatenate_apply_piece (t := S32x2048x1024) 2 [⟨S32x2048x512, (val_main_v0 (F := Ideal) x0)⟩, ⟨S32x2048x512, (val_main_v1 (F := Ideal) x1)⟩] _ (ix3 b r ⟨512 + d.val, by omega⟩) 1 (show 1 < 2 by decide) S32x2048x512 (val_main_v1 (F := Ideal) x1) rfl rfl 512 rfl
      (ix3 b r d) (fun a ha => ?_) ?_).trans rfl
  · match a with
    | ⟨0, _⟩ => rfl
    | ⟨1, _⟩ => rfl
    | ⟨2, _⟩ => exact absurd rfl ha
  · rfl
theorem wcat_lo (d : Fin 512) (j : Fin 1024) : val_main_v9 (F := Ideal) x5 x6 (ix2 ⟨d.val, by omega⟩ j) = x5 (ix2 d j) := by
  unfold val_main_v9
  refine (concatenate_apply_piece (t := S1024x1024) 0 [⟨S512x1024, (val_main_v4 (F := Ideal) x5)⟩, ⟨S512x1024, (val_main_v5 (F := Ideal) x6)⟩] _ (ix2 ⟨d.val, by omega⟩ j) 0 (show 0 < 2 by decide) S512x1024 (val_main_v4 (F := Ideal) x5) rfl rfl 0 rfl
      (ix2 d j) (fun a ha => ?_) ?_).trans rfl
  · match a with
    | ⟨0, _⟩ => exact absurd rfl ha
    | ⟨1, _⟩ => rfl
  · show 0 + d.val = d.val
    omega
theorem wcat_hi (d : Fin 512) (j : Fin 1024) : val_main_v9 (F := Ideal) x5 x6 (ix2 ⟨512 + d.val, by omega⟩ j) = x6 (ix2 d j) := by
  unfold val_main_v9
  refine (concatenate_apply_piece (t := S1024x1024) 0 [⟨S512x1024, (val_main_v4 (F := Ideal) x5)⟩, ⟨S512x1024, (val_main_v5 (F := Ideal) x6)⟩] _ (ix2 ⟨512 + d.val, by omega⟩ j) 1 (show 1 < 2 by decide) S512x1024 (val_main_v5 (F := Ideal) x6) rfl rfl 512 rfl
      (ix2 d j) (fun a ha => ?_) ?_).trans rfl
  · match a with
    | ⟨0, _⟩ => exact absurd rfl ha
    | ⟨1, _⟩ => rfl
  · rfl

theorem hid_apply (j : Fin 1024) : val_main_v11 (F := Ideal) x0 x1 x2 x5 x6 (ix3 b r j) = hidR x0 x1 x2 x5 x6 b r j := by
  pointwise [val_main_v11, val_main_v10]
  rw [sum_halves512]
  simp only [cat_lo, cat_hi, wcat_lo, wcat_hi]
  exact (add_assoc _ _ _).symm

theorem nrm_apply (d : Fin 1024) : val_main_v24 (F := Ideal) x0 x1 x2 x5 x6 x7 (ix3 b r d) = nrm (hidR x0 x1 x2 x5 x6 b r) (fun j => x7 (ix2 0 j)) d := by
  pointwise [val_main_v24, val_main_v23, val_main_v22, val_main_v21, val_main_v20, val_main_v19, val_main_v18, val_main_v17, val_main_v16, val_main_v15, val_main_v14, val_main_v13, val_main_v12, val_main_cst, val_main_cst_0, val_main_cst_1]
  simp only [hid_apply]
  rfl

theorem q_apply (d : Fin 256) : val_main_v26 (F := Ideal) x0 x1 x2 x5 x6 x7 x8 (ix4 b r h d) = qR x0 x1 x2 x5 x6 x7 x8 b r (lane h d) := by
  have e : ∀ n : Fin 1024, val_main_v25 (F := Ideal) x0 x1 x2 x5 x6 x7 x8 (ix3 b r n) = qR x0 x1 x2 x5 x6 x7 x8 b r n := by
    intro n
    pointwise [val_main_v25, val_main_v6]
    simp only [nrm_apply]
    rfl
  pointwise [val_main_v26]
  exact e _

theorem k_apply (d : Fin 256) : val_main_v27 (F := Ideal) x3 (ix4 b k h d) = x3 (ix3 b k (lane h d)) := by
  pointwise [val_main_v27, val_main_v2]
  rfl
theorem v_apply (d : Fin 256) : val_main_v28 (F := Ideal) x4 (ix4 b k h d) = x4 (ix3 b k (lane h d)) := by
  pointwise [val_main_v28, val_main_v3]
  rfl

/-- The scores of a row. -/
def sR : Fin 256 → EReal := sco (qR x0 x1 x2 x5 x6 x7 x8 b r) (fun k j => x3 (ix3 b k j)) h

theorem sc_apply : val_main_v31 (F := Ideal) x0 x1 x2 x3 x5 x6 x7 x8 (ix4 b h r k) = sR x0 x1 x2 x3 x5 x6 x7 x8 b h r k := by
  pointwise [val_main_v31, val_main_v30, val_main_v29, val_main_cst_2]
  simp only [q_apply, k_apply]
  rfl

/-- The maximum along the last axis, read at an index. -/
theorem maxRow (y : FVec Ideal S32x4x2048x256 .f32) (c : FVec Ideal S_ .f32) :
    Host.reduce FloatOps.maximumf y c reducesTo_S32x4x2048x256_S32x4x2048_d3 h_S_ (ix3 b h r)
      = Finset.fold max (c (Shape.Idx.first h_S_)) (fun k => y (ix4 b h r k)) Finset.univ := by
  pointwise []

theorem m_apply : val_main_v34 (F := Ideal) x0 x1 x2 x3 x5 x6 x7 x8 (ix3 b h r) = Finset.univ.sup (sR x0 x1 x2 x3 x5 x6 x7 x8 b h r) := by
  have e : val_main_v32 (F := Ideal) x0 x1 x2 x3 x5 x6 x7 x8 (ix3 b h r) = Finset.fold max (val_main_cst_3 (F := Ideal) (Shape.Idx.first h_S_))
      (fun k => val_main_v31 (F := Ideal) x0 x1 x2 x3 x5 x6 x7 x8 (ix4 b h r k)) Finset.univ := by
    unfold val_main_v32
    exact maxRow b h r _ _
  rw [val_main_v34_apply, val_main_v33_apply, val_main_cst_4_apply, Ideal.maximumf_def, e, val_main_cst_3_apply,
    Ideal.ofBits_def, ofBits_bot, fold_max_bot, max_eq_right bot_le]
  exact Finset.sup_congr rfl fun k _ => sc_apply x0 x1 x2 x3 x5 x6 x7 x8 b h r k

theorem p_apply : val_main_v38 (F := Ideal) x0 x1 x2 x3 x5 x6 x7 x8 (ix4 b h r k) = P (sR x0 x1 x2 x3 x5 x6 x7 x8 b h r) k := by
  pointwise [val_main_v38, val_main_v37, val_main_v36, val_main_v35]
  rw [m_apply, sc_apply]
  rfl

theorem w_apply : val_main_v42 (F := Ideal) x0 x1 x2 x3 x5 x6 x7 x8 (ix4 b h r k)
    = Ideal.div (P (sR x0 x1 x2 x3 x5 x6 x7 x8 b h r) k) (L (sR x0 x1 x2 x3 x5 x6 x7 x8 b h r)) := by
  pointwise [val_main_v42, val_main_v41, val_main_v40, val_main_v39, val_main_cst_5]
  simp only [p_apply]
  rfl

theorem att_apply (d : Fin 256) : val_main_v43 (F := Ideal) x0 x1 x2 x3 x4 x5 x6 x7 x8 (ix4 b h d r)
    = att (qR x0 x1 x2 x5 x6 x7 x8 b r) (fun k j => x3 (ix3 b k j)) (fun k j => x4 (ix3 b k j)) h d := by
  pointwise [val_main_v43]
  simp only [v_apply, w_apply]
  exact Finset.sum_congr rfl fun k _ => mul_comm _ _

theorem cat_apply (n : Fin 1024) : val_main_v45 (F := Ideal) x0 x1 x2 x3 x4 x5 x6 x7 x8 (ix3 b r n)
    = cat (att (qR x0 x1 x2 x5 x6 x7 x8 b r) (fun k j => x3 (ix3 b k j)) (fun k j => x4 (ix3 b k j))) n := by
  have e : val_main_v45 (F := Ideal) x0 x1 x2 x3 x4 x5 x6 x7 x8 (ix3 b r n)
      = val_main_v43 (F := Ideal) x0 x1 x2 x3 x4 x5 x6 x7 x8 (ix4 b ⟨n.val / 256, by omega⟩ ⟨n.val % 256, by omega⟩ r) := by
    pointwise [val_main_v45, val_main_v44]
  rw [e, att_apply]
  rfl

/-- The first result at an index. -/
theorem res_apply (j : Fin 1024) : val_main_v47 (F := Ideal) x0 x1 x2 x3 x4 x5 x6 x7 x8 x9 (ix3 b r j)
    = resR x0 x1 x2 x3 x4 x5 x6 x7 x8 x9 b r j := by
  pointwise [val_main_v47, val_main_v46, val_main_v7]
  simp only [cat_apply, hid_apply]
  rfl

theorem nrm3_apply (d : Fin 1024) : val_main_v60 (F := Ideal) x0 x1 x2 x3 x4 x5 x6 x7 x8 x9 x10 (ix3 b r d)
    = nrm (resR x0 x1 x2 x3 x4 x5 x6 x7 x8 x9 b r) (fun j => x10 (ix2 0 j)) d := by
  pointwise [val_main_v60, val_main_v59, val_main_v58, val_main_v57, val_main_v56, val_main_v55, val_main_v54, val_main_v53, val_main_v52, val_main_v51, val_main_v50, val_main_v49, val_main_v48, val_main_cst_6, val_main_cst_7, val_main_cst_8]
  simp only [res_apply]
  rfl

/-- The second result at an index: row `8 r + k` of 128 columns holds columns `128 k` on of the normalised row `r`. -/
theorem out_apply (R : Fin 16384) (l : Fin 128) : val_main_v61 (F := Ideal) x0 x1 x2 x3 x4 x5 x6 x7 x8 x9 x10 (ix3 b R l)
    = nrm (resR x0 x1 x2 x3 x4 x5 x6 x7 x8 x9 b ⟨R.val / 8, by omega⟩) (fun j => x10 (ix2 0 j)) ⟨128 * (R.val % 8) + l.val, by omega⟩ := by
  have e : val_main_v61 (F := Ideal) x0 x1 x2 x3 x4 x5 x6 x7 x8 x9 x10 (ix3 b R l)
      = val_main_v60 (F := Ideal) x0 x1 x2 x3 x4 x5 x6 x7 x8 x9 x10 (ix3 b ⟨R.val / 8, by omega⟩ ⟨128 * (R.val % 8) + l.val, by omega⟩) := by
    rw [val_main_v61_apply]
    refine congrArg _ (funext fun a => Fin.ext ?_)
    have h0 := b.isLt
    have h1 := R.isLt
    have h2 := l.isLt
    match a with
    | ⟨0, _⟩ => show ((b.val * 16384 + R.val) * 128 + l.val) / 2097152 = b.val; omega
    | ⟨1, _⟩ => show ((b.val * 16384 + R.val) * 128 + l.val) / 1024 % 2048 = R.val / 8; omega
    | ⟨2, _⟩ => show ((b.val * 16384 + R.val) * 128 + l.val) % 1024 = 128 * (R.val % 8) + l.val; omega
  rw [e, nrm3_apply]

end Cert.PostRefIdeal.Rows

end
-- ==== Proof.Post.Array.lean ====
/- The first two result arrays of the second half's kernel: every block, at its place, holds the plain mathematics. -/
module

public import proofs.«01_k».proof.Proof.Post.Stores
public import proofs.«01_k».proof.Proof.Post.Ref
public import Idealize.ShloMosaic.Lib.Pipeline.ValueKit.Geometry

@[expose] public section

set_option maxRecDepth 16384

noncomputable section

namespace Cert.PostIdeal.Arr

open Cert.PostIdeal Cert.PostIdeal.Gen Cert.PostIdeal.Hand Idealize.ShloMosaic Idealize.ShloMosaic.TcCoe Idealize.SL.Sem Cert.ProjAlg Cert.PostAlg
open Cert.PostRefIdeal.Rows (hidR resR)

/-- Where each window's block starts at a grid point: batch `t / 4`, row tile `t % 4`, the weights whole. -/
theorem at0 : ∀ t : Fin cfg0.N, win0_0.index t = ![t.val / 4, t.val % 4, 0] := (by decide +kernel : ∀ t : Fin grid0.N, _)
theorem at1 : ∀ t : Fin cfg0.N, win0_1.index t = ![t.val / 4, t.val % 4, 0] := (by decide +kernel : ∀ t : Fin grid0.N, _)
theorem at2 : ∀ t : Fin cfg0.N, win0_2.index t = ![t.val / 4, t.val % 4, 0] := (by decide +kernel : ∀ t : Fin grid0.N, _)
theorem at3 : ∀ t : Fin cfg0.N, win0_3.index t = ![t.val / 4, 0, 0] := (by decide +kernel : ∀ t : Fin grid0.N, _)
theorem at4 : ∀ t : Fin cfg0.N, win0_4.index t = ![t.val / 4, 0, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![0, 0] := (by decide +kernel : ∀ t : Fin grid0.N, _)
theorem at7 : ∀ t : Fin cfg0.N, win0_7.index t = ![0, 0] := (by decide +kernel : ∀ t : Fin grid0.N, _)
theorem at8 : ∀ t : Fin cfg0.N, win0_8.index t = ![0, 0] := (by decide +kernel : ∀ t : Fin grid0.N, _)
theorem at9 : ∀ t : Fin cfg0.N, win0_9.index t = ![0, 0] := (by decide +kernel : ∀ t : Fin grid0.N, _)
theorem at10 : ∀ t : Fin cfg0.N, win0_10.index t = ![0, 0] := (by decide +kernel : ∀ t : Fin grid0.N, _)
theorem at13 : ∀ t : Fin cfg0.N, win0_13.index t = ![t.val / 4, t.val % 4, 0] := (by decide +kernel : ∀ t : Fin grid0.N, _)
theorem at14 : ∀ t : Fin cfg0.N, win0_14.index t = ![t.val / 4, t.val % 4, 0] := (by decide +kernel : ∀ t : Fin grid0.N, _)

theorem hN : cfg0.N = 128 := N_0

/-- The batch of a grid point. -/
def bt (t : Fin cfg0.N) : Fin 32 := ⟨t.val / 4, by have h := lt_of_lt_of_eq t.isLt hN; omega⟩
/-- The row of the batch at row `r` of a grid point's tile. -/
def rowOf (t : Fin cfg0.N) (r : Fin 512) : Fin 2048 := ⟨t.val % 4 * 512 + r.val, by omega⟩

variable (m : (ℓ : Loc nD τ sig) → Buf (Elt Ideal) ℓ) (c : Dev nD)

abbrev A0 : Vec Ideal S32x2048x512 .bf16 := m ((c : Thread nD τ).loc main_arg0)
abbrev A1 : Vec Ideal S32x2048x512 .bf16 := m ((c : Thread nD τ).loc main_arg1)
abbrev A2 : Vec Ideal S32x2048x1024 .f32 := m ((c : Thread nD τ).loc main_arg2)
abbrev A3 : Vec Ideal S32x256x1024 .bf16 := m ((c : Thread nD τ).loc main_arg3)
abbrev A4 : Vec Ideal S32x256x1024 .bf16 := m ((c : Thread nD τ).loc main_arg4)
abbrev A5 : Vec Ideal S512x1024 .bf16 := m ((c : Thread nD τ).loc main_arg5)
abbrev A6 : Vec Ideal S512x1024 .bf16 := m ((c : Thread nD τ).loc main_arg6)
abbrev A7 : Vec Ideal S1x1024 .f32 := m ((c : Thread nD τ).loc main_arg7)
abbrev A8 : Vec Ideal S1024x1024 .bf16 := m ((c : Thread nD τ).loc main_arg8)
abbrev A9 : Vec Ideal S1024x1024 .bf16 := m ((c : Thread nD τ).loc main_arg9)
abbrev A10 : Vec Ideal S1x1024 .f32 := m ((c : Thread nD τ).loc main_arg10)

/-- The blocks of inputs, as parts of the argument arrays. -/
theorem in0 (t : Fin cfg0.N) (r : Fin 512) (k : Fin 512) : iblk m c 0 t (ix3 0 r k) = A0 m c (ix3 (bt t) (rowOf t r) k) := by
  show V m c main_arg0 (((cfg0.win 0).blk t).view.emb (ix3 0 r k)) = A0 m c (ix3 (bt t) (rowOf t r) k)
  rw [V_main_arg0]
  refine congrArg (A0 m c) ?_
  blk_ext [at0, bt, rowOf]
theorem in1 (t : Fin cfg0.N) (r : Fin 512) (k : Fin 512) : iblk m c 1 t (ix3 0 r k) = A1 m c (ix3 (bt t) (rowOf t r) k) := by
  show V m c main_arg1 (((cfg0.win 1).blk t).view.emb (ix3 0 r k)) = A1 m c (ix3 (bt t) (rowOf t r) k)
  rw [V_main_arg1]
  refine congrArg (A1 m c) ?_
  blk_ext [at1, bt, rowOf]
theorem in2 (t : Fin cfg0.N) (r : Fin 512) (k : Fin 1024) : iblk m c 2 t (ix3 0 r k) = A2 m c (ix3 (bt t) (rowOf t r) k) := by
  show V m c main_arg2 (((cfg0.win 2).blk t).view.emb (ix3 0 r k)) = A2 m c (ix3 (bt t) (rowOf t r) k)
  rw [V_main_arg2]
  refine congrArg (A2 m c) ?_
  blk_ext [at2, bt, rowOf]
theorem in3 (t : Fin cfg0.N) (k : Fin 256) (j : Fin 1024) : iblk m c 3 t (ix3 0 k j) = A3 m c (ix3 (bt t) k j) := by
  show V m c main_arg3 (((cfg0.win 3).blk t).view.emb (ix3 0 k j)) = A3 m c (ix3 (bt t) k j)
  rw [V_main_arg3]
  refine congrArg (A3 m c) ?_
  blk_ext [at3, bt]
theorem in4 (t : Fin cfg0.N) (k : Fin 256) (j : Fin 1024) : iblk m c 4 t (ix3 0 k j) = A4 m c (ix3 (bt t) k j) := by
  show V m c main_arg4 (((cfg0.win 4).blk t).view.emb (ix3 0 k j)) = A4 m c (ix3 (bt t) k j)
  rw [V_main_arg4]
  refine congrArg (A4 m c) ?_
  blk_ext [at4, bt]
theorem in5 (t : Fin cfg0.N) (k : Fin 512) (j : Fin 1024) : iblk m c 5 t (ix2 k j) = A5 m c (ix2 k j) := by
  show V m c main_arg5 (((cfg0.win 5).blk t).view.emb (ix2 k j)) = A5 m c (ix2 k j)
  rw [V_main_arg5]
  refine congrArg (A5 m c) ?_
  blk_ext [at5]
theorem in6 (t : Fin cfg0.N) (k : Fin 512) (j : Fin 1024) : iblk m c 6 t (ix2 k j) = A6 m c (ix2 k j) := by
  show V m c main_arg6 (((cfg0.win 6).blk t).view.emb (ix2 k j)) = A6 m c (ix2 k j)
  rw [V_main_arg6]
  refine congrArg (A6 m c) ?_
  blk_ext [at6]
theorem in8 (t : Fin cfg0.N) (k : Fin 1024) (j : Fin 1024) : iblk m c 8 t (ix2 k j) = A8 m c (ix2 k j) := by
  show V m c main_arg8 (((cfg0.win 8).blk t).view.emb (ix2 k j)) = A8 m c (ix2 k j)
  rw [V_main_arg8]
  refine congrArg (A8 m c) ?_
  blk_ext [at8]
theorem in9 (t : Fin cfg0.N) (k : Fin 1024) (j : Fin 1024) : iblk m c 9 t (ix2 k j) = A9 m c (ix2 k j) := by
  show V m c main_arg9 (((cfg0.win 9).blk t).view.emb (ix2 k j)) = A9 m c (ix2 k j)
  rw [V_main_arg9]
  refine congrArg (A9 m c) ?_
  blk_ext [at9]
theorem in7 (t : Fin cfg0.N) (j : Fin 1024) : iblk m c 7 t (ix2 0 j) = A7 m c (ix2 0 j) := by
  show V m c main_arg7 (((cfg0.win 7).blk t).view.emb (ix2 0 j)) = A7 m c (ix2 0 j)
  rw [V_main_arg7]
  refine congrArg (A7 m c) ?_
  blk_ext [at7]
theorem in10 (t : Fin cfg0.N) (j : Fin 1024) : iblk m c 10 t (ix2 0 j) = A10 m c (ix2 0 j) := by
  show V m c main_arg10 (((cfg0.win 10).blk t).view.emb (ix2 0 j)) = A10 m c (ix2 0 j)
  rw [V_main_arg10]
  refine congrArg (A10 m c) ?_
  blk_ext [at10]

/-- A row of a grid point's tile after the mixer's output projection. -/
theorem hid_row (t : Fin cfg0.N) (r : Fin 512) : Blk.hR (iblk m c 0 t) (iblk m c 1 t) (iblk m c 2 t) (iblk m c 5 t) (iblk m c 6 t) r
    = hidR (A0 m c) (A1 m c) (A2 m c) (A5 m c) (A6 m c) (bt t) (rowOf t r) := by
  unfold Blk.hR hidR
  simp only [in0, in1, in2, in5, in6]

/-- A row of a grid point's tile after the attention over the memories. -/
theorem H2_row (t : Fin cfg0.N) (r : Fin 512) (j : Fin 1024) : Blk.H2 (iblk m c 0 t) (iblk m c 1 t) (iblk m c 2 t) (iblk m c 3 t) (iblk m c 4 t) (iblk m c 5 t) (iblk m c 6 t) (iblk m c 7 t) (iblk m c 8 t) (iblk m c 9 t) (ix2 r j)
    = resR (A0 m c) (A1 m c) (A2 m c) (A3 m c) (A4 m c) (A5 m c) (A6 m c) (A7 m c) (A8 m c) (A9 m c) (bt t) (rowOf t r) j := by
  rw [Blk.H2_apply, hid_row]
  unfold resR
  simp only [in3, in4, in7, in8, in9]

/-- Such a row normalised. -/
theorem N2_row (t : Fin cfg0.N) (r : Fin 512) (j : Fin 1024) : Blk.N2 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j)
    = nrm (resR (A0 m c) (A1 m c) (A2 m c) (A3 m c) (A4 m c) (A5 m c) (A6 m c) (A7 m c) (A8 m c) (A9 m c) (bt t) (rowOf t r)) (fun j => A10 m c (ix2 0 j)) j := by
  rw [Blk.N2_apply, hid_row]
  unfold resR
  simp only [in3, in4, in7, in8, in9, in10]

/-- The first result, as the reference's result of the argument arrays. -/
def G13 : Vec Ideal S32x2048x1024 .f32 := Cert.PostRefIdeal.Read.val_main_v47 (F := Ideal) (A0 m c) (A1 m c) (A2 m c) (A3 m c) (A4 m c) (A5 m c) (A6 m c) (A7 m c) (A8 m c) (A9 m c)

theorem point13 (t : Fin cfg0.N) (r : Fin 512) (j : Fin 1024) : (outsAt0 m c t.val t.isLt).1 (ix3 0 r j) = G13 m c (ix3 (bt t) (rowOf t r) j) := by
  have e : (outsAt0 m c t.val t.isLt).1 (ix3 0 r j) = Blk.H2 (iblk m c 0 t) (iblk m c 1 t) (iblk m c 2 t) (iblk m c 3 t) (iblk m c 4 t) (iblk m c 5 t) (iblk m c 6 t) (iblk m c 7 t) (iblk m c 8 t) (iblk m c 9 t) (ix2 r j) := by
    by_cases h0 : t.val % 128 = 0
    · simp only [outsAt0_A m c t h0]
      exact Blk.outA_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r j
    · simp only [outsAt0_B m c t h0]
      exact Blk.outB_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2.2.2.2 r j
  rw [e, H2_row]
  unfold G13
  rw [Cert.PostRefIdeal.Rows.res_apply]

/-- The first result after the run. -/
theorem final13 : (dats m 0 c).arrAt 13 cfg0.N = G13 m c := by
  refine (dats m 0 c).arrAt_eq_of_covers 13 (G13 m c) (by decide +kernel) fun t hf y => ?_
  blk_simp
  rw [after0_13]
  have e : ((win0_13.blk t).view.emb y : S32x2048x1024.Idx) = ix3 (bt t) (rowOf t (y 1)) (y 2) := by
    blk_ext [at13, bt, rowOf]
  have e0 : y 0 = (0 : Fin 1) := Subsingleton.elim (α := Fin 1) _ _
  have ey : y = (ix3 0 (y 1) (y 2) : S1x512x1024.Idx) := (eq_ix3 y).trans (congrArg (fun a => ix3 a (y 1) (y 2)) e0)
  rw [e]
  exact (congrArg _ ey).trans (point13 m c t (y 1) (y 2))

/-- The second result, as the reference's result of the argument arrays. -/
def G14 : Vec Ideal S32x16384x128 .f32 := Cert.PostRefIdeal.Read.val_main_v61 (F := Ideal) (A0 m c) (A1 m c) (A2 m c) (A3 m c) (A4 m c) (A5 m c) (A6 m c) (A7 m c) (A8 m c) (A9 m c) (A10 m c)

/-- The row of the second result at row `R` of a grid point's block. -/
def lineOf (t : Fin cfg0.N) (R : Fin 4096) : Fin 16384 := ⟨t.val % 4 * 4096 + R.val, by omega⟩

theorem point14 (t : Fin cfg0.N) (R : Fin 4096) (l : Fin 128) : (outsAt0 m c t.val t.isLt).2.1 (ix3 0 R l) = G14 m c (ix3 (bt t) (lineOf t R) l) := by
  have e : (outsAt0 m c t.val t.isLt).2.1 (ix3 0 R l) = Blk.lay (Blk.N2 (iblk m c 0 t) (iblk m c 1 t) (iblk m c 2 t) (iblk m c 3 t) (iblk m c 4 t) (iblk m c 5 t) (iblk m c 6 t) (iblk m c 7 t) (iblk m c 8 t) (iblk m c 9 t) (iblk m c 10 t)) (ix3 0 R l) := by
    by_cases h0 : t.val % 128 = 0
    · simp only [outsAt0_A m c t h0]
      exact Blk.outA_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _
    · simp only [outsAt0_B m c t h0]
      exact Blk.outB_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2.2.2.2 _
  have e2 : Blk.lay (Blk.N2 (iblk m c 0 t) (iblk m c 1 t) (iblk m c 2 t) (iblk m c 3 t) (iblk m c 4 t) (iblk m c 5 t) (iblk m c 6 t) (iblk m c 7 t) (iblk m c 8 t) (iblk m c 9 t) (iblk m c 10 t)) (ix3 0 R l)
      = Blk.N2 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 ⟨R.val / 8, by omega⟩ ⟨128 * (R.val % 8) + l.val, by omega⟩) := rfl
  rw [e, e2, N2_row]
  unfold G14
  rw [Cert.PostRefIdeal.Rows.out_apply]
  have e3 : rowOf t ⟨R.val / 8, by omega⟩ = ⟨(lineOf t R).val / 8, by have := (lineOf t R).isLt; omega⟩ :=
    Fin.ext (show t.val % 4 * 512 + R.val / 8 = (t.val % 4 * 4096 + R.val) / 8 by omega)
  have e4 : (⟨128 * (R.val % 8) + l.val, by omega⟩ : Fin 1024) = ⟨128 * ((lineOf t R).val % 8) + l.val, by omega⟩ :=
    Fin.ext (show 128 * (R.val % 8) + l.val = 128 * ((t.val % 4 * 4096 + R.val) % 8) + l.val by omega)
  rw [e3, e4]

/-- The second result after the run. -/
theorem final14 : (dats m 0 c).arrAt 14 cfg0.N = G14 m c := by
  refine (dats m 0 c).arrAt_eq_of_covers 14 (G14 m c) (by decide +kernel) fun t hf y => ?_
  blk_simp
  rw [after0_14]
  have e : ((win0_14.blk t).view.emb y : S32x16384x128.Idx) = ix3 (bt t) (lineOf t (y 1)) (y 2) := by
    blk_ext [at14, bt, lineOf]
  have e0 : y 0 = (0 : Fin 1) := Subsingleton.elim (α := Fin 1) _ _
  have ey : y = (ix3 0 (y 1) (y 2) : S1x4096x128.Idx) := (eq_ix3 y).trans (congrArg (fun a => ix3 a (y 1) (y 2)) e0)
  rw [e]
  exact (congrArg _ ey).trans (point14 m c t (y 1) (y 2))

end Cert.PostIdeal.Arr

end
-- ==== Proof.Post.Claims.lean ====
/- The claims of the layer's second half up to the experts. -/
module

public import proofs.«01_k».proof.Defs
public import proofs.«01_k».proof.Proof.Gen.Post.Launch
public import proofs.«01_k».proof.Proof.Gen.PostRefIdeal.Run
public import proofs.«01_k».proof.Proof.Post.Array
public import Idealize.ShloMosaic.Lib.Quiescent

@[expose] public section

set_option maxRecDepth 16384

noncomputable section

namespace Cert.Proof.PostClaims

open Idealize.ShloMosaic Idealize.ShloMosaic.TcCoe Idealize.SL.Sem

set_option maxHeartbeats 4000000 in
/-- The two printed forms of the kernel have the same bodies. -/
theorem bodies : Cert.PostIdeal.defs₀ (F := Bits) = Cert.Post.defs₀ (F := Bits) := by
  unfold Cert.PostIdeal.defs₀ Cert.Post.defs₀
  refine congrArg Defs.onTc (funext fun l => funext fun a => ?_)
  match l, a with
  | ⟨0, _⟩, (t, s) => rfl

theorem definitions : Cert.PostIdeal.defs (F := Bits) = Cert.Post.defs (F := Bits) :=
  congrArg (fun d => Pipeline.defs Cert.Post.pcfgs d) bodies

/-- The kernel runs and leaves its arguments. -/
theorem frame_p : Cert.quiescent_Post := fun m ρ _ => by
  have h := Cert.PostIdeal.Hand.frame (F := Bits) m ρ
  rw [definitions] at h
  exact h
/-- The kernel at exact arithmetic runs and leaves its arguments. -/
theorem frame_pi : Cert.quiescent_PostIdeal := fun m ρ _ => Cert.PostIdeal.Hand.frame m ρ
/-- The plain mathematics runs and leaves its arguments. -/
theorem frame_ri : Cert.quiescent_PostRefIdeal := fun m ρ _ =>
  (θ_run Cert.PostRefIdeal.defs _ _).mono (fun r h => ⟨fun c => (h c).2.2, sem_eq_zero_of_no_sems (by decide) r.2⟩)
    (Cert.PostRefIdeal.Value.run (F := Ideal) m ρ)
/-- No operation was rewritten between the kernel and its exact form. -/
theorem preserves : Cert.preserves_Post_PostIdeal := trivial

/-- At exact arithmetic the kernel's first two results are the reference's. -/
theorem algebraic : Cert.algebraic_PostIdeal_PostRefIdeal := by
  intro m ρ m' ρ' hp hagree
  refine ⟨fun c => Cert.PostIdeal.Arr.G13 m c, fun c => Cert.PostIdeal.Arr.G14 m c, ?_, ?_⟩
  · exact (θ_run Cert.PostIdeal.defs _ _).mono
      (fun _ h c => ⟨((h.1 c).1 13).trans (Cert.PostIdeal.Arr.final13 m c), ((h.1 c).1 14).trans (Cert.PostIdeal.Arr.final14 m c), h.2 c⟩)
      (θ_run_and (Cert.PostIdeal.Hand.run_main (F := Ideal) m ρ) (Cert.PostIdeal.Hand.unchanged m ρ))
  · refine (θ_run Cert.PostRefIdeal.defs _ _).mono (fun _ h c => ⟨?_, ?_, (h c).2.2⟩) (Cert.PostRefIdeal.Value.run (F := Ideal) m' ρ')
    · obtain ⟨e0, e1, e2, e3, e4, e5, e6, e7, e8, e9, e10, e11, e12⟩ := hagree c
      rw [(h c).1, Cert.PostRefIdeal.Read.val_main_v47_eq]
      unfold Cert.PostIdeal.Arr.G13
      rw [e0, e1, e2, e3, e4, e5, e6, e7, e8, e9]
    · obtain ⟨e0, e1, e2, e3, e4, e5, e6, e7, e8, e9, e10, e11, e12⟩ := hagree c
      rw [(h c).2.1, Cert.PostRefIdeal.Read.val_main_v61_eq]
      unfold Cert.PostIdeal.Arr.G14
      rw [e0, e1, e2, e3, e4, e5, e6, e7, e8, e9, e10]

end Cert.Proof.PostClaims

end
-- ==== Proof.Split.Block.lean ====
/- What each store of the weights' splitting writes: a row's 256 columns times a matrix of zeros and ones. -/
module

public import proofs.«01_k».proof.Proof.Gen.SplitIdeal.Value
public import Idealize.ShloMosaic.Lib.Pipeline.ValueKit.Geometry
public import Idealize.ShloMosaic.PureOps.Ideal
public import Idealize.ShloMosaic.Lib.Pointwise
public import Idealize.ShloMosaic.Lib.WordCmp

@[expose] public section

noncomputable section

namespace Cert.SplitIdeal.Blk

open Cert.SplitIdeal Cert.SplitIdeal.Gen Idealize.ShloMosaic Idealize.SL.Sem

variable (x0 : Vec Ideal S1x256x2048 .f32) (x1 : Vec Ideal S256x256 .bf16)

theorem h0 : ∀ a : Fin 2, (![0, 0] : Fin 2 → ℕ) a = 0 := by decide
theorem h03 : ∀ a : Fin 3, (![0, 0, 0] : Fin 3 → ℕ) a = 0 := by decide

theorem ldx : View.ld x0 r0_0 = x0 := View.ld_unit_zero (funext h03) _ x0
theorem ldp : View.ld x1 r0_1 = x1 := View.ld_unit_zero (funext h0) _ x1

/-- The product of group `g` of a row's columns with column `j` of the matrix. -/
def prod (g : Fin 8) (r j : Fin 256) : EReal :=
  ∑ k : Fin 256, x0 (ix3 0 r ⟨256 * g.val + k.val, by omega⟩) * x1 (ix2 k j)

theorem group0 (r j : Fin 256) : k0_pay6 (F := Ideal) x0 x1 (ix2 r j) = prod x0 x1 0 r j := by
  pointwise [k0_pay6, k0_pay5]
  refine Finset.sum_congr rfl fun k _ => congrArg (· * x1 (ix2 k j)) ?_
  exact congrArg x0 (funext fun a => Fin.ext (by match a with | ⟨0, _⟩ => simp | ⟨1, _⟩ => simp | ⟨2, _⟩ => simp))
theorem group1 (r j : Fin 256) : k0_pay9 (F := Ideal) x0 x1 (ix2 r j) = prod x0 x1 1 r j := by
  pointwise [k0_pay9, k0_pay5]
  refine Finset.sum_congr rfl fun k _ => congrArg (· * x1 (ix2 k j)) ?_
  exact congrArg x0 (funext fun a => Fin.ext (by match a with | ⟨0, _⟩ => simp | ⟨1, _⟩ => simp | ⟨2, _⟩ => simp))
theorem group2 (r j : Fin 256) : k0_pay13 (F := Ideal) (extractStridedSlice S256x256 ![0, 512] (truncf .bf16 (shapeCast S256x2048 x0 shapeCasts_S1x256x2048_S256x2048) bitsLt_bf16_f32) slices_S256x2048_o0_512_S256x256) x1 (ix2 r j) = prod x0 x1 2 r j := by
  pointwise [k0_pay13]
  refine Finset.sum_congr rfl fun k _ => congrArg (· * x1 (ix2 k j)) ?_
  exact congrArg x0 (funext fun a => Fin.ext (by match a with | ⟨0, _⟩ => simp | ⟨1, _⟩ => simp | ⟨2, _⟩ => simp))
theorem group3 (r j : Fin 256) : k0_pay16 (F := Ideal) (truncf .bf16 (shapeCast S256x2048 x0 shapeCasts_S1x256x2048_S256x2048) bitsLt_bf16_f32) x1 (ix2 r j) = prod x0 x1 3 r j := by
  pointwise [k0_pay16]
  refine Finset.sum_congr rfl fun k _ => congrArg (· * x1 (ix2 k j)) ?_
  exact congrArg x0 (funext fun a => Fin.ext (by match a with | ⟨0, _⟩ => simp | ⟨1, _⟩ => simp | ⟨2, _⟩ => simp))
theorem group4 (r j : Fin 256) : k0_pay19 (F := Ideal) (truncf .bf16 (shapeCast S256x2048 x0 shapeCasts_S1x256x2048_S256x2048) bitsLt_bf16_f32) x1 (ix2 r j) = prod x0 x1 4 r j := by
  pointwise [k0_pay19]
  refine Finset.sum_congr rfl fun k _ => congrArg (· * x1 (ix2 k j)) ?_
  exact congrArg x0 (funext fun a => Fin.ext (by match a with | ⟨0, _⟩ => simp | ⟨1, _⟩ => simp | ⟨2, _⟩ => simp))
theorem group5 (r j : Fin 256) : k0_pay23 (F := Ideal) (truncf .bf16 (shapeCast S256x2048 x0 shapeCasts_S1x256x2048_S256x2048) bitsLt_bf16_f32) x1 (ix2 r j) = prod x0 x1 5 r j := by
  pointwise [k0_pay23]
  refine Finset.sum_congr rfl fun k _ => congrArg (· * x1 (ix2 k j)) ?_
  exact congrArg x0 (funext fun a => Fin.ext (by match a with | ⟨0, _⟩ => simp | ⟨1, _⟩ => simp | ⟨2, _⟩ => simp))
theorem group6 (r j : Fin 256) : k0_pay26 (F := Ideal) (truncf .bf16 (shapeCast S256x2048 x0 shapeCasts_S1x256x2048_S256x2048) bitsLt_bf16_f32) x1 (ix2 r j) = prod x0 x1 6 r j := by
  pointwise [k0_pay26]
  refine Finset.sum_congr rfl fun k _ => congrArg (· * x1 (ix2 k j)) ?_
  exact congrArg x0 (funext fun a => Fin.ext (by match a with | ⟨0, _⟩ => simp | ⟨1, _⟩ => simp | ⟨2, _⟩ => simp))
theorem group7 (r j : Fin 256) : k0_pay2 (F := Ideal) (truncf .bf16 (shapeCast S256x2048 x0 shapeCasts_S1x256x2048_S256x2048) bitsLt_bf16_f32) x1 (ix2 r j) = prod x0 x1 7 r j := by
  pointwise [k0_pay2]
  refine Finset.sum_congr rfl fun k _ => congrArg (· * x1 (ix2 k j)) ?_
  exact congrArg x0 (funext fun a => Fin.ext (by match a with | ⟨0, _⟩ => simp | ⟨1, _⟩ => simp | ⟨2, _⟩ => simp))

theorem fam2 (g : Fin 8) (r j : Fin 256) : Value.Fam2_0 (F := Ideal) x0 x1 g (ix2 r j) = prod x0 x1 g r j := by
  match g with
  | ⟨0, _⟩ => exact group0 x0 x1 r j
  | ⟨1, _⟩ => exact group1 x0 x1 r j
  | ⟨2, _⟩ => exact group2 x0 x1 r j
  | ⟨3, _⟩ => exact group3 x0 x1 r j
  | ⟨4, _⟩ => exact group4 x0 x1 r j
  | ⟨5, _⟩ => exact group5 x0 x1 r j
  | ⟨6, _⟩ => exact group6 x0 x1 r j
  | ⟨7, _⟩ => exact group7 x0 x1 r j

theorem fam3 (g : Fin 8) (r j : Fin 256) : Value.Fam3_0 (F := Ideal) x0 x1 g (ix2 r j) = prod x0 x1 g r j := by
  match g with
  | ⟨0, _⟩ => exact group0 x0 x1 r j
  | ⟨1, _⟩ => exact group1 x0 x1 r j
  | ⟨2, _⟩ => exact group2 x0 x1 r j
  | ⟨3, _⟩ => exact group3 x0 x1 r j
  | ⟨4, _⟩ => exact group4 x0 x1 r j
  | ⟨5, _⟩ => exact group5 x0 x1 r j
  | ⟨6, _⟩ => exact group6 x0 x1 r j
  | ⟨7, _⟩ => exact group7 x0 x1 r j

/-- Output 2 at row `r` and column `n`. -/
theorem out2_apply (r : Fin 256) (n : Fin 1024) : out0_2 (F := Ideal) x0 x1 (ix3 0 r n)
    = prod x0 x1 ⟨n.val / 128, by omega⟩ r ⟨n.val % 128, by omega⟩ := by
  unfold out0_2 k0_pay29 k0_pay30
  rw [ldx, ldp, Value.canon2_eq]
  show Value.Fam2_0 (F := Ideal) x0 x1 ⟨n.val / 128, _⟩ _ = _
  refine Eq.trans (congrArg _ ?_) (fam2 x0 x1 _ r ⟨n.val % 128, by omega⟩)
  exact funext fun a => Fin.ext (by match a with | ⟨0, _⟩ => rfl | ⟨1, _⟩ => rfl)

/-- Output 3 at row `r` and column `n`. -/
theorem out3_apply (r : Fin 256) (n : Fin 1024) : out0_3 (F := Ideal) x0 x1 (ix3 0 r n)
    = prod x0 x1 ⟨n.val / 128, by omega⟩ r ⟨n.val % 128 + 128, by omega⟩ := by
  unfold out0_3 k0_pay29 k0_pay30
  rw [ldx, ldp, Value.canon3_eq]
  show Value.Fam3_0 (F := Ideal) x0 x1 ⟨n.val / 128, _⟩ _ = _
  refine Eq.trans (congrArg _ ?_) (fam3 x0 x1 _ r ⟨n.val % 128 + 128, by omega⟩)
  exact funext fun a => Fin.ext (by match a with | ⟨0, _⟩ => rfl | ⟨1, _⟩ => rfl)

end Cert.SplitIdeal.Blk

end
-- ==== Proof.Split.Perm.lean ====
/- The matrix of zeros and ones that the splitting multiplies by. -/
module

public import proofs.«01_k».proof.Proof.Gen.SplitIdeal.Value
public import Idealize.ShloMosaic.Lib.Pipeline.ValueKit.Geometry
public import Idealize.ShloMosaic.PureOps.Ideal
public import Idealize.ShloMosaic.Lib.Pointwise
public import Idealize.ShloMosaic.Lib.WordCmp

@[expose] public section

noncomputable section

namespace Cert.SplitIdeal.Blk

open Cert.SplitIdeal Cert.SplitIdeal.Gen Idealize.ShloMosaic Idealize.ShloMosaic.TcCoe Idealize.SL.Sem

/-- The columns' numbers. -/
def cols : IVec S1x256 32 := broadcastInDim S1x256 ![1] bcast_S256_S1x256_1 (iotaInDim S256 32 0)
/-- The rows' numbers. -/
def rows : IVec S256x1 32 := broadcastInDim S256x1 ![0] bcast_S256_S256x1_0 (iotaInDim S256 32 0)
/-- A number in every column. -/
def every (n : BitVec 32) : IVec S1x256 32 := broadcastInDim S1x256 ![] bcast_S_S1x256 (constantI S_ 32 n)
/-- Twice the column. -/
def even : IVec S1x256 32 := muli (every 2#32) cols
/-- Twice the column less 128, and one. -/
def odd : IVec S1x256 32 := addi (muli (every 2#32) (subi cols (every 128#32))) (every 1#32)
/-- Where the row is twice the column, in the left half, and where it is the odd number, in the right. -/
def bits : IVec S256x256 1 :=
  select (broadcastInDim S256x256 ![0, 1] bcast_S1x256_S256x256_0_1 (cmpi .slt cols (every 128#32)))
    (cmpi .eq (broadcastInDim S256x256 ![0, 1] bcast_S256x1_S256x256_0_1 rows) (broadcastInDim S256x256 ![0, 1] bcast_S1x256_S256x256_0_1 even))
    (cmpi .eq (broadcastInDim S256x256 ![0, 1] bcast_S256x1_S256x256_0_1 rows) (broadcastInDim S256x256 ![0, 1] bcast_S1x256_S256x256_0_1 odd))
/-- The matrix. -/
def perm : FVec Ideal S256x256 .bf16 := uitofp .bf16 bits

theorem V_perm (m : (ℓ : Loc nD τ sig) → Buf (Elt Ideal) ℓ) (c : Dev nD) : V m c main_v21 = perm := by
  show StableHlo.after (List.flatten [hostOps0, hostOps0_1, hostOps0_2]) (fun b => m (c, b)) main_v21 = perm
  simp only [List.flatten_cons, List.flatten_nil, List.append_nil, List.cons_append, List.nil_append]
  unfold perm bits even odd every cols rows
  after_results
  rfl

/-- The row that column `j` picks: the even ones in the left half, the odd ones in the right. -/
def src (j : Fin 256) : Fin 256 := if h : j.val < 128 then ⟨2 * j.val, by omega⟩ else ⟨2 * (j.val - 128) + 1, by omega⟩

theorem evenword : ∀ j : Fin 256, j.val < 128 → (2#32 * BitVec.ofNat 32 j.val) = BitVec.ofNat 32 (src j).val := by decide +kernel
theorem oddword : ∀ j : Fin 256, ¬ j.val < 128 → (2#32 * (BitVec.ofNat 32 j.val - 128#32) + 1#32) = BitVec.ofNat 32 (src j).val := by decide +kernel

theorem leftword : ∀ j : Fin 256, IntOp.cmpi .slt (BitVec.ofNat 32 j.val) 128#32 = BitVec.ofBool (decide (j.val < 128)) := by decide +kernel

/-- Two places below 256 have one word exactly when they are one. -/
theorem word_eq (k s : Fin 256) : (BitVec.ofNat 32 k.val = BitVec.ofNat 32 s.val) ↔ k = s := by
  constructor
  · intro h
    have h' := congrArg BitVec.toNat h
    simp only [BitVec.toNat_ofNat] at h'
    exact Fin.ext (by omega)
  · rintro rfl
    rfl

/-- The number of a bit. -/
theorem bit_num (p : Prop) [Decidable p] :
    FloatOps.uitofp (F := Ideal) .bf16 (BitVec.ofBool (decide p)) = (if p then 1 else 0 : EReal) := by
  show (((BitVec.ofBool (decide p)).toNat : ℝ) : EReal) = _
  by_cases h : p <;> simp [h]

theorem perm_apply (k j : Fin 256) : perm (ix2 k j) = (if k = src j then 1 else 0 : EReal) := by
  pointwise [perm, bits, even, odd, every, cols, rows]
  rw [leftword]
  refine Eq.trans (congrArg (FloatOps.uitofp (F := Ideal) .bf16) ?_) (bit_num (k = src j))
  by_cases h : j.val < 128
  · have e : IntOp.cmpi CmpIPredicate.eq (BitVec.ofNat 32 k.val) (IntOp.muli (2#32) (BitVec.ofNat 32 j.val)) = BitVec.ofBool (decide (k = src j)) := by
      show IntOp.cmpi CmpIPredicate.eq (BitVec.ofNat 32 k.val) (2#32 * BitVec.ofNat 32 j.val) = _
      rw [evenword j h, WordCmp.cmpi_eq_eq]
      simp only [word_eq]
    rw [e]
    simp only [h, decide_true]
    rfl
  · have e : IntOp.cmpi CmpIPredicate.eq (BitVec.ofNat 32 k.val)
        (IntOp.addi (IntOp.muli (2#32) (IntOp.subi (BitVec.ofNat 32 j.val) 128#32)) 1#32) = BitVec.ofBool (decide (k = src j)) := by
      show IntOp.cmpi CmpIPredicate.eq (BitVec.ofNat 32 k.val) (2#32 * (BitVec.ofNat 32 j.val - 128#32) + 1#32) = _
      rw [oddword j h, WordCmp.cmpi_eq_eq]
      simp only [word_eq]
    rw [e]
    simp only [h, decide_false]
    rfl

end Cert.SplitIdeal.Blk

end
-- ==== Proof.Split.Array.lean ====
/- The result arrays of the splitting: every block, at its place, holds the even columns and the odd columns. -/
module

public import proofs.«01_k».proof.Proof.Split.Block
public import proofs.«01_k».proof.Proof.Split.Perm
public import proofs.«01_k».proof.Proof.Gen.SplitRefIdeal.Read
public import Idealize.ShloMosaic.Lib.Pipeline.ValueKit.Geometry

@[expose] public section

noncomputable section

namespace Cert.SplitIdeal.Arr

open Cert.SplitIdeal Cert.SplitIdeal.Gen Idealize.ShloMosaic Idealize.ShloMosaic.TcCoe Idealize.SL.Sem

/-- A product with the matrix of zeros and ones picks one column. -/
theorem prod_perm (x0 : Vec Ideal S1x256x2048 .f32) (g : Fin 8) (r j : Fin 256) :
    Blk.prod x0 Blk.perm g r j = x0 (ix3 0 r ⟨256 * g.val + (Blk.src j).val, by omega⟩) := by
  unfold Blk.prod
  simp only [Blk.perm_apply, mul_ite, mul_one, mul_zero, Finset.sum_ite_eq', Finset.mem_univ, if_true]

theorem src_even (j : Fin 256) (h : j.val < 128) : (Blk.src j).val = 2 * j.val := by
  unfold Blk.src
  rw [dif_pos h]
theorem src_odd (j : Fin 256) (h : ¬ j.val < 128) : (Blk.src j).val = 2 * (j.val - 128) + 1 := by
  unfold Blk.src
  rw [dif_neg h]

/-- The expert of a grid point, and its part of the rows. -/
def ex (t : Fin cfg0.N) : Fin 32 := ⟨t.val / 4, by have h := lt_of_lt_of_eq t.isLt (by decide : grid0.N = 128); omega⟩
def ro (t : Fin cfg0.N) (r : Fin 256) : Fin 1024 := ⟨t.val % 4 * 256 + r.val, by omega⟩

/-- Where each window's block starts at a grid point. -/
theorem at0 : ∀ t : Fin cfg0.N, win0_0.index t = ![t.val / 4, t.val % 4, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![t.val / 4, t.val % 4, 0] := (by decide +kernel : ∀ t : Fin grid0.N, _)
theorem at3 : ∀ t : Fin cfg0.N, win0_3.index t = ![t.val / 4, t.val % 4, 0] := (by decide +kernel : ∀ t : Fin grid0.N, _)

variable (m : (ℓ : Loc nD τ sig) → Buf (Elt Ideal) ℓ) (c : Dev nD)

abbrev A0 : Vec Ideal S32x1024x2048 .f32 := m ((c : Thread nD τ).loc main_arg0)

/-- The blocks of the inputs. -/
theorem rows0 (t : Fin cfg0.N) (r : Fin 256) (k : Fin 2048) : iblk m c 0 t (ix3 0 r k) = A0 m c (ix3 (ex t) (ro t r) k) := by
  show V m c main_arg0 (((cfg0.win 0).blk t).view.emb (ix3 0 r k)) = _
  rw [V_main_arg0]
  refine congrArg (A0 m c) ?_
  blk_ext [at0, ex, ro]
theorem mat1 (t : Fin cfg0.N) : iblk m c 1 t = Blk.perm := by
  funext y
  show V m c main_v21 (((cfg0.win 1).blk t).view.emb y) = _
  rw [Blk.V_perm]
  refine congrArg Blk.perm ?_
  blk_ext [at1]

/-- The plain splitting at a place. -/
theorem v1_apply (x : Vec Ideal S32x1024x2048 .f32) (b : Fin 32) (r n : Fin 1024) :
    Cert.SplitRefIdeal.Read.val_main_v1 (F := Ideal) x (ix3 b r n) = x (ix3 b r ⟨2 * n.val, by omega⟩) := by
  unfold Cert.SplitRefIdeal.Read.val_main_v1 Cert.SplitRefIdeal.Read.val_main_v0
  pointwise
theorem v3_apply (x : Vec Ideal S32x1024x2048 .f32) (b : Fin 32) (r n : Fin 1024) :
    Cert.SplitRefIdeal.Read.val_main_v3 (F := Ideal) x (ix3 b r n) = x (ix3 b r ⟨2 * n.val + 1, by omega⟩) := by
  unfold Cert.SplitRefIdeal.Read.val_main_v3 Cert.SplitRefIdeal.Read.val_main_v2
  pointwise
  refine congrArg x (funext fun a => Fin.ext ?_)
  match a with
  | ⟨0, _⟩ => simp
  | ⟨1, _⟩ => simp
  | ⟨2, _⟩ => simp; omega

/-- Result 1, as the reference's result of the argument array. -/
def G2 : Vec Ideal S32x1024x1024 .bf16 := Cert.SplitRefIdeal.Read.val_main_v1 (F := Ideal) (A0 m c)

theorem point2 (t : Fin cfg0.N) (r : Fin 256) (n : Fin 1024) :
    out0_2 (F := Ideal) (iblk m c 0 t) (iblk m c 1 t) (ix3 0 r n) = G2 m c (ix3 (ex t) (ro t r) n) := by
  rw [Blk.out2_apply, mat1, prod_perm, rows0]
  unfold G2
  rw [v1_apply]
  refine congrArg (fun k => A0 m c (ix3 (ex t) (ro t r) k)) (Fin.ext ?_)
  show 256 * (n.val / 128) + (Blk.src ⟨n.val % 128, _⟩).val = 2 * n.val
  rw [src_even _ (by show n.val % 128 < 128; omega)]
  show 256 * (n.val / 128) + 2 * (n.val % 128) = 2 * n.val
  omega

/-- Result 1 after the run. -/
theorem final2 : (dats m 0 c).arrAt 2 cfg0.N = G2 m c := by
  refine (dats m 0 c).arrAt_eq_of_covers 2 (G2 m c) (by decide +kernel) fun t hf y => ?_
  blk_simp
  rw [after0_2]
  have e : ((win0_2.blk t).view.emb y : S32x1024x1024.Idx) = ix3 (ex t) (ro t (y 1)) (y 2) := by
    blk_ext [at2, ex, ro]
  have e0 : y 0 = (0 : Fin 1) := Subsingleton.elim (α := Fin 1) _ _
  have ey : y = (ix3 0 (y 1) (y 2) : S1x256x1024.Idx) := (eq_ix3 y).trans (congrArg (fun a => ix3 a (y 1) (y 2)) e0)
  rw [e]
  exact (congrArg _ ey).trans (point2 m c t (y 1) (y 2))

/-- Result 2, as the reference's result of the argument array. -/
def G3 : Vec Ideal S32x1024x1024 .bf16 := Cert.SplitRefIdeal.Read.val_main_v3 (F := Ideal) (A0 m c)

theorem point3 (t : Fin cfg0.N) (r : Fin 256) (n : Fin 1024) :
    out0_3 (F := Ideal) (iblk m c 0 t) (iblk m c 1 t) (ix3 0 r n) = G3 m c (ix3 (ex t) (ro t r) n) := by
  rw [Blk.out3_apply, mat1, prod_perm, rows0]
  unfold G3
  rw [v3_apply]
  refine congrArg (fun k => A0 m c (ix3 (ex t) (ro t r) k)) (Fin.ext ?_)
  show 256 * (n.val / 128) + (Blk.src ⟨n.val % 128 + 128, _⟩).val = 2 * n.val + 1
  rw [src_odd _ (by show ¬ n.val % 128 + 128 < 128; omega)]
  show 256 * (n.val / 128) + (2 * (n.val % 128 + 128 - 128) + 1) = 2 * n.val + 1
  omega

/-- Result 2 after the run. -/
theorem final3 : (dats m 0 c).arrAt 3 cfg0.N = G3 m c := by
  refine (dats m 0 c).arrAt_eq_of_covers 3 (G3 m c) (by decide +kernel) fun t hf y => ?_
  blk_simp
  rw [after0_3]
  have e : ((win0_3.blk t).view.emb y : S32x1024x1024.Idx) = ix3 (ex t) (ro t (y 1)) (y 2) := by
    blk_ext [at3, ex, ro]
  have e0 : y 0 = (0 : Fin 1) := Subsingleton.elim (α := Fin 1) _ _
  have ey : y = (ix3 0 (y 1) (y 2) : S1x256x1024.Idx) := (eq_ix3 y).trans (congrArg (fun a => ix3 a (y 1) (y 2)) e0)
  rw [e]
  exact (congrArg _ ey).trans (point3 m c t (y 1) (y 2))

end Cert.SplitIdeal.Arr

end
-- ==== Proof.Split.Claims.lean ====
/- The claims of the splitting of the experts' first weights. -/
module

public import proofs.«01_k».proof.Defs
public import proofs.«01_k».proof.Proof.Gen.Split.Frame
public import proofs.«01_k».proof.Proof.Gen.SplitRefIdeal.Run
public import proofs.«01_k».proof.Proof.Split.Array
public import Idealize.ShloMosaic.Lib.Quiescent

@[expose] public section

noncomputable section

namespace Cert.Proof.SplitClaims

open Idealize.ShloMosaic Idealize.ShloMosaic.TcCoe Idealize.SL.Sem

/-- The splitting runs and leaves its argument. -/
theorem frame_p : Cert.quiescent_Split := fun m ρ _ => Cert.Split.Gen.frame m ρ
/-- The splitting at exact arithmetic runs and leaves its argument. -/
theorem frame_pi : Cert.quiescent_SplitIdeal := fun m ρ _ => Cert.SplitIdeal.Gen.frame m ρ
/-- The plain splitting runs and leaves its argument. -/
theorem frame_ri : Cert.quiescent_SplitRefIdeal := fun m ρ _ =>
  (θ_run Cert.SplitRefIdeal.defs _ _).mono (fun r h => ⟨fun c => (h c).2.2, sem_eq_zero_of_no_sems (by decide) r.2⟩)
    (Cert.SplitRefIdeal.Value.run (F := Ideal) m ρ)
/-- No operation was rewritten between the kernel and its exact form. -/
theorem preserves : Cert.preserves_Split_SplitIdeal := trivial

/-- At exact arithmetic the kernel's results are the reference's. -/
theorem algebraic : Cert.algebraic_SplitIdeal_SplitRefIdeal := by
  intro m ρ m' ρ' hp hagree
  refine ⟨fun c => Cert.SplitIdeal.Arr.G2 m c, fun c => Cert.SplitIdeal.Arr.G3 m c, ?_, ?_⟩
  · exact (θ_run Cert.SplitIdeal.defs _ _).mono
      (fun _ h c => ⟨(h c).1.trans (Cert.SplitIdeal.Arr.final2 m c), (h c).2.1.trans (Cert.SplitIdeal.Arr.final3 m c), (h c).2.2⟩)
      (Cert.SplitIdeal.Value.run_blocks (F := Ideal) m ρ)
  · refine (θ_run Cert.SplitRefIdeal.defs _ _).mono (fun _ h c => ⟨?_, ?_, (h c).2.2⟩) (Cert.SplitRefIdeal.Value.run (F := Ideal) m' ρ')
    · have e0 := hagree c
      rw [(h c).1, Cert.SplitRefIdeal.Read.val_main_v1_eq]
      unfold Cert.SplitIdeal.Arr.G2
      rw [e0]
    · have e0 := hagree c
      rw [(h c).2.1, Cert.SplitRefIdeal.Read.val_main_v3_eq]
      unfold Cert.SplitIdeal.Arr.G3
      rw [e0]

end Cert.Proof.SplitClaims

end
-- ==== Proof.lean ====
/- The proof of the certificate's claim: the programs run and leave their arguments; at exact arithmetic each call's
   result arrays are those of its reference. -/
module

public import proofs.«01_k».proof.Defs
public import proofs.«01_k».proof.Proof.Gen.Attn.Frame
public import proofs.«01_k».proof.Proof.Gen.AttnIdeal.Frame
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.InProj.Frame
public import proofs.«01_k».proof.Proof.Gen.InProjIdeal.Frame
public import proofs.«01_k».proof.Proof.Gen.InProjIdeal.Value
public import proofs.«01_k».proof.Proof.Gen.InProjRefIdeal.Run
public import proofs.«01_k».proof.Proof.Gen.InProjRefIdeal.Read
public import proofs.«01_k».proof.Proof.Gen.KvProj.Frame
public import proofs.«01_k».proof.Proof.Gen.KvProjIdeal.Frame
public import proofs.«01_k».proof.Proof.Gen.KvProjIdeal.Value
public import proofs.«01_k».proof.Proof.Gen.KvProjRefIdeal.Run
public import proofs.«01_k».proof.Proof.Gen.KvProjRefIdeal.Read
public import proofs.«01_k».proof.Proof.Gen.ExpertsRefIdeal.Run
public import proofs.«01_k».proof.Proof.Gen.ExpertsRefIdeal.Read
public import proofs.«01_k».proof.Proof.Gen.Post.Launch
public import proofs.«01_k».proof.Proof.Gen.PostIdeal.Launch
public import proofs.«01_k».proof.Proof.Gen.PostIdeal.Skeleton
public import proofs.«01_k».proof.Proof.Gen.PostIdeal.Points
public import proofs.«01_k».proof.Proof.Gen.PostRefIdeal.Run
public import proofs.«01_k».proof.Proof.Gen.PostRefIdeal.Read
public import proofs.«01_k».proof.Proof.Gen.Split.Frame
public import proofs.«01_k».proof.Proof.Gen.SplitIdeal.Frame
public import proofs.«01_k».proof.Proof.Gen.SplitIdeal.Value
public import proofs.«01_k».proof.Proof.Gen.SplitRefIdeal.Run
public import proofs.«01_k».proof.Proof.Gen.SplitRefIdeal.Read
public import proofs.«01_k».proof.Proof.Attn.Claims
public import proofs.«01_k».proof.Proof.Experts.Claims
public import proofs.«01_k».proof.Proof.InProj.Claims
public import proofs.«01_k».proof.Proof.KvProj.Claims
public import proofs.«01_k».proof.Proof.Post.Claims
public import proofs.«01_k».proof.Proof.Split.Claims

@[expose] public section

noncomputable section

namespace Cert.Proof

open Idealize.ShloMosaic Idealize.SL.Sem

/-- Everything the certificate claims. -/
theorem claim : Cert.Claim :=
  ⟨Cert.Attn.Gen.facts, Cert.AttnIdeal.Gen.facts, Cert.AttnRefIdeal.Gen.facts, Cert.Experts.Gen.facts, Cert.ExpertsIdeal.Gen.facts, Cert.ExpertsRefIdeal.Gen.facts, Cert.InProj.Gen.facts, Cert.InProjIdeal.Gen.facts, Cert.InProjRefIdeal.Gen.facts, Cert.KvProj.Gen.facts, Cert.KvProjIdeal.Gen.facts, Cert.KvProjRefIdeal.Gen.facts, Cert.Post.Gen.facts, Cert.PostIdeal.Gen.facts, Cert.PostRefIdeal.Gen.facts, Cert.Split.Gen.facts, Cert.SplitIdeal.Gen.facts, Cert.SplitRefIdeal.Gen.facts, Cert.Finite.facts, Cert.Pre_experts_in_range.Gen.facts,
    AttnClaims.frame_p, AttnClaims.frame_pi, AttnClaims.frame_pi_pre, AttnClaims.frame_ri, AttnClaims.frame_ri_pre,
    ExpertsClaims.frame_p, ExpertsClaims.frame_pi, ExpertsClaims.frame_ri,
    InProjClaims.frame_p, InProjClaims.frame_pi, InProjClaims.frame_ri, KvProjClaims.frame_p, KvProjClaims.frame_pi, KvProjClaims.frame_ri,
    PostClaims.frame_p, PostClaims.frame_pi, PostClaims.frame_ri,
    SplitClaims.frame_p, SplitClaims.frame_pi, SplitClaims.frame_ri,
    AttnClaims.preserves, AttnClaims.algebraic, ExpertsClaims.preserves, ExpertsClaims.algebraic, InProjClaims.preserves, InProjClaims.algebraic,
    KvProjClaims.preserves, KvProjClaims.algebraic, PostClaims.preserves, PostClaims.algebraic,
    SplitClaims.preserves, SplitClaims.algebraic⟩

end Cert.Proof

end
